-- ==== Defs.lean ====
def Pre_Kernel [hPre_layout_ok : Cert.Pre_layout_ok.Facts] (m : (ℓ : Loc Cert.Kernel.nD Cert.Kernel.τ Cert.Kernel.sig) → Buf (Elt Bits) ℓ) : Prop :=
  ∀ c : Dev Cert.Kernel.nD,
    (Cert.Pre_layout_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).1 = (fun _ => 1#1)
    ∧ (Cert.Pre_layout_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2.1 = (fun _ => 1#1)
    ∧ (Cert.Pre_layout_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2.2 = (fun _ => 1#1)

def Pre_KernelIdeal [hPre_layout_ok : Cert.Pre_layout_ok.Facts] (m : (ℓ : Loc Cert.KernelIdeal.nD Cert.KernelIdeal.τ Cert.KernelIdeal.sig) → Buf (Elt Ideal) ℓ) : Prop :=
  ∀ c : Dev Cert.KernelIdeal.nD,
    (Cert.Pre_layout_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_layout_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_layout_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2 = (fun _ => 1#1)

def quiescent_Kernel [hKernel : Cert.Kernel.Facts] [hPre_layout_ok : Cert.Pre_layout_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_layout_ok : Cert.Pre_layout_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_on_token_rows_pre_routed [hKernelIdeal : Cert.KernelIdeal.Facts] [hReferenceIdeal : Cert.ReferenceIdeal.Facts] [hPre_routed : Cert.Pre_routed.Facts] [hOn_token_rows : Cert.On_token_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![266240, 128]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.KernelIdeal.nD Cert.KernelIdeal.τ).loc Cert.KernelIdeal.main_v33) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![266240, 128]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.ReferenceIdeal.nD Cert.ReferenceIdeal.τ).loc Cert.ReferenceIdeal.main_v94) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_layout_ok : Cert.Pre_layout_ok.Facts) (hPre_routed : Cert.Pre_routed.Facts) (hOn_token_rows : Cert.On_token_rows.Facts),
    quiescent_Kernel (hKernel := hKernel) (hPre_layout_ok := hPre_layout_ok)
    ∧ quiescent_KernelIdeal (hKernelIdeal := hKernelIdeal) (hPre_layout_ok := hPre_layout_ok)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_on_token_rows_pre_routed (hKernelIdeal := hKernelIdeal) (hReferenceIdeal := hReferenceIdeal) (hPre_routed := hPre_routed) (hOn_token_rows := hOn_token_rows)
-- ==== On_token_rows.lean ====
abbrev S256 : Shape := ⟨1, ![256]⟩
abbrev S1 : Shape := ⟨1, ![1]⟩
abbrev S39424 : Shape := ⟨1, ![39424]⟩
abbrev S311296x128 : Shape := ⟨2, ![311296, 128]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S266240x128 : Shape := ⟨2, ![266240, 128]⟩
abbrev S_ : Shape := ⟨0, ![]⟩

class Facts : Prop where
  bcast_S_S266240x128 : S_.BroadcastsInDim S266240x128 (![] : Fin 0 → Fin S266240x128.rank)

variable [Facts]

def fn {F : FTy → Type} [FloatOps F] (main_arg0 : IVec S256 32) (main_arg1 : IVec S1 32) (main_arg2 : IVec S39424 32) (main_arg3 : FVec F S311296x128 .f32) (main_arg4 : FVec F S1024 .f32) (main_arg5 : FVec F S1024x4 .f32) (main_arg6 : FVec F S4 .f32) (main_arg7 : FVec F S1024x16 .f32) (main_arg8 : FVec F S16 .f32) (main_arg9 : FVec F S16x1024x256 .f32) (main_arg10 : FVec F S16x1024x256 .f32) (main_arg11 : FVec F S16x256x1024 .f32) : IVec S266240x128 1 :=
  let main_v0 : IVec S266240x128 32 := iotaInDim S266240x128 32 0
  let main_c : IVec S_ 32 := constantI S_ 32 262144#32
  let main_v1 : IVec S266240x128 32 := broadcastInDim S266240x128 ![] bcast_S_S266240x128 main_c
  let main_v2 : IVec S266240x128 1 := cmpi .slt main_v0 main_v1
  main_v2
-- ==== Pre_layout_ok.lean ====
abbrev S256 : Shape := ⟨1, ![256]⟩
abbrev S1 : Shape := ⟨1, ![1]⟩
abbrev S39424 : Shape := ⟨1, ![39424]⟩
abbrev S311296x128 : Shape := ⟨2, ![311296, 128]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S38912 : Shape := ⟨1, ![38912]⟩
abbrev S32768 : Shape := ⟨1, ![32768]⟩
abbrev S39424x1 : Shape := ⟨2, ![39424, 1]⟩
abbrev S38912x1 : Shape := ⟨2, ![38912, 1]⟩

class Facts : Prop where
  shapeCasts_S1_S_ : S1.ShapeCasts S_
  slices_S39424_S38912_0 : S39424.Slices ![0] S38912
  bcast_S_S32768 : S_.BroadcastsInDim S32768 (![] : Fin 0 → Fin S32768.rank)
  bcast_S39424_S39424x1_0 : S39424.BroadcastsInDim S39424x1 (![0] : Fin 1 → Fin S39424x1.rank)
  bcast_S38912_S38912x1_0 : S38912.BroadcastsInDim S38912x1 (![0] : Fin 1 → Fin S38912x1.rank)
  bcast_S_S38912 : S_.BroadcastsInDim S38912 (![] : Fin 0 → Fin S38912.rank)
  bcast_S_S256 : S_.BroadcastsInDim S256 (![] : Fin 0 → Fin S256.rank)
  bcast_S_S1 : S_.BroadcastsInDim S1 (![] : Fin 0 → Fin S1.rank)
  scatter_S32768_S39424x1_S39424_n_0_0_1_wf : ScatterDims.WF S32768 S39424x1 S39424 [] [0] [0] 1
  gather_S32768_S38912x1_S38912_n_0_n_n_0_1_1_wf : GatherDims.WF S32768 S38912x1 S38912 [] [0] [] [0] [] 1 ![1]

variable [Facts]

def scatter_S32768_S39424x1_S39424_n_0_0_1 : ScatterDims S32768 S39424x1 S39424 where
  updateWindowDims := []
  insertedWindowDims := [0]
  scatterDimsToOperandDims := [0]
  indexVectorDim := 1
  wf := scatter_S32768_S39424x1_S39424_n_0_0_1_wf
def gather_S32768_S38912x1_S38912_n_0_n_n_0_1_1 : GatherDims S32768 S38912x1 S38912 where
  offsetDims := []
  collapsedSliceDims := [0]
  operandBatchingDims := []
  startIndicesBatchingDims := []
  startIndexMap := [0]
  indexVectorDim := 1
  sliceSizes := ![1]
  wf := gather_S32768_S38912x1_S38912_n_0_n_n_0_1_1_wf
def fn_where {F : FTy → Type} [FloatOps F] (arg0 : IVec S38912 1) (arg1 : IVec S38912 1) (arg2 : IVec S38912 1) : IVec S38912 1 :=
  let v0 : IVec S38912 1 := select arg0 arg1 arg2
  v0

def fn_part2 {F : FTy → Type} [FloatOps F] (main_v0 : IVec S_ 32) (main_v22 : IVec S38912 1) (main_v23 : IVec S256 32) (main_v28 : IVec S256 1) (main_v33 : IVec S1 1) (main_v36 : IVec S38912 1) : IVec S1 1 × IVec S38912 1 × IVec S256 1 :=
  let main_v37 : IVec S38912 1 := ori main_v22 main_v36
  let main_v38 : IVec S256 32 := broadcastInDim S256 ![] bcast_S_S256 main_v0
  let main_v39 : IVec S256 1 := cmpi .sge main_v23 main_v38
  let main_v40 : IVec S256 1 := ori main_v28 main_v39
  (main_v33, main_v37, main_v40)

def fn_part1 {F : FTy → Type} [FloatOps F] (main_arg0 : IVec S256 32) (main_arg1 : IVec S1 32) (main_v0 : IVec S_ 32) (main_v1 : IVec S38912 32) (main_v2 : IVec S38912 32) (main_v11 : IVec S38912 1) (main_v13 : IVec S38912 1) (main_v15 : IVec S38912 1) (main_v17 : IVec S38912 32) (main_c_4 : IVec S_ 32) : IVec S1 1 × IVec S38912 1 × IVec S256 1 :=
  let main_v18 : IVec S38912 32 := broadcastInDim S38912 ![] bcast_S_S38912 main_c_4
  let main_v19 : IVec S38912 32 := addi main_v18 main_v17
  let main_v20 : IVec S38912 1 := cmpi .eq main_v2 main_v19
  let main_v21 : IVec S38912 1 := fn_where (F := F) main_v15 main_v11 main_v20
  let main_v22 : IVec S38912 1 := andi main_v13 main_v21
  let main_v23 : IVec S256 32 := iotaInDim S256 32 0
  let main_c_5 : IVec S_ 32 := constantI S_ 32 0#32
  let main_v24 : IVec S256 32 := broadcastInDim S256 ![] bcast_S_S256 main_c_5
  let main_v25 : IVec S256 1 := cmpi .sge main_arg0 main_v24
  let main_c_6 : IVec S_ 32 := constantI S_ 32 24#32
  let main_v26 : IVec S256 32 := broadcastInDim S256 ![] bcast_S_S256 main_c_6
  let main_v27 : IVec S256 1 := cmpi .slt main_arg0 main_v26
  let main_v28 : IVec S256 1 := andi main_v25 main_v27
  let main_c_7 : IVec S_ 32 := constantI S_ 32 1#32
  let main_v29 : IVec S1 32 := broadcastInDim S1 ![] bcast_S_S1 main_c_7
  let main_v30 : IVec S1 1 := cmpi .sge main_arg1 main_v29
  let main_c_8 : IVec S_ 32 := constantI S_ 32 152#32
  let main_v31 : IVec S1 32 := broadcastInDim S1 ![] bcast_S_S1 main_c_8
  let main_v32 : IVec S1 1 := cmpi .sle main_arg1 main_v31
  let main_v33 : IVec S1 1 := andi main_v30 main_v32
  let main_c_9 : IVec S_ 32 := constantI S_ 32 256#32
  let main_v34 : IVec S_ 32 := muli main_v0 main_c_9
  let main_v35 : IVec S38912 32 := broadcastInDim S38912 ![] bcast_S_S38912 main_v34
  let main_v36 : IVec S38912 1 := cmpi .sge main_v1 main_v35
  fn_part2 (F := F) main_v0 main_v22 main_v23 main_v28 main_v33 main_v36

def fn {F : FTy → Type} [FloatOps F] (main_arg0 : IVec S256 32) (main_arg1 : IVec S1 32) (main_arg2 : IVec S39424 32) (main_arg3 : FVec F S311296x128 .f32) (main_arg4 : FVec F S1024 .f32) (main_arg5 : FVec F S1024x4 .f32) (main_arg6 : FVec F S4 .f32) (main_arg7 : FVec F S1024x16 .f32) (main_arg8 : FVec F S16 .f32) (main_arg9 : FVec F S16x1024x256 .f32) (main_arg10 : FVec F S16x1024x256 .f32) (main_arg11 : FVec F S16x256x1024 .f32) : IVec S1 1 × IVec S38912 1 × IVec S256 1 :=
  let main_v0 : IVec S_ 32 := shapeCast S_ main_arg1 shapeCasts_S1_S_
  let main_v1 : IVec S38912 32 := iotaInDim S38912 32 0
  let main_v2 : IVec S38912 32 := (extractStridedSlice S38912 ![0] · slices_S39424_S38912_0) main_arg2
  let main_c : IVec S_ 32 := constantI S_ 32 0#32
  let main_v3 : IVec S32768 32 := broadcastInDim S32768 ![] bcast_S_S32768 main_c
  let main_v4 : IVec S39424 32 := iotaInDim S39424 32 0
  let main_v5 : IVec S39424x1 32 := broadcastInDim S39424x1 ![0] bcast_S39424_S39424x1_0 main_arg2
  let main_v6 : IVec S32768 32 := (fun x i u => Host.scatter scatter_S32768_S39424x1_S39424_n_0_0_1 (fun _ b => b) x i u) main_v3 main_v5 main_v4
  let main_c_0 : IVec S_ 32 := constantI S_ 32 0#32
  let main_v7 : IVec S32768 32 := broadcastInDim S32768 ![] bcast_S_S32768 main_c_0
  let main_v8 : IVec S32768 32 := maxsi main_v6 main_v7
  let main_v9 : IVec S38912x1 32 := broadcastInDim S38912x1 ![0] bcast_S38912_S38912x1_0 main_v2
  let main_v10 : IVec S38912 32 := (fun x i => Host.gather gather_S32768_S38912x1_S38912_n_0_n_n_0_1_1 x i) main_v8 main_v9
  let main_v11 : IVec S38912 1 := cmpi .eq main_v10 main_v1
  let main_c_1 : IVec S_ 32 := constantI S_ 32 0#32
  let main_v12 : IVec S38912 32 := broadcastInDim S38912 ![] bcast_S_S38912 main_c_1
  let main_v13 : IVec S38912 1 := cmpi .sge main_v2 main_v12
  let main_c_2 : IVec S_ 32 := constantI S_ 32 32768#32
  let main_v14 : IVec S38912 32 := broadcastInDim S38912 ![] bcast_S_S38912 main_c_2
  let main_v15 : IVec S38912 1 := cmpi .slt main_v2 main_v14
  let main_c_3 : IVec S_ 32 := constantI S_ 32 511#32
  let main_v16 : IVec S38912 32 := broadcastInDim S38912 ![] bcast_S_S38912 main_c_3
  let main_v17 : IVec S38912 32 := andi main_v1 main_v16
  let main_c_4 : IVec S_ 32 := constantI S_ 32 32768#32
  fn_part1 (F := F) main_arg0 main_arg1 main_v0 main_v1 main_v2 main_v11 main_v13 main_v15 main_v17 main_c_4
-- ==== Pre_routed.lean ====
abbrev S256 : Shape := ⟨1, ![256]⟩
abbrev S1 : Shape := ⟨1, ![1]⟩
abbrev S39424 : Shape := ⟨1, ![39424]⟩
abbrev S311296x128 : Shape := ⟨2, ![311296, 128]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S32768 : Shape := ⟨1, ![32768]⟩
abbrev S39424x1 : Shape := ⟨2, ![39424, 1]⟩
abbrev S38912 : Shape := ⟨1, ![38912]⟩
abbrev S38912x1 : Shape := ⟨2, ![38912, 1]⟩
abbrev S32768x1 : Shape := ⟨2, ![32768, 1]⟩

class Facts : Prop where
  bcast_S_S32768 : S_.BroadcastsInDim S32768 (![] : Fin 0 → Fin S32768.rank)
  bcast_S39424_S39424x1_0 : S39424.BroadcastsInDim S39424x1 (![0] : Fin 1 → Fin S39424x1.rank)
  shapeCasts_S1_S_ : S1.ShapeCasts S_
  slices_S39424_S38912_0 : S39424.Slices ![0] S38912
  bcast_S38912_S38912x1_0 : S38912.BroadcastsInDim S38912x1 (![0] : Fin 1 → Fin S38912x1.rank)
  bcast_S_S38912 : S_.BroadcastsInDim S38912 (![] : Fin 0 → Fin S38912.rank)
  bcast_S_S256 : S_.BroadcastsInDim S256 (![] : Fin 0 → Fin S256.rank)
  bcast_S_S1 : S_.BroadcastsInDim S1 (![] : Fin 0 → Fin S1.rank)
  bcast_S32768_S32768x1_0 : S32768.BroadcastsInDim S32768x1 (![0] : Fin 1 → Fin S32768x1.rank)
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x16 : S_.BroadcastsInDim S1024x16 (![] : Fin 0 → Fin S1024x16.rank)
  bcast_S_S16 : S_.BroadcastsInDim S16 (![] : Fin 0 → Fin S16.rank)
  scatter_S32768_S39424x1_S39424_n_0_0_1_wf : ScatterDims.WF S32768 S39424x1 S39424 [] [0] [0] 1
  gather_S32768_S38912x1_S38912_n_0_n_n_0_1_1_wf : GatherDims.WF S32768 S38912x1 S38912 [] [0] [] [0] [] 1 ![1]
  gather_S39424_S32768x1_S32768_n_0_n_n_0_1_1_wf : GatherDims.WF S39424 S32768x1 S32768 [] [0] [] [0] [] 1 ![1]

variable [Facts]

def scatter_S32768_S39424x1_S39424_n_0_0_1 : ScatterDims S32768 S39424x1 S39424 where
  updateWindowDims := []
  insertedWindowDims := [0]
  scatterDimsToOperandDims := [0]
  indexVectorDim := 1
  wf := scatter_S32768_S39424x1_S39424_n_0_0_1_wf
def gather_S32768_S38912x1_S38912_n_0_n_n_0_1_1 : GatherDims S32768 S38912x1 S38912 where
  offsetDims := []
  collapsedSliceDims := [0]
  operandBatchingDims := []
  startIndicesBatchingDims := []
  startIndexMap := [0]
  indexVectorDim := 1
  sliceSizes := ![1]
  wf := gather_S32768_S38912x1_S38912_n_0_n_n_0_1_1_wf
def gather_S39424_S32768x1_S32768_n_0_n_n_0_1_1 : GatherDims S39424 S32768x1 S32768 where
  offsetDims := []
  collapsedSliceDims := [0]
  operandBatchingDims := []
  startIndicesBatchingDims := []
  startIndexMap := [0]
  indexVectorDim := 1
  sliceSizes := ![1]
  wf := gather_S39424_S32768x1_S32768_n_0_n_n_0_1_1_wf
def fn_where {F : FTy → Type} [FloatOps F] (arg0 : IVec S38912 1) (arg1 : IVec S38912 1) (arg2 : IVec S38912 1) : IVec S38912 1 :=
  let v0 : IVec S38912 1 := select arg0 arg1 arg2
  v0

def fn_part3 {F : FTy → Type} [FloatOps F] (main_arg5 : FVec F S1024x4 .f32) (main_arg6 : FVec F S4 .f32) (main_arg7 : FVec F S1024x16 .f32) (main_arg8 : FVec F S16 .f32) (main_v37 : IVec S1 1) (main_v41 : IVec S38912 1) (main_v44 : IVec S256 1) (main_v51 : IVec S32768 1) (main_v55 : IVec S32768 1) (main_v56 : FVec F S1024 .f32) (main_cst : FVec F S_ .f32) : IVec S1 1 × IVec S38912 1 × IVec S256 1 × IVec S32768 1 × IVec S32768 1 × IVec S1024 1 × IVec S1024x4 1 × IVec S4 1 × IVec S1024x16 1 × IVec S16 1 :=
  let main_v57 : FVec F S1024 .f32 := broadcastInDim S1024 ![] bcast_S_S1024 main_cst
  let main_v58 : IVec S1024 1 := cmpf .olt main_v56 main_v57
  let main_v59 : FVec F S1024x4 .f32 := Host.absf main_arg5
  let main_cst_13 : FVec F S_ .f32 := constant S_ .f32 0x7F800000#32
  let main_v60 : FVec F S1024x4 .f32 := broadcastInDim S1024x4 ![] bcast_S_S1024x4 main_cst_13
  let main_v61 : IVec S1024x4 1 := cmpf .olt main_v59 main_v60
  let main_v62 : FVec F S4 .f32 := Host.absf main_arg6
  let main_cst_14 : FVec F S_ .f32 := constant S_ .f32 0x7F800000#32
  let main_v63 : FVec F S4 .f32 := broadcastInDim S4 ![] bcast_S_S4 main_cst_14
  let main_v64 : IVec S4 1 := cmpf .olt main_v62 main_v63
  let main_v65 : FVec F S1024x16 .f32 := Host.absf main_arg7
  let main_cst_15 : FVec F S_ .f32 := constant S_ .f32 0x7F800000#32
  let main_v66 : FVec F S1024x16 .f32 := broadcastInDim S1024x16 ![] bcast_S_S1024x16 main_cst_15
  let main_v67 : IVec S1024x16 1 := cmpf .olt main_v65 main_v66
  let main_v68 : FVec F S16 .f32 := Host.absf main_arg8
  let main_cst_16 : FVec F S_ .f32 := constant S_ .f32 0x7F800000#32
  let main_v69 : FVec F S16 .f32 := broadcastInDim S16 ![] bcast_S_S16 main_cst_16
  let main_v70 : IVec S16 1 := cmpf .olt main_v68 main_v69
  (main_v37, main_v41, main_v44, main_v51, main_v55, main_v58, main_v61, main_v64, main_v67, main_v70)

def fn_part2 {F : FTy → Type} [FloatOps F] (main_arg1 : IVec S1 32) (main_arg2 : IVec S39424 32) (main_arg4 : FVec F S1024 .f32) (main_arg5 : FVec F S1024x4 .f32) (main_arg6 : FVec F S4 .f32) (main_arg7 : FVec F S1024x16 .f32) (main_arg8 : FVec F S16 .f32) (main_v3 : IVec S32768 32) (main_v4 : IVec S_ 32) (main_v5 : IVec S38912 32) (main_v26 : IVec S38912 1) (main_v27 : IVec S256 32) (main_v32 : IVec S256 1) (main_v34 : IVec S1 1) (main_v36 : IVec S1 1) : IVec S1 1 × IVec S38912 1 × IVec S256 1 × IVec S32768 1 × IVec S32768 1 × IVec S1024 1 × IVec S1024x4 1 × IVec S4 1 × IVec S1024x16 1 × IVec S16 1 :=
  let main_v37 : IVec S1 1 := andi main_v34 main_v36
  let main_c_10 : IVec S_ 32 := constantI S_ 32 256#32
  let main_v38 : IVec S_ 32 := muli main_v4 main_c_10
  let main_v39 : IVec S38912 32 := broadcastInDim S38912 ![] bcast_S_S38912 main_v38
  let main_v40 : IVec S38912 1 := cmpi .sge main_v5 main_v39
  let main_v41 : IVec S38912 1 := ori main_v26 main_v40
  let main_v42 : IVec S256 32 := broadcastInDim S256 ![] bcast_S_S256 main_v4
  let main_v43 : IVec S256 1 := cmpi .sge main_v27 main_v42
  let main_v44 : IVec S256 1 := ori main_v32 main_v43
  let main_c_11 : IVec S_ 32 := constantI S_ 32 0#32
  let main_v45 : IVec S32768 32 := broadcastInDim S32768 ![] bcast_S_S32768 main_c_11
  let main_v46 : IVec S32768 1 := cmpi .sge main_v3 main_v45
  let main_v47 : IVec S_ 32 := shapeCast S_ main_arg1 shapeCasts_S1_S_
  let main_c_12 : IVec S_ 32 := constantI S_ 32 256#32
  let main_v48 : IVec S_ 32 := muli main_v47 main_c_12
  let main_v49 : IVec S32768 32 := broadcastInDim S32768 ![] bcast_S_S32768 main_v48
  let main_v50 : IVec S32768 1 := cmpi .slt main_v3 main_v49
  let main_v51 : IVec S32768 1 := andi main_v46 main_v50
  let main_v52 : IVec S32768x1 32 := broadcastInDim S32768x1 ![0] bcast_S32768_S32768x1_0 main_v3
  let main_v53 : IVec S32768 32 := (fun x i => Host.gather gather_S39424_S32768x1_S32768_n_0_n_n_0_1_1 x i) main_arg2 main_v52
  let main_v54 : IVec S32768 32 := iotaInDim S32768 32 0
  let main_v55 : IVec S32768 1 := cmpi .eq main_v53 main_v54
  let main_v56 : FVec F S1024 .f32 := Host.absf main_arg4
  let main_cst : FVec F S_ .f32 := constant S_ .f32 0x7F800000#32
  fn_part3 (F := F) main_arg5 main_arg6 main_arg7 main_arg8 main_v37 main_v41 main_v44 main_v51 main_v55 main_v56 main_cst

def fn_part1 {F : FTy → Type} [FloatOps F] (main_arg0 : IVec S256 32) (main_arg1 : IVec S1 32) (main_arg2 : IVec S39424 32) (main_arg4 : FVec F S1024 .f32) (main_arg5 : FVec F S1024x4 .f32) (main_arg6 : FVec F S4 .f32) (main_arg7 : FVec F S1024x16 .f32) (main_arg8 : FVec F S16 .f32) (main_v3 : IVec S32768 32) (main_v4 : IVec S_ 32) (main_v5 : IVec S38912 32) (main_v6 : IVec S38912 32) (main_v15 : IVec S38912 1) (main_v17 : IVec S38912 1) (main_v18 : IVec S38912 32) : IVec S1 1 × IVec S38912 1 × IVec S256 1 × IVec S32768 1 × IVec S32768 1 × IVec S1024 1 × IVec S1024x4 1 × IVec S4 1 × IVec S1024x16 1 × IVec S16 1 :=
  let main_v19 : IVec S38912 1 := cmpi .slt main_v6 main_v18
  let main_c_4 : IVec S_ 32 := constantI S_ 32 511#32
  let main_v20 : IVec S38912 32 := broadcastInDim S38912 ![] bcast_S_S38912 main_c_4
  let main_v21 : IVec S38912 32 := andi main_v5 main_v20
  let main_c_5 : IVec S_ 32 := constantI S_ 32 32768#32
  let main_v22 : IVec S38912 32 := broadcastInDim S38912 ![] bcast_S_S38912 main_c_5
  let main_v23 : IVec S38912 32 := addi main_v22 main_v21
  let main_v24 : IVec S38912 1 := cmpi .eq main_v6 main_v23
  let main_v25 : IVec S38912 1 := fn_where (F := F) main_v19 main_v15 main_v24
  let main_v26 : IVec S38912 1 := andi main_v17 main_v25
  let main_v27 : IVec S256 32 := iotaInDim S256 32 0
  let main_c_6 : IVec S_ 32 := constantI S_ 32 0#32
  let main_v28 : IVec S256 32 := broadcastInDim S256 ![] bcast_S_S256 main_c_6
  let main_v29 : IVec S256 1 := cmpi .sge main_arg0 main_v28
  let main_c_7 : IVec S_ 32 := constantI S_ 32 24#32
  let main_v30 : IVec S256 32 := broadcastInDim S256 ![] bcast_S_S256 main_c_7
  let main_v31 : IVec S256 1 := cmpi .slt main_arg0 main_v30
  let main_v32 : IVec S256 1 := andi main_v29 main_v31
  let main_c_8 : IVec S_ 32 := constantI S_ 32 1#32
  let main_v33 : IVec S1 32 := broadcastInDim S1 ![] bcast_S_S1 main_c_8
  let main_v34 : IVec S1 1 := cmpi .sge main_arg1 main_v33
  let main_c_9 : IVec S_ 32 := constantI S_ 32 152#32
  let main_v35 : IVec S1 32 := broadcastInDim S1 ![] bcast_S_S1 main_c_9
  let main_v36 : IVec S1 1 := cmpi .sle main_arg1 main_v35
  fn_part2 (F := F) main_arg1 main_arg2 main_arg4 main_arg5 main_arg6 main_arg7 main_arg8 main_v3 main_v4 main_v5 main_v26 main_v27 main_v32 main_v34 main_v36

def fn {F : FTy → Type} [FloatOps F] (main_arg0 : IVec S256 32) (main_arg1 : IVec S1 32) (main_arg2 : IVec S39424 32) (main_arg3 : FVec F S311296x128 .f32) (main_arg4 : FVec F S1024 .f32) (main_arg5 : FVec F S1024x4 .f32) (main_arg6 : FVec F S4 .f32) (main_arg7 : FVec F S1024x16 .f32) (main_arg8 : FVec F S16 .f32) (main_arg9 : FVec F S16x1024x256 .f32) (main_arg10 : FVec F S16x1024x256 .f32) (main_arg11 : FVec F S16x256x1024 .f32) : IVec S1 1 × IVec S38912 1 × IVec S256 1 × IVec S32768 1 × IVec S32768 1 × IVec S1024 1 × IVec S1024x4 1 × IVec S4 1 × IVec S1024x16 1 × IVec S16 1 :=
  let main_c : IVec S_ 32 := constantI S_ 32 0#32
  let main_v0 : IVec S32768 32 := broadcastInDim S32768 ![] bcast_S_S32768 main_c
  let main_v1 : IVec S39424 32 := iotaInDim S39424 32 0
  let main_v2 : IVec S39424x1 32 := broadcastInDim S39424x1 ![0] bcast_S39424_S39424x1_0 main_arg2
  let main_v3 : IVec S32768 32 := (fun x i u => Host.scatter scatter_S32768_S39424x1_S39424_n_0_0_1 (fun _ b => b) x i u) main_v0 main_v2 main_v1
  let main_v4 : IVec S_ 32 := shapeCast S_ main_arg1 shapeCasts_S1_S_
  let main_v5 : IVec S38912 32 := iotaInDim S38912 32 0
  let main_v6 : IVec S38912 32 := (extractStridedSlice S38912 ![0] · slices_S39424_S38912_0) main_arg2
  let main_c_0 : IVec S_ 32 := constantI S_ 32 0#32
  let main_v7 : IVec S32768 32 := broadcastInDim S32768 ![] bcast_S_S32768 main_c_0
  let main_v8 : IVec S39424 32 := iotaInDim S39424 32 0
  let main_v9 : IVec S39424x1 32 := broadcastInDim S39424x1 ![0] bcast_S39424_S39424x1_0 main_arg2
  let main_v10 : IVec S32768 32 := (fun x i u => Host.scatter scatter_S32768_S39424x1_S39424_n_0_0_1 (fun _ b => b) x i u) main_v7 main_v9 main_v8
  let main_c_1 : IVec S_ 32 := constantI S_ 32 0#32
  let main_v11 : IVec S32768 32 := broadcastInDim S32768 ![] bcast_S_S32768 main_c_1
  let main_v12 : IVec S32768 32 := maxsi main_v10 main_v11
  let main_v13 : IVec S38912x1 32 := broadcastInDim S38912x1 ![0] bcast_S38912_S38912x1_0 main_v6
  let main_v14 : IVec S38912 32 := (fun x i => Host.gather gather_S32768_S38912x1_S38912_n_0_n_n_0_1_1 x i) main_v12 main_v13
  let main_v15 : IVec S38912 1 := cmpi .eq main_v14 main_v5
  let main_c_2 : IVec S_ 32 := constantI S_ 32 0#32
  let main_v16 : IVec S38912 32 := broadcastInDim S38912 ![] bcast_S_S38912 main_c_2
  let main_v17 : IVec S38912 1 := cmpi .sge main_v6 main_v16
  let main_c_3 : IVec S_ 32 := constantI S_ 32 32768#32
  let main_v18 : IVec S38912 32 := broadcastInDim S38912 ![] bcast_S_S38912 main_c_3
  fn_part1 (F := F) main_arg0 main_arg1 main_arg2 main_arg4 main_arg5 main_arg6 main_arg7 main_arg8 main_v3 main_v4 main_v5 main_v6 main_v15 main_v17 main_v18
-- ==== Kernel.lean ====
abbrev S256 : Shape := ⟨1, ![256]⟩
abbrev S1 : Shape := ⟨1, ![1]⟩
abbrev S39424 : Shape := ⟨1, ![39424]⟩
abbrev S311296x128 : Shape := ⟨2, ![311296, 128]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S1024x128 : Shape := ⟨2, ![1024, 128]⟩
abbrev S1x128 : Shape := ⟨2, ![1, 128]⟩
abbrev S2 : Shape := ⟨1, ![2]⟩
abbrev S1x1024 : Shape := ⟨2, ![1, 1024]⟩
abbrev S38912 : Shape := ⟨1, ![38912]⟩
abbrev S152x1x256 : Shape := ⟨3, ![152, 1, 256]⟩
abbrev S256x1 : Shape := ⟨2, ![256, 1]⟩
abbrev S266240x128 : Shape := ⟨2, ![266240, 128]⟩
abbrev S1x1x256 : Shape := ⟨3, ![1, 1, 256]⟩
abbrev S2048x128 : Shape := ⟨2, ![2048, 128]⟩
abbrev S1x1024x256 : Shape := ⟨3, ![1, 1024, 256]⟩
abbrev S1x256x1024 : Shape := ⟨3, ![1, 256, 1024]⟩
abbrev S2x3072x128 : Shape := ⟨3, ![2, 3072, 128]⟩
abbrev S1x2048x128 : Shape := ⟨3, ![1, 2048, 128]⟩
abbrev S1x1024x128 : Shape := ⟨3, ![1, 1024, 128]⟩
abbrev S256x128 : Shape := ⟨2, ![256, 128]⟩
abbrev S256x1024 : Shape := ⟨2, ![256, 1024]⟩
abbrev S1024x256 : Shape := ⟨2, ![1024, 256]⟩
abbrev S256x256 : Shape := ⟨2, ![256, 256]⟩
abbrev S1x3072x128 : Shape := ⟨3, ![1, 3072, 128]⟩
abbrev S3072x128 : Shape := ⟨2, ![3072, 128]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 55
  | .vmem => 18
  | .smem => 4
  | _ => 0

abbrev bufTy : (tb : Table) → Fin (tcTables nBuf tb) → BufTy
  | .hbm, ⟨0, _⟩ => ⟨S256, .i32⟩
  | .hbm, ⟨1, _⟩ => ⟨S39424, .i32⟩
  | .hbm, ⟨2, _⟩ => ⟨S311296x128, .f32⟩
  | .hbm, ⟨3, _⟩ => ⟨S1024, .f32⟩
  | .hbm, ⟨4, _⟩ => ⟨S1024x4, .f32⟩
  | .hbm, ⟨5, _⟩ => ⟨S4, .f32⟩
  | .hbm, ⟨6, _⟩ => ⟨S1024x16, .f32⟩
  | .hbm, ⟨7, _⟩ => ⟨S16, .f32⟩
  | .hbm, ⟨8, _⟩ => ⟨S16x1024x256, .f32⟩
  | .hbm, ⟨9, _⟩ => ⟨S16x1024x256, .f32⟩
  | .hbm, ⟨10, _⟩ => ⟨S16x256x1024, .f32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1x1024, .f32⟩
  | .hbm, ⟨35, _⟩ => ⟨S16x1024x256, .bf16⟩
  | .hbm, ⟨36, _⟩ => ⟨S16x1024x256, .bf16⟩
  | .hbm, ⟨37, _⟩ => ⟨S16x256x1024, .bf16⟩
  | .hbm, ⟨38, _⟩ => ⟨S38912, .i32⟩
  | .hbm, ⟨39, _⟩ => ⟨S152x1x256, .i32⟩
  | .hbm, ⟨40, _⟩ => ⟨S256, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S266240x128, .f32⟩
  | .local _ .vmem, ⟨0, _⟩ => ⟨S2048x128, .f32⟩
  | .local _ .vmem, ⟨1, _⟩ => ⟨S2048x128, .f32⟩
  | .local _ .vmem, ⟨2, _⟩ => ⟨S1x1024, .f32⟩
  | .local _ .vmem, ⟨3, _⟩ => ⟨S1024x128, .bf16⟩
  | .local _ .vmem, ⟨4, _⟩ => ⟨S1x128, .f32⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x1024, .bf16⟩
  | .local _ .vmem, ⟨16, _⟩ => ⟨S1x256x1024, .bf16⟩
  | .local _ .vmem, ⟨17, _⟩ => ⟨S2x3072x128, .f32⟩
  | .local _ .smem, ⟨0, _⟩ => ⟨S256, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_c_5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v33 : Ref sig .tc := ⟨.hbm, 54, rfl⟩
abbrev main_v32 : Ref sig .tc := ⟨.smem, 0, rfl⟩
abbrev main_arg1 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![152], ![false]⟩

abbrev pre0 : Pipeline.Prefetch sig := ⟨2, ![main_v32.idx, main_arg1.idx], fun | 0 => main_v32.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg0 : BitVec 32 := BitVec.ofNat 32 (i 0).val
  let c2_i32_3 : BitVec 32 := 2#32
  let v12 : BitVec 1 := Scalar.cmpi .sge arg0 c2_i32_3
  let v13 : BitVec 32 := Scalar.extui v12
  let c0_i32_4 : BitVec 32 := 0#32
  let v14 : BitVec 1 := Scalar.cmpi .ne v13 c0_i32_4
  v14

def k0_off2 (i : grid0.Coords) : Fin 1 → Nat :=
  let arg0 : BitVec 32 := BitVec.ofNat 32 (i 0).val
  let c2_i32 : BitVec 32 := 2#32
  let v1 : BitVec 32 := Scalar.remsi arg0 c2_i32
  ![v1.toNat]
def k0_off3 (i : grid0.Coords) : Fin 3 → Nat :=
  let arg0 : BitVec 32 := BitVec.ofNat 32 (i 0).val
  let c2_i32 : BitVec 32 := 2#32
  let v1 : BitVec 32 := Scalar.remsi arg0 c2_i32
  let c0_i32_119 : BitVec 32 := 0#32
  let c0_i32_120 : BitVec 32 := 0#32
  ![v1.toNat, 0, 0]
def k0_off4 (i : grid0.Coords) : Fin 1 → Nat :=
  let arg0 : BitVec 32 := BitVec.ofNat 32 (i 0).val
  let v46 : Index := Scalar.indexCast arg0
  ![v46.toNat]
def k0_off5 (i : grid0.Coords) : Fin 3 → Nat :=
  let arg0 : BitVec 32 := BitVec.ofNat 32 (i 0).val
  let c2_i32 : BitVec 32 := 2#32
  let v1 : BitVec 32 := Scalar.remsi arg0 c2_i32
  let c0_i32_82 : BitVec 32 := 0#32
  let c0_i32_83 : BitVec 32 := 0#32
  ![v1.toNat, 0, 0]
@[reducible] def k0_t1_loop : Scf.Loop 32 :=
  let c0_i32_114 : BitVec 32 := 0#32
  let c256_i32 : BitVec 32 := 256#32
  let v215 : BitVec 32 := Scalar.addi c0_i32_114 c256_i32
  let c1_i32_115 : BitVec 32 := 1#32
  ⟨c0_i32_114, v215, c1_i32_115⟩
def k0_off6 (k0_t1 : Fin k0_t1_loop.trips) : Fin 3 → Nat :=
  let c0_117 : Index := 0#32
  let c0_118 : Index := 0#32
  let c0_i32_114 : BitVec 32 := 0#32
  let c1_i32_115 : BitVec 32 := 1#32
  let arg17 : BitVec 32 := Scf.iv c0_i32_114 c1_i32_115 k0_t1
  let v216 : Index := Scalar.indexCast arg17
  ![0, 0, v216.toNat]
def k0_off7 (i : grid0.Coords) : Fin 1 → Nat :=
  let arg0 : BitVec 32 := BitVec.ofNat 32 (i 0).val
  let c2_i32 : BitVec 32 := 2#32
  let v1 : BitVec 32 := Scalar.remsi arg0 c2_i32
  ![v1.toNat]
def k0_off8 (v217 : BitVec 32) : Fin 2 → Nat :=
  let c8_i32_119 : BitVec 32 := 8#32
  let v219 : BitVec 32 := Scalar.muli v217 c8_i32_119
  let c0_i32_120 : BitVec 32 := 0#32
  ![v219.toNat, 0]
def k0_cond2 (i : grid0.Coords) (v0 : BitVec 32) : BitVec 1 :=
  let arg0 : BitVec 32 := BitVec.ofNat 32 (i 0).val
  let v5 : BitVec 1 := Scalar.cmpi .slt arg0 v0
  let v6 : BitVec 32 := Scalar.extui v5
  let c0_i32_1 : BitVec 32 := 0#32
  let v7 : BitVec 1 := Scalar.cmpi .ne v6 c0_i32_1
  v7

def k0_chk1 (i : grid0.Coords) (v0 : BitVec 32) (v217 : BitVec 32) : Prop :=
  (∀ (k0_h2 : k0_cond2 i v0 = 1#1), ∀ a, (k0_off8 v217) a + S8x128.size a ≤ S266240x128.size a)
theorem k0_off8_inb : ∀ (i : grid0.Coords) (v0 : BitVec 32) (v217 : BitVec 32) (k0_hw1 : k0_chk1 i v0 v217), ∀ (k0_h2 : k0_cond2 i v0 = 1#1), ∀ a, (k0_off8 v217) a + S8x128.size a ≤ S266240x128.size a := fun i v0 v217 k0_hw1 k0_h2 => k0_hw1 k0_h2

def k0_off9 (i : grid0.Coords) (k0_t1 : Fin k0_t1_loop.trips) : Fin 3 → Nat :=
  let arg0 : BitVec 32 := BitVec.ofNat 32 (i 0).val
  let c2_i32 : BitVec 32 := 2#32
  let v1 : BitVec 32 := Scalar.remsi arg0 c2_i32
  let c0_i32_114 : BitVec 32 := 0#32
  let c1_i32_115 : BitVec 32 := 1#32
  let arg17 : BitVec 32 := Scf.iv c0_i32_114 c1_i32_115 k0_t1
  let c12_i32 : BitVec 32 := 12#32
  let v218 : BitVec 32 := Scalar.muli arg17 c12_i32
  let c0_i32_121 : BitVec 32 := 0#32
  ![v1.toNat, v218.toNat, 0]
def k0_off10 (i : grid0.Coords) : Fin 1 → Nat :=
  let arg0 : BitVec 32 := BitVec.ofNat 32 (i 0).val
  let c2_i32 : BitVec 32 := 2#32
  let v1 : BitVec 32 := Scalar.remsi arg0 c2_i32
  ![v1.toNat]
def k0_off11 (i : grid0.Coords) : Fin 3 → Nat :=
  let arg0 : BitVec 32 := BitVec.ofNat 32 (i 0).val
  let c2_i32 : BitVec 32 := 2#32
  let v1 : BitVec 32 := Scalar.remsi arg0 c2_i32
  let c0_i32_5 : BitVec 32 := 0#32
  let c0_i32_6 : BitVec 32 := 0#32
  ![v1.toNat, 0, 0]
def k0_cond5 (i : grid0.Coords) : BitVec 1 :=
  let arg0 : BitVec 32 := BitVec.ofNat 32 (i 0).val
  let c1_i32_11 : BitVec 32 := 1#32
  let v22 : BitVec 1 := Scalar.cmpi .sge arg0 c1_i32_11
  let v23 : BitVec 32 := Scalar.extui v22
  let c0_i32_12 : BitVec 32 := 0#32
  let v24 : BitVec 1 := Scalar.cmpi .ne v23 c0_i32_12
  v24

def k0_off12 (i : grid0.Coords) : Fin 1 → Nat :=
  let c1_i32_13 : BitVec 32 := 1#32
  let arg0 : BitVec 32 := BitVec.ofNat 32 (i 0).val
  let c2_i32 : BitVec 32 := 2#32
  let v1 : BitVec 32 := Scalar.remsi arg0 c2_i32
  let v25 : BitVec 32 := Scalar.subi c1_i32_13 v1
  ![v25.toNat]
def k0_off13 (i : grid0.Coords) : Fin 3 → Nat :=
  let c1_i32_13 : BitVec 32 := 1#32
  let arg0 : BitVec 32 := BitVec.ofNat 32 (i 0).val
  let c2_i32 : BitVec 32 := 2#32
  let v1 : BitVec 32 := Scalar.remsi arg0 c2_i32
  let v25 : BitVec 32 := Scalar.subi c1_i32_13 v1
  let c0_i32_16 : BitVec 32 := 0#32
  let c0_i32_17 : BitVec 32 := 0#32
  ![v25.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c6_i32 : BitVec 32 := 6#32
  let v2 : BitVec 32 := Scalar.divsi v1 c6_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c6_i32 c0_i32_1
  let v9 : BitVec 32 := Scalar.extui v8
  let c0_i32_2 : BitVec 32 := 0#32
  let v10 : BitVec 1 := Scalar.cmpi .slt c6_i32 c0_i32_2
  let v11 : BitVec 32 := Scalar.extui v10
  let v12 : BitVec 32 := Scalar.subi v9 v11
  let v13 : BitVec 1 := Scalar.cmpi .ne v7 v12
  let v14 : BitVec 32 := Scalar.remsi v1 c6_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c6_i32_4 : BitVec 32 := 6#32
  let v19 : BitVec 32 := Scalar.muli v18 c6_i32_4
  let v20 : BitVec 32 := Scalar.subi v1 v19
  let c3_i32 : BitVec 32 := 3#32
  let v21 : BitVec 1 := Scalar.cmpi .slt v20 c3_i32
  let c5_i32 : BitVec 32 := 5#32
  let v22 : BitVec 1 := Scalar.cmpi .slt v20 c5_i32
  let c1_i32_5 : BitVec 32 := 1#32
  let c2_i32 : BitVec 32 := 2#32
  let v23 : BitVec 32 := Scalar.select v22 c1_i32_5 c2_i32
  let c0_i32_6 : BitVec 32 := 0#32
  let v24 : BitVec 32 := Scalar.select v21 c0_i32_6 v23
  let c3_i32_7 : BitVec 32 := 3#32
  let v25 : BitVec 1 := Scalar.cmpi .slt v20 c3_i32_7
  let c1_i32_8 : BitVec 32 := 1#32
  let v26 : BitVec 32 := Scalar.addi v20 c1_i32_8
  let c5_i32_9 : BitVec 32 := 5#32
  let v27 : BitVec 1 := Scalar.cmpi .slt v20 c5_i32_9
  let c1_i32_10 : BitVec 32 := 1#32
  let v28 : BitVec 32 := Scalar.subi v20 c1_i32_10
  let c3_i32_11 : BitVec 32 := 3#32
  let v29 : BitVec 32 := Scalar.select v27 v28 c3_i32_11
  let v30 : BitVec 32 := Scalar.select v25 v26 v29
  let c4_i32 : BitVec 32 := 4#32
  let v31 : BitVec 32 := Scalar.muli v18 c4_i32
  let v32 : BitVec 32 := Scalar.addi v31 v24
  let c4_i32_12 : BitVec 32 := 4#32
  let v33 : BitVec 32 := Scalar.muli v18 c4_i32_12
  let v34 : BitVec 32 := Scalar.addi v33 v30
  let c0_i32_13 : BitVec 32 := 0#32
  let c0_i32_14 : BitVec 32 := 0#32
  let c0_i32_15 : BitVec 32 := 0#32
  ![v32.toNat, c0_i32_13.toNat, c0_i32_14.toNat]

def cc0_transform_6 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c6_i32 : BitVec 32 := 6#32
  let v2 : BitVec 32 := Scalar.divsi v1 c6_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c6_i32 c0_i32_1
  let v9 : BitVec 32 := Scalar.extui v8
  let c0_i32_2 : BitVec 32 := 0#32
  let v10 : BitVec 1 := Scalar.cmpi .slt c6_i32 c0_i32_2
  let v11 : BitVec 32 := Scalar.extui v10
  let v12 : BitVec 32 := Scalar.subi v9 v11
  let v13 : BitVec 1 := Scalar.cmpi .ne v7 v12
  let v14 : BitVec 32 := Scalar.remsi v1 c6_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c6_i32_4 : BitVec 32 := 6#32
  let v19 : BitVec 32 := Scalar.muli v18 c6_i32_4
  let v20 : BitVec 32 := Scalar.subi v1 v19
  let c3_i32 : BitVec 32 := 3#32
  let v21 : BitVec 1 := Scalar.cmpi .slt v20 c3_i32
  let c5_i32 : BitVec 32 := 5#32
  let v22 : BitVec 1 := Scalar.cmpi .slt v20 c5_i32
  let c1_i32_5 : BitVec 32 := 1#32
  let c2_i32 : BitVec 32 := 2#32
  let v23 : BitVec 32 := Scalar.select v22 c1_i32_5 c2_i32
  let c0_i32_6 : BitVec 32 := 0#32
  let v24 : BitVec 32 := Scalar.select v21 c0_i32_6 v23
  let c3_i32_7 : BitVec 32 := 3#32
  let v25 : BitVec 1 := Scalar.cmpi .slt v20 c3_i32_7
  let c1_i32_8 : BitVec 32 := 1#32
  let v26 : BitVec 32 := Scalar.addi v20 c1_i32_8
  let c5_i32_9 : BitVec 32 := 5#32
  let v27 : BitVec 1 := Scalar.cmpi .slt v20 c5_i32_9
  let c1_i32_10 : BitVec 32 := 1#32
  let v28 : BitVec 32 := Scalar.subi v20 c1_i32_10
  let c3_i32_11 : BitVec 32 := 3#32
  let v29 : BitVec 32 := Scalar.select v27 v28 c3_i32_11
  let v30 : BitVec 32 := Scalar.select v25 v26 v29
  let c4_i32 : BitVec 32 := 4#32
  let v31 : BitVec 32 := Scalar.muli v18 c4_i32
  let v32 : BitVec 32 := Scalar.addi v31 v24
  let c4_i32_12 : BitVec 32 := 4#32
  let v33 : BitVec 32 := Scalar.muli v18 c4_i32_12
  let v34 : BitVec 32 := Scalar.addi v33 v30
  let c0_i32_13 : BitVec 32 := 0#32
  let c0_i32_14 : BitVec 32 := 0#32
  let c0_i32_15 : BitVec 32 := 0#32
  ![v32.toNat, c0_i32_13.toNat, c0_i32_14.toNat]

def cc0_transform_7 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c6_i32 : BitVec 32 := 6#32
  let v2 : BitVec 32 := Scalar.divsi v1 c6_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c6_i32 c0_i32_1
  let v9 : BitVec 32 := Scalar.extui v8
  let c0_i32_2 : BitVec 32 := 0#32
  let v10 : BitVec 1 := Scalar.cmpi .slt c6_i32 c0_i32_2
  let v11 : BitVec 32 := Scalar.extui v10
  let v12 : BitVec 32 := Scalar.subi v9 v11
  let v13 : BitVec 1 := Scalar.cmpi .ne v7 v12
  let v14 : BitVec 32 := Scalar.remsi v1 c6_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c6_i32_4 : BitVec 32 := 6#32
  let v19 : BitVec 32 := Scalar.muli v18 c6_i32_4
  let v20 : BitVec 32 := Scalar.subi v1 v19
  let c3_i32 : BitVec 32 := 3#32
  let v21 : BitVec 1 := Scalar.cmpi .slt v20 c3_i32
  let c5_i32 : BitVec 32 := 5#32
  let v22 : BitVec 1 := Scalar.cmpi .slt v20 c5_i32
  let c1_i32_5 : BitVec 32 := 1#32
  let c2_i32 : BitVec 32 := 2#32
  let v23 : BitVec 32 := Scalar.select v22 c1_i32_5 c2_i32
  let c0_i32_6 : BitVec 32 := 0#32
  let v24 : BitVec 32 := Scalar.select v21 c0_i32_6 v23
  let c3_i32_7 : BitVec 32 := 3#32
  let v25 : BitVec 1 := Scalar.cmpi .slt v20 c3_i32_7
  let c1_i32_8 : BitVec 32 := 1#32
  let v26 : BitVec 32 := Scalar.addi v20 c1_i32_8
  let c5_i32_9 : BitVec 32 := 5#32
  let v27 : BitVec 1 := Scalar.cmpi .slt v20 c5_i32_9
  let c1_i32_10 : BitVec 32 := 1#32
  let v28 : BitVec 32 := Scalar.subi v20 c1_i32_10
  let c3_i32_11 : BitVec 32 := 3#32
  let v29 : BitVec 32 := Scalar.select v27 v28 c3_i32_11
  let v30 : BitVec 32 := Scalar.select v25 v26 v29
  let c4_i32 : BitVec 32 := 4#32
  let v31 : BitVec 32 := Scalar.muli v18 c4_i32
  let v32 : BitVec 32 := Scalar.addi v31 v24
  let c4_i32_12 : BitVec 32 := 4#32
  let v33 : BitVec 32 := Scalar.muli v18 c4_i32_12
  let v34 : BitVec 32 := Scalar.addi v33 v30
  let c0_i32_13 : BitVec 32 := 0#32
  let c0_i32_14 : BitVec 32 := 0#32
  let c0_i32_15 : BitVec 32 := 0#32
  ![v32.toNat, c0_i32_13.toNat, c0_i32_14.toNat]

def cc0_transform_8 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c6_i32 : BitVec 32 := 6#32
  let v2 : BitVec 32 := Scalar.divsi v1 c6_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c6_i32 c0_i32_1
  let v9 : BitVec 32 := Scalar.extui v8
  let c0_i32_2 : BitVec 32 := 0#32
  let v10 : BitVec 1 := Scalar.cmpi .slt c6_i32 c0_i32_2
  let v11 : BitVec 32 := Scalar.extui v10
  let v12 : BitVec 32 := Scalar.subi v9 v11
  let v13 : BitVec 1 := Scalar.cmpi .ne v7 v12
  let v14 : BitVec 32 := Scalar.remsi v1 c6_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c6_i32_4 : BitVec 32 := 6#32
  let v19 : BitVec 32 := Scalar.muli v18 c6_i32_4
  let v20 : BitVec 32 := Scalar.subi v1 v19
  let c3_i32 : BitVec 32 := 3#32
  let v21 : BitVec 1 := Scalar.cmpi .slt v20 c3_i32
  let c5_i32 : BitVec 32 := 5#32
  let v22 : BitVec 1 := Scalar.cmpi .slt v20 c5_i32
  let c1_i32_5 : BitVec 32 := 1#32
  let c2_i32 : BitVec 32 := 2#32
  let v23 : BitVec 32 := Scalar.select v22 c1_i32_5 c2_i32
  let c0_i32_6 : BitVec 32 := 0#32
  let v24 : BitVec 32 := Scalar.select v21 c0_i32_6 v23
  let c3_i32_7 : BitVec 32 := 3#32
  let v25 : BitVec 1 := Scalar.cmpi .slt v20 c3_i32_7
  let c1_i32_8 : BitVec 32 := 1#32
  let v26 : BitVec 32 := Scalar.addi v20 c1_i32_8
  let c5_i32_9 : BitVec 32 := 5#32
  let v27 : BitVec 1 := Scalar.cmpi .slt v20 c5_i32_9
  let c1_i32_10 : BitVec 32 := 1#32
  let v28 : BitVec 32 := Scalar.subi v20 c1_i32_10
  let c3_i32_11 : BitVec 32 := 3#32
  let v29 : BitVec 32 := Scalar.select v27 v28 c3_i32_11
  let v30 : BitVec 32 := Scalar.select v25 v26 v29
  let c4_i32 : BitVec 32 := 4#32
  let v31 : BitVec 32 := Scalar.muli v18 c4_i32
  let v32 : BitVec 32 := Scalar.addi v31 v24
  let c4_i32_12 : BitVec 32 := 4#32
  let v33 : BitVec 32 := Scalar.muli v18 c4_i32_12
  let v34 : BitVec 32 := Scalar.addi v33 v30
  let c0_i32_13 : BitVec 32 := 0#32
  let c0_i32_14 : BitVec 32 := 0#32
  let c0_i32_15 : BitVec 32 := 0#32
  ![v34.toNat, c0_i32_13.toNat, c0_i32_14.toNat]

def cc0_transform_9 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c6_i32 : BitVec 32 := 6#32
  let v2 : BitVec 32 := Scalar.divsi v1 c6_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c6_i32 c0_i32_1
  let v9 : BitVec 32 := Scalar.extui v8
  let c0_i32_2 : BitVec 32 := 0#32
  let v10 : BitVec 1 := Scalar.cmpi .slt c6_i32 c0_i32_2
  let v11 : BitVec 32 := Scalar.extui v10
  let v12 : BitVec 32 := Scalar.subi v9 v11
  let v13 : BitVec 1 := Scalar.cmpi .ne v7 v12
  let v14 : BitVec 32 := Scalar.remsi v1 c6_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c6_i32_4 : BitVec 32 := 6#32
  let v19 : BitVec 32 := Scalar.muli v18 c6_i32_4
  let v20 : BitVec 32 := Scalar.subi v1 v19
  let c3_i32 : BitVec 32 := 3#32
  let v21 : BitVec 1 := Scalar.cmpi .slt v20 c3_i32
  let c5_i32 : BitVec 32 := 5#32
  let v22 : BitVec 1 := Scalar.cmpi .slt v20 c5_i32
  let c1_i32_5 : BitVec 32 := 1#32
  let c2_i32 : BitVec 32 := 2#32
  let v23 : BitVec 32 := Scalar.select v22 c1_i32_5 c2_i32
  let c0_i32_6 : BitVec 32 := 0#32
  let v24 : BitVec 32 := Scalar.select v21 c0_i32_6 v23
  let c3_i32_7 : BitVec 32 := 3#32
  let v25 : BitVec 1 := Scalar.cmpi .slt v20 c3_i32_7
  let c1_i32_8 : BitVec 32 := 1#32
  let v26 : BitVec 32 := Scalar.addi v20 c1_i32_8
  let c5_i32_9 : BitVec 32 := 5#32
  let v27 : BitVec 1 := Scalar.cmpi .slt v20 c5_i32_9
  let c1_i32_10 : BitVec 32 := 1#32
  let v28 : BitVec 32 := Scalar.subi v20 c1_i32_10
  let c3_i32_11 : BitVec 32 := 3#32
  let v29 : BitVec 32 := Scalar.select v27 v28 c3_i32_11
  let v30 : BitVec 32 := Scalar.select v25 v26 v29
  let c4_i32 : BitVec 32 := 4#32
  let v31 : BitVec 32 := Scalar.muli v18 c4_i32
  let v32 : BitVec 32 := Scalar.addi v31 v24
  let c4_i32_12 : BitVec 32 := 4#32
  let v33 : BitVec 32 := Scalar.muli v18 c4_i32_12
  let v34 : BitVec 32 := Scalar.addi v33 v30
  let c0_i32_13 : BitVec 32 := 0#32
  let c0_i32_14 : BitVec 32 := 0#32
  let c0_i32_15 : BitVec 32 := 0#32
  ![v34.toNat, c0_i32_13.toNat, c0_i32_14.toNat]

def cc0_transform_10 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c6_i32 : BitVec 32 := 6#32
  let v2 : BitVec 32 := Scalar.divsi v1 c6_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c6_i32 c0_i32_1
  let v9 : BitVec 32 := Scalar.extui v8
  let c0_i32_2 : BitVec 32 := 0#32
  let v10 : BitVec 1 := Scalar.cmpi .slt c6_i32 c0_i32_2
  let v11 : BitVec 32 := Scalar.extui v10
  let v12 : BitVec 32 := Scalar.subi v9 v11
  let v13 : BitVec 1 := Scalar.cmpi .ne v7 v12
  let v14 : BitVec 32 := Scalar.remsi v1 c6_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c6_i32_4 : BitVec 32 := 6#32
  let v19 : BitVec 32 := Scalar.muli v18 c6_i32_4
  let v20 : BitVec 32 := Scalar.subi v1 v19
  let c3_i32 : BitVec 32 := 3#32
  let v21 : BitVec 1 := Scalar.cmpi .slt v20 c3_i32
  let c5_i32 : BitVec 32 := 5#32
  let v22 : BitVec 1 := Scalar.cmpi .slt v20 c5_i32
  let c1_i32_5 : BitVec 32 := 1#32
  let c2_i32 : BitVec 32 := 2#32
  let v23 : BitVec 32 := Scalar.select v22 c1_i32_5 c2_i32
  let c0_i32_6 : BitVec 32 := 0#32
  let v24 : BitVec 32 := Scalar.select v21 c0_i32_6 v23
  let c3_i32_7 : BitVec 32 := 3#32
  let v25 : BitVec 1 := Scalar.cmpi .slt v20 c3_i32_7
  let c1_i32_8 : BitVec 32 := 1#32
  let v26 : BitVec 32 := Scalar.addi v20 c1_i32_8
  let c5_i32_9 : BitVec 32 := 5#32
  let v27 : BitVec 1 := Scalar.cmpi .slt v20 c5_i32_9
  let c1_i32_10 : BitVec 32 := 1#32
  let v28 : BitVec 32 := Scalar.subi v20 c1_i32_10
  let c3_i32_11 : BitVec 32 := 3#32
  let v29 : BitVec 32 := Scalar.select v27 v28 c3_i32_11
  let v30 : BitVec 32 := Scalar.select v25 v26 v29
  let c4_i32 : BitVec 32 := 4#32
  let v31 : BitVec 32 := Scalar.muli v18 c4_i32
  let v32 : BitVec 32 := Scalar.addi v31 v24
  let c4_i32_12 : BitVec 32 := 4#32
  let v33 : BitVec 32 := Scalar.muli v18 c4_i32_12
  let v34 : BitVec 32 := Scalar.addi v33 v30
  let c0_i32_13 : BitVec 32 := 0#32
  let c0_i32_14 : BitVec 32 := 0#32
  let c0_i32_15 : BitVec 32 := 0#32
  ![v34.toNat, c0_i32_13.toNat, c0_i32_14.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S256 : Shape := ⟨1, ![256]⟩
abbrev S1 : Shape := ⟨1, ![1]⟩
abbrev S39424 : Shape := ⟨1, ![39424]⟩
abbrev S311296x128 : Shape := ⟨2, ![311296, 128]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S32768 : Shape := ⟨1, ![32768]⟩
abbrev S39424x1 : Shape := ⟨2, ![39424, 1]⟩
abbrev S38912x1024 : Shape := ⟨2, ![38912, 1024]⟩
abbrev S32768x1 : Shape := ⟨2, ![32768, 1]⟩
abbrev S32768x1024 : Shape := ⟨2, ![32768, 1024]⟩
abbrev S32768x2 : Shape := ⟨2, ![32768, 2]⟩
abbrev S1x1024 : Shape := ⟨2, ![1, 1024]⟩
abbrev S32768x4 : Shape := ⟨2, ![32768, 4]⟩
abbrev S1x4 : Shape := ⟨2, ![1, 4]⟩
abbrev S32768x16 : Shape := ⟨2, ![32768, 16]⟩
abbrev S1x16 : Shape := ⟨2, ![1, 16]⟩
abbrev S32768x2x1 : Shape := ⟨3, ![32768, 2, 1]⟩
abbrev S1x1x16 : Shape := ⟨3, ![1, 1, 16]⟩
abbrev S32768x2x16 : Shape := ⟨3, ![32768, 2, 16]⟩
abbrev S32768x1x16 : Shape := ⟨3, ![32768, 1, 16]⟩
abbrev S32768x16x256 : Shape := ⟨3, ![32768, 16, 256]⟩
abbrev S32768x16x1 : Shape := ⟨3, ![32768, 16, 1]⟩
abbrev S16x1024x32768 : Shape := ⟨3, ![16, 1024, 32768]⟩
abbrev S32768x16x1024 : Shape := ⟨3, ![32768, 16, 1024]⟩
abbrev S262144x128 : Shape := ⟨2, ![262144, 128]⟩
abbrev S266240x128 : Shape := ⟨2, ![266240, 128]⟩

abbrev nBuf : Space → Nat
  | .hbm => 145
  | .vmem => 0
  | .smem => 0
  | _ => 0

abbrev hbmTy0_0 (i : Nat) : BufTy := match i % 128 with
  | 0 => ⟨S256, .i32⟩
  | 1 => ⟨S1, .i32⟩
  | 2 => ⟨S39424, .i32⟩
  | 3 => ⟨S311296x128, .f32⟩
  | 4 => ⟨S1024, .f32⟩
  | 5 => ⟨S1024x4, .f32⟩
  | 6 => ⟨S4, .f32⟩
  | 7 => ⟨S1024x16, .f32⟩
  | 8 => ⟨S16, .f32⟩
  | 9 => ⟨S16x1024x256, .f32⟩
  | 10 => ⟨S16x1024x256, .f32⟩
  | 11 => ⟨S16x256x1024, .f32⟩
  | 12 => ⟨S_, .i32⟩
  | 13 => ⟨S32768, .i32⟩
  | 14 => ⟨S39424, .i32⟩
  | 15 => ⟨S39424x1, .i32⟩
  | 16 => ⟨S32768, .i32⟩
  | 17 => ⟨S38912x1024, .f32⟩
  | 18 => ⟨S32768x1, .i32⟩
  | 19 => ⟨S32768x1024, .f32⟩
  | 20 => ⟨S_, .i32⟩
  | 21 => ⟨S32768, .i32⟩
  | 22 => ⟨S32768, .i32⟩
  | 23 => ⟨S32768x1, .i32⟩
  | 24 => ⟨S32768, .i32⟩
  | 25 => ⟨S_, .i32⟩
  | 26 => ⟨S32768, .i32⟩
  | 27 => ⟨S32768, .i32⟩
  | 28 => ⟨S_, .i32⟩
  | 29 => ⟨S32768, .i32⟩
  | 30 => ⟨S32768, .i1⟩
  | 31 => ⟨S32768, .i32⟩
  | 32 => ⟨S_, .i32⟩
  | 33 => ⟨S32768, .i32⟩
  | 34 => ⟨S32768, .i1⟩
  | 35 => ⟨S32768, .i32⟩
  | 36 => ⟨S32768, .i32⟩
  | 37 => ⟨S_, .i32⟩
  | 38 => ⟨S32768, .i32⟩
  | 39 => ⟨S32768, .i32⟩
  | 40 => ⟨S_, .i32⟩
  | 41 => ⟨S32768, .i32⟩
  | 42 => ⟨S32768, .i32⟩
  | 43 => ⟨S32768, .i32⟩
  | 44 => ⟨S32768, .i32⟩
  | 45 => ⟨S32768x1, .i32⟩
  | 46 => ⟨S32768x1, .i32⟩
  | 47 => ⟨S32768x2, .i32⟩
  | 48 => ⟨S32768x1024, .f32⟩
  | 49 => ⟨S_, .f32⟩
  | 50 => ⟨S32768, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x1024, .f32⟩
  | 60 => ⟨S32768x1024, .f32⟩
  | 61 => ⟨S1x1024, .f32⟩
  | 62 => ⟨S32768x1024, .f32⟩
  | 63 => ⟨S32768x1024, .f32⟩
  | 64 => ⟨S_, .i32⟩
  | 65 => ⟨S32768, .i32⟩
  | 66 => ⟨S32768, .i32⟩
  | 67 => ⟨S32768x4, .f32⟩
  | 68 => ⟨S1x4, .f32⟩
  | 69 => ⟨S32768x4, .f32⟩
  | 70 => ⟨S32768x4, .f32⟩
  | 71 => ⟨S32768x1, .i32⟩
  | 72 => ⟨S1x4, .i32⟩
  | 73 => ⟨S32768x4, .i32⟩
  | 74 => ⟨S32768x4, .i32⟩
  | 75 => ⟨S32768x4, .i1⟩
  | 76 => ⟨S32768x4, .f32⟩
  | 77 => ⟨S32768x4, .f32⟩
  | 78 => ⟨S_, .f32⟩
  | 79 => ⟨S32768, .f32⟩
  | 80 => ⟨S32768x1, .f32⟩
  | 81 => ⟨S32768x4, .f32⟩
  | 82 => ⟨S32768x4, .f32⟩
  | 83 => ⟨S32768x4, .f32⟩
  | 84 => ⟨S_, .f32⟩
  | 85 => ⟨S32768, .f32⟩
  | 86 => ⟨S32768x1, .f32⟩
  | 87 => ⟨S32768x16, .f32⟩
  | 88 => ⟨S1x16, .f32⟩
  | 89 => ⟨S32768x16, .f32⟩
  | 90 => ⟨S32768x16, .f32⟩
  | 91 => ⟨S32768x1, .i32⟩
  | 92 => ⟨S_, .i32⟩
  | 93 => ⟨S32768x1, .i32⟩
  | 94 => ⟨S32768x1, .i32⟩
  | 95 => ⟨S32768x2, .i32⟩
  | 96 => ⟨S32768x2, .i32⟩
  | 97 => ⟨S32768x2x1, .i32⟩
  | 98 => ⟨S1x1x16, .i32⟩
  | 99 => ⟨S32768x2x16, .i32⟩
  | 100 => ⟨S32768x2x16, .i32⟩
  | 101 => ⟨S32768x2x16, .i1⟩
  | 102 => ⟨S32768x2x16, .f32⟩
  | 103 => ⟨S32768x1x16, .f32⟩
  | 104 => ⟨S32768x2x16, .f32⟩
  | 105 => ⟨S32768x2x16, .f32⟩
  | 106 => ⟨S_, .f32⟩
  | 107 => ⟨S32768x2, .f32⟩
  | 108 => ⟨S32768x2, .f32⟩
  | 109 => ⟨S_, .f32⟩
  | 110 => ⟨S32768, .f32⟩
  | 111 => ⟨S32768x1, .f32⟩
  | 112 => ⟨S32768x2, .f32⟩
  | 113 => ⟨S32768x2, .f32⟩
  | 114 => ⟨S32768x2, .f32⟩
  | 115 => ⟨S32768x2, .f32⟩
  | 116 => ⟨S32768x2x1, .f32⟩
  | 117 => ⟨S32768x2x16, .f32⟩
  | 118 => ⟨S32768x2x16, .f32⟩
  | 119 => ⟨S_, .f32⟩
  | 120 => ⟨S32768x16, .f32⟩
  | 121 => ⟨S32768x16x256, .f32⟩
  | 122 => ⟨S32768x16x256, .f32⟩
  | 123 => ⟨S32768x16x256, .f32⟩
  | 124 => ⟨S_, .f32⟩
  | 125 => ⟨S32768x16x256, .f32⟩
  | 126 => ⟨S32768x16x256, .f32⟩
  | 127 => ⟨S_, .f32⟩
  | _ => ⟨S256, .i32⟩

abbrev hbmTy0_1 (i : Nat) : BufTy := match i % 128 with
  | 0 => ⟨S32768x16x256, .f32⟩
  | 1 => ⟨S32768x16x256, .f32⟩
  | 2 => ⟨S32768x16x256, .f32⟩
  | 3 => ⟨S32768x16x256, .f32⟩
  | 4 => ⟨S32768x16x256, .f32⟩
  | 5 => ⟨S32768x16x1, .f32⟩
  | 6 => ⟨S32768x16x256, .f32⟩
  | 7 => ⟨S32768x16x256, .f32⟩
  | 8 => ⟨S16x1024x32768, .f32⟩
  | 9 => ⟨S32768x16x1024, .f32⟩
  | 10 => ⟨S_, .f32⟩
  | 11 => ⟨S32768x1024, .f32⟩
  | 12 => ⟨S32768x1024, .f32⟩
  | 13 => ⟨S262144x128, .f32⟩
  | 14 => ⟨S_, .i32⟩
  | 15 => ⟨S_, .f32⟩
  | 16 => ⟨S266240x128, .f32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_14 : Ref sig .tc := ⟨.hbm, 119, rfl⟩
abbrev main_v81 : Ref sig .tc := ⟨.hbm, 120, rfl⟩
abbrev main_v82 : Ref sig .tc := ⟨.hbm, 121, rfl⟩
abbrev main_call2_v0 : Ref sig .tc := ⟨.hbm, 122, rfl⟩
abbrev main_call2_v1 : Ref sig .tc := ⟨.hbm, 123, rfl⟩
abbrev main_call2_cst : Ref sig .tc := ⟨.hbm, 124, rfl⟩
abbrev main_call2_v2 : Ref sig .tc := ⟨.hbm, 125, rfl⟩
abbrev main_call2_v3 : Ref sig .tc := ⟨.hbm, 126, rfl⟩
abbrev main_call2_cst_0 : Ref sig .tc := ⟨.hbm, 127, rfl⟩
abbrev main_call2_v4 : Ref sig .tc := ⟨.hbm, 128, rfl⟩
abbrev main_call2_v5 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_15 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_c_16 : Ref sig .tc := ⟨.hbm, 142, rfl⟩
abbrev main_call3_v0 : Ref sig .tc := ⟨.hbm, 143, rfl⟩
abbrev main_v94 : Ref sig .tc := ⟨.hbm, 144, rfl⟩

abbrev nD : Nat := 1
abbrev τ : Topo := Topo.v7x

variable {F : FTy → Type} [FloatOps F]
-- ==== Proof.Loop.lean ====
/-
  The issue loop of `hier_moe`: 256 row copies, one for each row of the tile just computed, on one DMA cell.

  The result buffer and the output buffer in VMEM are owned by SETS of elements. A copy takes the 8 rows it names out of
  the result and the 8 rows it reads out of its slot of the output buffer; the batch's deliveries bring both back.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The sets -/

/-- The eight rows of the result that one row copy writes: block `d`. -/
def bset (d : ℕ) : Finset S266240x128.Idx := Finset.univ.filter fun x => (x 0).val / 8 = d
/-- The eight rows of slot `p` of the output buffer that row `r`'s copy reads. -/
def rset (p r : ℕ) : Finset S2x3072x128.Idx :=
  Finset.univ.filter fun x => (x 0).val = p ∧ (x 1).val / 12 = r ∧ (x 1).val % 12 < 8
/-- Slot `p` of the output buffer. -/
def half (p : ℕ) : Finset S2x3072x128.Idx := Finset.univ.filter fun x => (x 0).val = p
/-- The blocks of the first `k` copies. -/
def bsets (dst : ℕ → ℕ) (k : ℕ) : Finset S266240x128.Idx := Finset.univ.filter fun x => ∃ t < k, (x 0).val / 8 = dst t
/-- The rows of slot `p` that the first `k` copies read. -/
def rsets (p k : ℕ) : Finset S2x3072x128.Idx :=
  Finset.univ.filter fun x => (x 0).val = p ∧ (x 1).val / 12 < k ∧ (x 1).val % 12 < 8

theorem mem_bset {d : ℕ} {x : S266240x128.Idx} : x ∈ bset d ↔ (x 0).val / 8 = d := by simp [bset]
theorem mem_rset {p r : ℕ} {x : S2x3072x128.Idx} :
    x ∈ rset p r ↔ (x 0).val = p ∧ (x 1).val / 12 = r ∧ (x 1).val % 12 < 8 := by simp [rset]
theorem mem_half {p : ℕ} {x : S2x3072x128.Idx} : x ∈ half p ↔ (x 0).val = p := by simp [half]
theorem mem_bsets {dst : ℕ → ℕ} {k : ℕ} {x : S266240x128.Idx} : x ∈ bsets dst k ↔ ∃ t < k, (x 0).val / 8 = dst t := by
  simp [bsets]
theorem mem_rsets {p k : ℕ} {x : S2x3072x128.Idx} :
    x ∈ rsets p k ↔ (x 0).val = p ∧ (x 1).val / 12 < k ∧ (x 1).val % 12 < 8 := by simp [rsets]

theorem bsets_zero (dst : ℕ → ℕ) : bsets dst 0 = ∅ := by
  ext x; rw [mem_bsets]; simp
theorem rsets_zero (p : ℕ) : rsets p 0 = ∅ := by
  ext x; rw [mem_rsets]; simp
theorem sdiff_bsets_succ (A : Finset S266240x128.Idx) (dst : ℕ → ℕ) (k : ℕ) :
    A \ bsets dst (k + 1) = (A \ bsets dst k) \ bset (dst k) := by
  ext x
  simp only [Finset.mem_sdiff, mem_bsets, mem_bset]
  constructor
  · rintro ⟨h, h'⟩
    exact ⟨⟨h, fun ⟨t, ht, e⟩ => h' ⟨t, by omega, e⟩⟩, fun e => h' ⟨k, by omega, e⟩⟩
  · rintro ⟨⟨h, h'⟩, h''⟩
    refine ⟨h, fun ⟨t, ht, e⟩ => ?_⟩
    rcases Nat.lt_succ_iff_lt_or_eq.mp ht with ht | rfl
    · exact h' ⟨t, ht, e⟩
    · exact h'' e
theorem sdiff_rsets_succ (p k : ℕ) : half p \ rsets p (k + 1) = (half p \ rsets p k) \ rset p k := by
  ext x
  simp only [Finset.mem_sdiff, mem_rsets, mem_rset, mem_half]
  omega
theorem rset_sub (p k : ℕ) : rset p k ⊆ half p \ rsets p k := by
  intro x
  simp only [Finset.mem_sdiff, mem_rsets, mem_rset, mem_half]
  omega
theorem bset_sub {A : Finset S266240x128.Idx} {dst : ℕ → ℕ} {n : ℕ} (hA : bsets dst n ⊆ A)
    (hinj : ∀ j < n, ∀ k < n, dst j = dst k → j = k) {k : ℕ} (hk : k < n) : bset (dst k) ⊆ A \ bsets dst k := by
  intro x hx
  rw [mem_bset] at hx
  rw [Finset.mem_sdiff, mem_bsets]
  refine ⟨hA (mem_bsets.mpr ⟨k, hk, hx⟩), fun ⟨t, ht, e⟩ => ?_⟩
  have := hinj t (by omega) k hk (by omega)
  omega

/-! ## What a copy brings back -/

/-- Row `t` of a tile's result, laid out as the eight rows of 128 of a block of the result buffer. -/
def rowVal {V : Type} (Y : S256x1024.Idx → V) (t : ℕ) (x : S266240x128.Idx) : V :=
  Y (ix2 (⟨t % 256, Nat.mod_lt _ (by omega)⟩ : Fin 256) (⟨(128 * ((x 0).val % 8) + (x 1).val) % 1024, Nat.mod_lt _ (by omega)⟩ : Fin 1024))
/-- Slot `p` of the output buffer holds the tile's result `Y`, each row as eight rows of 128 at a pitch of twelve. -/
def obOk {V : Type} (p : ℕ) (Y : S256x1024.Idx → V) (f : S2x3072x128.Idx → V) : Prop :=
  ∀ x : S2x3072x128.Idx, (x 0).val = p → (x 1).val % 12 < 8 →
    f x = Y (ix2 (⟨(x 1).val / 12 % 256, Nat.mod_lt _ (by omega)⟩ : Fin 256)
      (⟨(128 * ((x 1).val % 12) + (x 2).val) % 1024, Nat.mod_lt _ (by omega)⟩ : Fin 1024))

abbrev outLoc (c : Dev nD) : Loc nD τ sig := (c : Thread nD τ).loc main_v33
abbrev obLoc (c : Dev nD) : Loc nD τ sig := (c : Thread nD τ).loc cc0_scratch0

/-- Copy `t`'s delivery: its block of the result at the tile's row, and the rows it read. -/
def dlv (c : Dev nD) (dst : ℕ → ℕ) (Y : S256x1024.Idx → Elt F .f32) (p : ℕ) (t : Fin 256) : sProp 𝕄 :=
  iprop((∃ g : Buf (Elt F) (outLoc c), ⌜∀ x ∈ bset (dst t), g x = rowVal Y t x⌝ ∗ (outLoc c ↦[bset (dst t)]{fullShare} g))
    ∗ (∃ f : Buf (Elt F) (obLoc c), obLoc c ↦[rset p t]{fullShare} f))

instance dlv_storable (c : Dev nD) (dst : ℕ → ℕ) (Y : S256x1024.Idx → Elt F .f32) (p : ℕ) (t : Fin 256) :
    BI.Storable (upEmb : UEmb _ 𝕄) (dlv c dst Y p t) := by
  unfold dlv; infer_instance

/-- One row copy's credit. -/
abbrev NN : ℕ := 128
theorem credit_row : RefSig.tileCredit S8x128 .f32 = 128 := by decide
/-- One wait of a drain takes the credit of half a tile's copies. -/
theorem credit_half : RefSig.tileCredit S1024x128 .f32 = 128 * NN := by decide

/-- The batch of a tile's 256 copies on cell `sm`, `j` issued and `u` units consumed. -/
abbrev batch (c : Dev nD) (sm : SemLoc sig) (dst : ℕ → ℕ) (Y : S256x1024.Idx → Elt F .f32) (p j u : ℕ) : sProp 𝕄 :=
  Transfers.Batch (countersEmb (U := Pipeline.UD sig nD τ)) (c : Thread nD τ) sm () NN (dlv c dst Y p) j u

/-! ## The copies' ends -/

theorem out_set (off : Fin 2 → ℕ) (h : ∀ a, off a + S8x128.size a ≤ S266240x128.size a) (d : ℕ) (h0 : off 0 = 8 * d) (h1 : off 1 = 0) :
    ((Memref.whole main_v33 : Memref sig .tc .hbm S266240x128 .f32).slice (Rect.unit (s := S266240x128) off S8x128.size h) (fun _ => rfl)).view.set = bset d := by
  refine (View.set_slice_whole _ _).trans ?_
  ext x
  rw [mem_bset]
  refine Rect.mem_set_unit.trans ?_
  constructor
  · intro hx
    have := hx 0
    rw [h0] at this
    have h8 : S8x128.size 0 = 8 := rfl
    omega
  · intro hx a
    have h8 : S8x128.size 0 = 8 := rfl
    have h9 : S8x128.size 1 = 128 := rfl
    have hx1 : (x 1).val < 128 := (x 1).isLt
    fin_cases a
    · show off 0 ≤ (x 0).val ∧ (x 0).val < off 0 + S8x128.size 0; omega
    · show off 1 ≤ (x 1).val ∧ (x 1).val < off 1 + S8x128.size 1; omega

theorem ob_set (off : Fin 3 → ℕ) (h : ∀ a, off a + S1x8x128.size a ≤ S2x3072x128.size a) (p r : ℕ) (h0 : off 0 = p) (h1 : off 1 = 12 * r) (h2 : off 2 = 0) :
    (((Memref.whole cc0_scratch0 : Memref sig .tc .vmem S2x3072x128 .f32).slice (Rect.unit (s := S2x3072x128) off S1x8x128.size h) (fun _ => rfl)).squeeze S8x128 squeezes_S1x8x128_S8x128).view.set = rset p r := by
  refine ((View.set_reshape _ _).trans (View.set_slice_whole _ _)).trans ?_
  ext x
  rw [mem_rset]
  refine Rect.mem_set_unit.trans ?_
  have h8 : S1x8x128.size 0 = 1 := rfl
  have h9 : S1x8x128.size 1 = 8 := rfl
  have h10 : S1x8x128.size 2 = 128 := rfl
  have hx2 : (x 2).val < 128 := (x 2).isLt
  constructor
  · intro hx
    have := hx 0
    have := hx 1
    omega
  · intro hx a
    fin_cases a
    · show off 0 ≤ (x 0).val ∧ (x 0).val < off 0 + S1x8x128.size 0; omega
    · show off 1 ≤ (x 1).val ∧ (x 1).val < off 1 + S1x8x128.size 1; omega
    · show off 2 ≤ (x 2).val ∧ (x 2).val < off 2 + S1x8x128.size 2; omega

/-- What the copy lands in its block: the row of the tile. -/
theorem landed (off : Fin 2 → ℕ) (h : ∀ a, off a + S8x128.size a ≤ S266240x128.size a) (d : ℕ) (h0 : off 0 = 8 * d) (h1 : off 1 = 0)
    (off' : Fin 3 → ℕ) (h' : ∀ a, off' a + S1x8x128.size a ≤ S2x3072x128.size a) (p r : ℕ) (h0' : off' 0 = p) (h1' : off' 1 = 12 * r) (h2' : off' 2 = 0)
    (hr : r < 256) (Y : S256x1024.Idx → Elt F .f32) (fs : S2x3072x128.Idx → Elt F .f32) (hfs : obOk p Y fs)
    (fd : S266240x128.Idx → Elt F .f32) (x : S266240x128.Idx) (hx : x ∈ bset d) :
    ((Memref.whole main_v33 : Memref sig .tc .hbm S266240x128 .f32).slice (Rect.unit (s := S266240x128) off S8x128.size h) (fun _ => rfl)).view.write (Elt F) fd
      (ReadAs.same.apply ((((Memref.whole cc0_scratch0 : Memref sig .tc .vmem S2x3072x128 .f32).slice (Rect.unit (s := S2x3072x128) off' S1x8x128.size h') (fun _ => rfl)).squeeze S8x128 squeezes_S1x8x128_S8x128).view.read (Elt F) fs))
      Finset.univ x = rowVal Y r x := by
  rw [mem_bset] at hx
  have hx1 : (x 1).val < 128 := (x 1).isLt
  have hxe : x = ((Memref.whole main_v33 : Memref sig .tc .hbm S266240x128 .f32).slice (Rect.unit (s := S266240x128) off S8x128.size h) (fun _ => rfl)).view.emb
      (ix2 (⟨(x 0).val % 8, Nat.mod_lt _ (by omega)⟩ : Fin 8) (⟨(x 1).val, hx1⟩ : Fin 128)) := by
    funext a
    apply Fin.ext
    refine Eq.trans ?_ (ValueKit.view_emb_slice_whole_unit_val main_v33 off S8x128.size h _ a).symm
    fin_cases a
    · show (x 0).val = off 0 + (x 0).val % 8; omega
    · show (x 1).val = off 1 + (x 1).val; omega
  conv_lhs => rw [hxe]
  rw [View.write_emb_of_mem _ _ (Finset.mem_univ _)]
  show fs (((Memref.whole cc0_scratch0 : Memref sig .tc .vmem S2x3072x128 .f32).slice (Rect.unit (s := S2x3072x128) off' S1x8x128.size h') (fun _ => rfl)).view.emb (Shape.reshapeEquiv _ _)) = _
  rw [show Shape.reshapeEquiv (s := S1x8x128) (s' := S8x128) squeezes_S1x8x128_S8x128.numel_eq (ix2 (⟨(x 0).val % 8, Nat.mod_lt _ (by omega)⟩ : Fin 8) (⟨(x 1).val, hx1⟩ : Fin 128))
      = ix3 (0 : Fin 1) (⟨(x 0).val % 8, Nat.mod_lt _ (by omega)⟩ : Fin 8) (⟨(x 1).val, hx1⟩ : Fin 128) from reshapeEquiv_ix2_1ab _ _ _]
  generalize hz : ((Memref.whole cc0_scratch0 : Memref sig .tc .vmem S2x3072x128 .f32).slice (Rect.unit (s := S2x3072x128) off' S1x8x128.size h') (fun _ => rfl)).view.emb
    (ix3 (0 : Fin 1) (⟨(x 0).val % 8, Nat.mod_lt _ (by omega)⟩ : Fin 8) (⟨(x 1).val, hx1⟩ : Fin 128)) = z
  have hz' : ∀ a, (z a).val = off' a + ((ix3 (0 : Fin 1) (⟨(x 0).val % 8, Nat.mod_lt _ (by omega)⟩ : Fin 8) (⟨(x 1).val, hx1⟩ : Fin 128) : S1x8x128.Idx) a).val := by
    intro a; rw [← hz]; exact ValueKit.view_emb_slice_whole_unit_val cc0_scratch0 off' S1x8x128.size h' _ a
  have z0 : (z 0).val = p := by rw [hz' 0, h0']; rfl
  have z1 : (z 1).val = 12 * r + (x 0).val % 8 := by rw [hz' 1, h1']; rfl
  have z2 : (z 2).val = (x 1).val := by rw [hz' 2, h2']; exact Nat.zero_add _
  have hlt : (x 0).val % 8 < 8 := Nat.mod_lt _ (by omega)
  rw [hfs z z0 (by omega)]
  unfold rowVal
  congr 2
  · apply Fin.ext; show (z 1).val / 12 % 256 = r % 256; omega
  · apply Fin.ext; show (128 * ((z 1).val % 12) + (z 2).val) % 1024 = (128 * ((x 0).val % 8) + (x 1).val) % 1024
    rw [show (z 1).val % 12 = (x 0).val % 8 by omega, z2]

/-! ## One trip -/

/-- The issue loop's body on the call's own buffers: everything but the words `arg3` names is fixed. -/
abbrev trip (i : grid0.Coords) (arg3 : Memref sig .tc .smem S1x1x256 .i32) (v0 : Elt F .i32) (h2 : k0_cond2 i v0 = 1#1)
    (k : Fin k0_t1_loop.trips) (_ : Unit) : Prog (TpuEff nD τ sig (Elt F) Λ₀ .tc) Unit := do
  let v217 : Elt F .i32 ← smemLoad arg3 (Rect.unit (s := S1x1x256) (k0_off6 k) S1x1x1.size (k0_off6_inb k)) numel1_S1x1x1 rfl
  have hw : k0_chk1 i v0 v217 := (← Prog.lift (TpuEff.assume (k0_chk1 i v0 v217) (k0_chk1.dec i v0 v217))).down
  Prog.lift (.enqueueDma (((Memref.whole cc0_scratch0 : Memref sig .tc .vmem S2x3072x128 .f32).slice (Rect.unit (s := S2x3072x128) (k0_off9 i k) S1x8x128.size (k0_off9_inb i k)) (fun _ => rfl)).squeeze S8x128 squeezes_S1x8x128_S8x128)
    (.here ((Memref.whole main_v33 : Memref sig .tc .hbm S266240x128 .f32).slice (Rect.unit (s := S266240x128) (k0_off8 v217) S8x128.size (k0_off8_inb i v0 v217 hw h2)) (fun _ => rfl)))
    (.dma (((cc0_scratch1 : DmaSems sig S2).slice (Rect.unit (s := S2) (k0_off7 i) S1.size (k0_off7_inb i))).squeeze S_ squeezes_S1_S_).sem)
    ((View.wordExact_bits rfl).reshape _ _) (View.wordExact_bits rfl) ⟨Or.inl rfl, trivial⟩)
  pure ⟨⟩

/-- The cell that the copies of the tile at point `i` use. -/
abbrev tsem (i : grid0.Coords) : SemLoc sig :=
  .dma (((cc0_scratch1 : DmaSems sig S2).slice (Rect.unit (s := S2) (k0_off7 i) S1.size (k0_off7_inb i))).squeeze S_ squeezes_S1_S_).sem

/-- Before trip `k`: `k` copies issued, their blocks and rows lent. -/
def loopInv (c : Dev nD) (i : grid0.Coords) (arg3 : Memref sig .tc .smem S1x1x256 .i32) (X : S1x1x256.Idx → Elt F .i32)
    (dst : ℕ → ℕ) (Y : S256x1024.Idx → Elt F .f32) (p : ℕ) (A : Finset S266240x128.Idx) (g : S266240x128.Idx → Elt F .f32)
    (f : S2x3072x128.Idx → Elt F .f32) (k : ℕ) (_ : Unit) : sProp 𝕄 :=
  iprop(batch c (tsem i) dst Y p k 0 ∗ (outLoc c ↦[A \ bsets dst k]{fullShare} (g : Buf (Elt F) (outLoc c)))
    ∗ (obLoc c ↦[half p \ rsets p k]{fullShare} (f : Buf (Elt F) (obLoc c))) ∗ owns (c : Thread nD τ) arg3 fullShare X)

theorem word8 (w : BitVec 32) (h : w.toNat < 33280) : k0_off8 w 0 = 8 * w.toNat := by
  show (w * 8#32).toNat = _
  rw [BitVec.toNat_mul]
  show w.toNat * 8 % 2 ^ 32 = _
  omega

set_option maxHeartbeats 4000000 in
theorem loop_step (c : Dev nD) (i : grid0.Coords) (arg3 : Memref sig .tc .smem S1x1x256 .i32) (X : S1x1x256.Idx → Elt F .i32)
    (dst : ℕ → ℕ) (Y : S256x1024.Idx → Elt F .f32) (p : ℕ) (A : Finset S266240x128.Idx) (g : S266240x128.Idx → Elt F .f32)
    (f : S2x3072x128.Idx → Elt F .f32) (v0 : Elt F .i32) (h2 : k0_cond2 i v0 = 1#1)
    (hp : p = (i 0).val % 2)
    (hX : ∀ k : Fin 256, ((X (ix3 (0 : Fin 1) (0 : Fin 1) k) : BitVec 32)).toNat = dst k)
    (hlt : ∀ k : Fin 256, dst k < 33280)
    (hA : bsets dst 256 ⊆ A) (hinj : ∀ j < 256, ∀ k < 256, dst j = dst k → j = k) (hf : obOk p Y f)
    (k : Fin k0_t1_loop.trips) (acc : Unit) :
    loopInv c i arg3 X dst Y p A g f k acc
      ⊢ wp frame (wpE defs₀ Variants.none (c : Thread nD τ) none) Set.univ (trip i arg3 v0 h2 k acc) (loopInv c i arg3 X dst Y p A g f (k.val + 1)) := by
  have hk : k.val < 256 := k.isLt
  unfold loopInv
  iintro ⟨HB, HO, HS, HX⟩
  unfold owns
  icases HX with ⟨%fx, %hfx, HX⟩
  dsimp only [trip]
  sl_exec
  generalize hw : loop_step.sl.r c arg3 k fx = w
  have hd : w.toNat = dst k := by
    rw [← hw, ← hX ⟨k.val, hk⟩, ← hfx]
    unfold loop_step.sl.r
    refine congrArg BitVec.toNat (congrArg (fun z => View.read (Elt F) arg3.view fx z) (funext fun a => Fin.ext ?_))
    have h6 : k0_off6 k = ![0, 0, k.val] := Gen.k0_off6_eq k
    refine (ValueKit.rect_emb_unit_val (s := S1x1x256) (k0_off6 k) S1x1x1.size (k0_off6_inb k) _ a).trans ?_
    exact (congrArg (· + _) (congrFun h6 a)).trans (by fin_cases a <;> rfl)
  have hchk : k0_chk1 i v0 w := by
    intro _ a
    have := hlt ⟨k.val, hk⟩
    fin_cases a
    · show k0_off8 w 0 + 8 ≤ 266240; rw [word8 w (by rw [hd]; exact this), hd]; simp only at this; omega
    · show 0 + 128 ≤ 128; omega
  have h8 := word8 w (by rw [hd]; exact hlt ⟨k.val, hk⟩)
  have hso := out_set (k0_off8 w) (k0_off8_inb i v0 w hchk h2) (dst k) (by rw [h8, hd]) rfl
  have h9 : k0_off9 i k = ![(i 0).val % 2, 12 * k.val, 0] := Gen.k0_off9_eq i k
  have hss := ob_set (k0_off9 i k) (k0_off9_inb i k) p k.val (by rw [h9, hp]; rfl) (by rw [h9]; rfl) (by rw [h9]; rfl)
  sl_exec
  ihave HO' := (pointsTo_split_subset (bset_sub hA hinj hk)).1 $$ HO
  icases HO' with ⟨Hd, HO⟩
  ihave HS' := (pointsTo_split_subset (rset_sub p k.val)).1 $$ HS
  icases HS' with ⟨Hs, HS⟩
  rw [← hss, ← hso]
  have hland := landed (F := F) (k0_off8 w) (k0_off8_inb i v0 w hchk h2) (dst k) (by rw [h8, hd]) rfl (k0_off9 i k) (k0_off9_inb i k) p k.val
    (by rw [h9, hp]; rfl) (by rw [h9]; rfl) (by rw [h9]; rfl) hk Y f hf g
  have hN : ((Memref.whole main_v33 : Memref sig .tc .hbm S266240x128 .f32).slice (Rect.unit (s := S266240x128) (k0_off8 w) S8x128.size (k0_off8_inb i v0 w hchk h2)) (fun _ => rfl)).view.amount (tsem i) = NN := credit_row
  iapply (Transfers.wp_dmaBatch (countersEmb (U := Pipeline.UD sig nD τ)) Variants.none (c : Thread nD τ) none () NN
    hN (Finset.Subset.refl _) hk (Nat.zero_le _) (D := dlv c dst Y p) (fd := g) (fs := f) (q := fullShare) ?_) $$ [Hs Hd HB]
  · rw [hss, hso]
    unfold dlv
    iintro ⟨H1, H2⟩
    isplitl [H1]
    · iexists _
      isplitr; · ipureintro; exact hland
      iexact H1
    · iexists _; iexact H2
  · isplitl [Hs]; · iexact Hs
    isplitl [Hd]; · iexact Hd
    iexact HB
  rw [hss, hso]
  iintro HB
  sl_step
  isplitl [HB]; · iexact HB
  isplitl [HO]; · rw [sdiff_bsets_succ]; iexact HO
  isplitl [HS]; · rw [sdiff_rsets_succ]; iexact HS
  iexists fx
  isplitr; · ipureintro; exact hfx
  iexact HX

/-- The issue loop: from the fresh batch to all 256 copies in flight. -/
theorem loop_run (c : Dev nD) (i : grid0.Coords) (arg3 : Memref sig .tc .smem S1x1x256 .i32) (X : S1x1x256.Idx → Elt F .i32)
    (dst : ℕ → ℕ) (Y : S256x1024.Idx → Elt F .f32) (p : ℕ) (A : Finset S266240x128.Idx) (g : S266240x128.Idx → Elt F .f32)
    (f : S2x3072x128.Idx → Elt F .f32) (v0 : Elt F .i32) (h2 : k0_cond2 i v0 = 1#1)
    (hp : p = (i 0).val % 2)
    (hX : ∀ k : Fin 256, ((X (ix3 (0 : Fin 1) (0 : Fin 1) k) : BitVec 32)).toNat = dst k)
    (hlt : ∀ k : Fin 256, dst k < 33280)
    (hA : bsets dst 256 ⊆ A) (hinj : ∀ j < 256, ∀ k < 256, dst j = dst k → j = k) (hf : obOk p Y f) :
    loopInv c i arg3 X dst Y p A g f 0 ()
      ⊢ wp frame (wpE defs₀ Variants.none (c : Thread nD τ) none) Set.univ (Scf.Loop.for k0_t1_loop k0_t1_ok ⟨⟩ (trip i arg3 v0 h2))
        (loopInv c i arg3 X dst Y p A g f 256) := by
  iintro H
  sl_for (loopInv c i arg3 X dst Y p A g f) $$ [H]
  case region =>
    intro k acc
    exact loop_step c i arg3 X dst Y p A g f v0 h2 hp hX hlt hA hinj hf k acc
  isplitl [H]; · iexact H
  iintro %acc H
  iexact H

end Cert.KernelIdeal.Hand

end
-- ==== Proof.Own.lean ====
/-
  Who owns what between two grid points of `hier_moe`: the slots of the output buffer (idle, or lent to the copies of a
  tile in flight) and the result, with what the tiles drained so far left in it.
-/
module

public import proofs.«01_k».proof.Proof.Loop

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A drained tile -/

theorem bset_disjoint {d e : ℕ} (h : d ≠ e) : Disjoint (bset d) (bset e) := by
  rw [Finset.disjoint_left]; intro x hx hy; rw [mem_bset] at hx hy; omega
theorem rset_disjoint {p r r' : ℕ} (h : r ≠ r') : Disjoint (rset p r) (rset p r') := by
  rw [Finset.disjoint_left]; intro x hx hy; rw [mem_rset] at hx hy; omega

/-- Deliveries of some copies of a tile, their blocks and rows put together. -/
theorem collect (c : Dev nD) (dst : ℕ → ℕ) (Y : S256x1024.Idx → Elt F .f32) (p : ℕ)
    (hinj : ∀ j < 256, ∀ k < 256, dst j = dst k → j = k) (S : Finset (Fin 256)) [Nonempty (Elt F .f32)] :
    (bigSep S (dlv c dst Y p) : sProp 𝕄)
      ⊢ iprop((∃ g : Buf (Elt F) (outLoc c), ⌜∀ t ∈ S, ∀ x ∈ bset (dst t), g x = rowVal Y t x⌝
            ∗ (outLoc c ↦[S.biUnion fun t => bset (dst t)]{fullShare} g))
          ∗ (∃ f : Buf (Elt F) (obLoc c), obLoc c ↦[S.biUnion fun t => rset p t]{fullShare} f)) := by
  classical
  induction S using Finset.induction_on with
  | empty =>
    iintro -
    isplitl
    · iexists (fun _ => Classical.arbitrary _ : S266240x128.Idx → Elt F .f32)
      isplitr
      · ipureintro; intro t ht; exact absurd ht (Finset.notMem_empty _)
      · rw [Finset.biUnion_empty, pointsTo_empty]; iempintro
    · iexists (fun _ => Classical.arbitrary _ : S2x3072x128.Idx → Elt F .f32)
      rw [Finset.biUnion_empty, pointsTo_empty]; iempintro
  | insert t S ht ih =>
    rw [bigSep_insert ht, Finset.biUnion_insert, Finset.biUnion_insert]
    have hd : Disjoint (bset (dst t)) (S.biUnion fun t => bset (dst t)) :=
      (Finset.disjoint_biUnion_right _ _ _).mpr fun t' ht' => bset_disjoint fun e =>
        ht (by rw [Fin.ext (hinj t t.isLt t' t'.isLt e)]; exact ht')
    have hr : Disjoint (rset p t) (S.biUnion fun t => rset p t) :=
      (Finset.disjoint_biUnion_right _ _ _).mpr fun t' ht' => rset_disjoint fun e => ht (by rw [Fin.ext e]; exact ht')
    refine (show iprop(dlv c dst Y p t ∗ bigSep S (dlv c dst Y p)) ⊢ _ from ?_)
    iintro ⟨Ht, HS⟩
    ihave H := ih $$ HS
    icases H with ⟨⟨%g, %hg, HS⟩, ⟨%f, Hf⟩⟩
    unfold dlv
    icases Ht with ⟨⟨%g', %hg', Hg⟩, ⟨%f', Hf'⟩⟩
    isplitl [HS Hg]
    · iexists (S.biUnion fun t => bset (dst t)).piecewise g g'
      isplitr
      · ipureintro
        intro t' ht' x hx
        rcases Finset.mem_insert.mp ht' with rfl | ht'
        · rw [Finset.piecewise_eq_of_notMem _ _ _ (Finset.disjoint_left.mp hd hx)]; exact hg' x hx
        · rw [Finset.piecewise_eq_of_mem _ _ _ (Finset.mem_biUnion.mpr ⟨t', ht', hx⟩)]; exact hg t' ht' x hx
      · iapply (pointsTo_join hd)
        isplitl [Hg]; · iexact Hg
        iexact HS
    · iexists (S.biUnion fun t => rset p t).piecewise f f'
      iapply (pointsTo_join hr)
      isplitl [Hf']; · iexact Hf'
      iexact Hf

theorem biUnion_bset (dst : ℕ → ℕ) : (Finset.univ.biUnion fun t : Fin 256 => bset (dst t)) = bsets dst 256 := by
  ext x
  simp only [Finset.mem_biUnion, Finset.mem_univ, true_and, mem_bset, mem_bsets]
  exact ⟨fun ⟨t, h⟩ => ⟨t, t.isLt, h⟩, fun ⟨t, ht, h⟩ => ⟨⟨t, ht⟩, h⟩⟩
theorem biUnion_rset (p : ℕ) : (Finset.univ.biUnion fun t : Fin 256 => rset p t) = rsets p 256 := by
  ext x
  simp only [Finset.mem_biUnion, Finset.mem_univ, true_and, mem_rset, mem_rsets]
  exact ⟨fun ⟨t, h⟩ => ⟨h.1, h.2.1 ▸ t.isLt, h.2.2⟩, fun h => ⟨⟨_, h.2.1⟩, h.1, rfl, h.2.2⟩⟩

/-! ## The layout -/

/-- The token rows of the result; the blocks from here on are padding. -/
abbrev NTOK : ℕ := 32768

/-- What the layout of the routed slots says of the first `N` tiles (256 slots each): every destination is a block of the
    result, no two slots share a token, and a padding slot goes to its own one of 512 padding blocks. -/
structure Lay (ivf : ℕ → ℕ) (N : ℕ) : Prop where
  lt : ∀ s < 256 * N, ivf s < 33280
  tok : ∀ s < 256 * N, ∀ s' < 256 * N, ivf s = ivf s' → ivf s < NTOK → s = s'
  junk : ∀ s < 256 * N, NTOK ≤ ivf s → ivf s = NTOK + s % 512

/-- The destinations of tile `b`. -/
def dstOf (ivf : ℕ → ℕ) (b : ℕ) (t : ℕ) : ℕ := ivf (256 * b + t)
/-- The blocks of tile `b`. -/
abbrev bs (ivf : ℕ → ℕ) (b : ℕ) : Finset S266240x128.Idx := bsets (dstOf ivf b) 256

theorem Lay.near {ivf : ℕ → ℕ} {N : ℕ} (h : Lay ivf N) {s s' : ℕ} (hs : s < 256 * N) (hs' : s' < 256 * N)
    (he : ivf s = ivf s') (h1 : s < s' + 512) (h2 : s' < s + 512) : s = s' := by
  by_cases hk : ivf s < NTOK
  · exact h.tok s hs s' hs' he hk
  · have a := h.junk s hs (by omega)
    have b := h.junk s' hs' (by omega)
    omega

theorem Lay.inj {ivf : ℕ → ℕ} {N : ℕ} (h : Lay ivf N) {b : ℕ} (hb : b < N) :
    ∀ j < 256, ∀ k < 256, dstOf ivf b j = dstOf ivf b k → j = k := by
  intro j hj k hk e
  have := h.near (s := 256 * b + j) (s' := 256 * b + k) (by omega) (by omega) e (by omega) (by omega)
  omega

theorem Lay.disj {ivf : ℕ → ℕ} {N : ℕ} (h : Lay ivf N) {b : ℕ} (hb : b + 1 < N) : Disjoint (bs ivf (b + 1)) (bs ivf b) := by
  rw [Finset.disjoint_left]
  intro x hx hy
  obtain ⟨t, ht, e⟩ := mem_bsets.mp hx
  obtain ⟨t', ht', e'⟩ := mem_bsets.mp hy
  have := h.near (s := 256 * (b + 1) + t) (s' := 256 * b + t') (by omega) (by omega) (e.symm.trans e') (by omega) (by omega)
  omega

/-! ## The result's contents -/

/-- The result buffer `g` holds, in every token's block, the row of the tile it belongs to, for the first `n` tiles. -/
def gOk (ivf : ℕ → ℕ) (Yf : ℕ → S256x1024.Idx → Elt F .f32) (n : ℕ) (g : S266240x128.Idx → Elt F .f32) : Prop :=
  ∀ b < n, ∀ t < 256, dstOf ivf b t < NTOK → ∀ x ∈ bset (dstOf ivf b t), g x = rowVal (Yf b) t x

def ownOut (c : Dev nD) (ivf : ℕ → ℕ) (Yf : ℕ → S256x1024.Idx → Elt F .f32) (A : Finset S266240x128.Idx) (n : ℕ) : sProp 𝕄 :=
  iprop(∃ g : Buf (Elt F) (outLoc c), ⌜gOk ivf Yf n g⌝ ∗ (outLoc c ↦[A]{fullShare} g))

/-- A drained tile's blocks put back. -/
theorem ownOut_join (c : Dev nD) {ivf : ℕ → ℕ} {N : ℕ} (hL : Lay ivf N) (Yf : ℕ → S256x1024.Idx → Elt F .f32)
    {A A' : Finset S266240x128.Idx} {b : ℕ} (hb : b < N) (hA : A' = bs ivf b ∪ A) (hd : Disjoint (bs ivf b) A)
    (g : S266240x128.Idx → Elt F .f32) (hg : ∀ t : Fin 256, ∀ x ∈ bset (dstOf ivf b t), g x = rowVal (Yf b) t x) :
    iprop((outLoc c ↦[bs ivf b]{fullShare} (g : Buf (Elt F) (outLoc c))) ∗ ownOut c ivf Yf A b) ⊢ (ownOut c ivf Yf A' (b + 1) : sProp 𝕄) := by
  classical
  subst hA
  unfold ownOut
  iintro ⟨H1, ⟨%g0, %hg0, H2⟩⟩
  iexists (bs ivf b).piecewise g g0
  isplitr
  · ipureintro
    intro b' hb' t ht hlt x hx
    rcases Nat.lt_succ_iff_lt_or_eq.mp hb' with hb' | rfl
    · rw [Finset.piecewise_eq_of_notMem]
      · exact hg0 b' hb' t ht hlt x hx
      · intro hm
        obtain ⟨t', ht', e⟩ := mem_bsets.mp hm
        rw [mem_bset] at hx
        have := hL.tok (256 * b' + t) (by omega) (256 * b + t') (by omega) (hx.symm.trans e) hlt
        omega
    · rw [Finset.piecewise_eq_of_mem _ _ _ (mem_bsets.mpr ⟨t, ht, mem_bset.mp hx⟩)]
      exact hg ⟨t, ht⟩ x hx
  · have hcomm : (bs ivf b ∪ A) = A ∪ bs ivf b := Finset.union_comm _ _
    rw [hcomm]
    iapply (pointsTo_join hd.symm)
    isplitl [H2]; · iexact H2
    iexact H1

/-! ## The slots -/

/-- The two cells of the body. -/
def dcell (p : ℕ) : DmaSem sig := if p = 0 then 19 else 20

/-- A slot not in use: its cell at zero, its half of the output buffer at some contents. -/
def idle (c : Dev nD) (p : ℕ) : sProp 𝕄 :=
  iprop(semVal ((c : Thread nD τ), SemLoc.dma (dcell p)) 0 ∗ ∃ f : Buf (Elt F) (obLoc c), obLoc c ↦[half p]{fullShare} f)
/-- A slot whose 256 copies, tile `b`'s, are all in flight. -/
def fly (c : Dev nD) (ivf : ℕ → ℕ) (Yf : ℕ → S256x1024.Idx → Elt F .f32) (p b : ℕ) : sProp 𝕄 :=
  iprop(batch c (.dma (dcell p)) (dstOf ivf b) (Yf b) p 256 0 ∗ ∃ f : Buf (Elt F) (obLoc c), obLoc c ↦[half p \ rsets p 256]{fullShare} f)

/-- After the drain of a tile: its slot idle again, its blocks in the result. -/
theorem drained (c : Dev nD) {ivf : ℕ → ℕ} {N : ℕ} (hL : Lay ivf N) (Yf : ℕ → S256x1024.Idx → Elt F .f32)
    {A A' : Finset S266240x128.Idx} {p b : ℕ} (hb : b < N) (hA : A' = bs ivf b ∪ A) (hd : Disjoint (bs ivf b) A)
    [Nonempty (Elt F .f32)] :
    iprop(bigSep Finset.univ (dlv c (dstOf ivf b) (Yf b) p) ∗ semVal ((c : Thread nD τ), SemLoc.dma (dcell p)) 0
        ∗ (∃ f : Buf (Elt F) (obLoc c), obLoc c ↦[half p \ rsets p 256]{fullShare} f) ∗ ownOut c ivf Yf A b)
      ⊢ (iprop(idle c p ∗ ownOut c ivf Yf A' (b + 1)) : sProp 𝕄) := by
  iintro ⟨HD, Hs, ⟨%f, Hf⟩, HO⟩
  ihave HD' := (collect c (dstOf ivf b) (Yf b) p (hL.inj hb) Finset.univ) $$ HD
  rw [biUnion_bset, biUnion_rset]
  icases HD' with ⟨⟨%g, %hg, Hg⟩, ⟨%f', Hf'⟩⟩
  isplitl [Hs Hf Hf']
  · unfold idle
    isplitl [Hs]; · iexact Hs
    iexists _
    have hsub : rsets p 256 ⊆ half p := fun x hx => mem_half.mpr (mem_rsets.mp hx).1
    iapply (pointsTo_join_subset hsub)
    isplitl [Hf']; · iexact Hf'
    iexact Hf
  · iapply (ownOut_join c hL Yf hb hA hd g (fun t x hx => hg t (Finset.mem_univ _) x hx))
    isplitl [Hg]; · iexact Hg
    iexact HO

/-! ## Between two points -/

/-- Before point `i` of the grid, `N` tiles in use: the tiles `i - 1` and `i - 2` in flight, those before them drained;
    from point `N` on all drained. -/
def St (c : Dev nD) (ivf : ℕ → ℕ) (Yf : ℕ → S256x1024.Idx → Elt F .f32) (N i : ℕ) : sProp 𝕄 :=
  if N ≤ i then iprop(idle c 0 ∗ idle c 1 ∗ ownOut c ivf Yf Finset.univ N)
  else if i = 0 then iprop(idle c 0 ∗ idle c 1 ∗ ownOut c ivf Yf Finset.univ 0)
  else if i = 1 then iprop(fly c ivf Yf 0 0 ∗ idle c 1 ∗ ownOut c ivf Yf (Finset.univ \ bs ivf 0) 0)
  else iprop(fly c ivf Yf ((i - 1) % 2) (i - 1) ∗ fly c ivf Yf (i % 2) (i - 2)
    ∗ ownOut c ivf Yf ((Finset.univ \ bs ivf (i - 1)) \ bs ivf (i - 2)) (i - 2))

/-- The other slot while point `i` computes. -/
def other (c : Dev nD) (ivf : ℕ → ℕ) (Yf : ℕ → S256x1024.Idx → Elt F .f32) (i : ℕ) : sProp 𝕄 :=
  if i = 0 then idle c 1 else fly c ivf Yf ((i - 1) % 2) (i - 1)
/-- What of the result is at hand while point `i` computes. -/
def avail (ivf : ℕ → ℕ) (i : ℕ) : Finset S266240x128.Idx := if i = 0 then Finset.univ else Finset.univ \ bs ivf (i - 1)

theorem avail_sup {ivf : ℕ → ℕ} {N : ℕ} (hL : Lay ivf N) {i : ℕ} (hi : i < N) : bs ivf i ⊆ avail ivf i := by
  unfold avail
  split
  · exact Finset.subset_univ _
  · intro x hx
    rw [Finset.mem_sdiff]
    refine ⟨Finset.mem_univ _, fun hy => ?_⟩
    have := hL.disj (b := i - 1) (by omega)
    rw [show i - 1 + 1 = i by omega] at this
    exact Finset.disjoint_left.mp this hx hy

end Cert.KernelIdeal.Hand

end
-- ==== Proof.Part1.lean ====
/-
  The first part of the body at a point in use: the drain of the tile issued two points before, then the loads.
-/
module

public import proofs.«01_k».proof.Proof.Own
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result buffer and the output buffer as the body names them. -/
abbrev outM : Memref sig .tc .hbm S266240x128 .f32 := Memref.whole main_v33
abbrev obufM : Memref sig .tc .vmem S2x3072x128 .f32 := Memref.whole cc0_scratch0

theorem cell2 : ∀ (i : grid0.Coords) (h : k0_cond3 i = 1#1),
    (((cc0_scratch1 : DmaSems sig S2).slice (Rect.unit (s := S2) (k0_off2 i) S1.size (k0_off2_inb i h))).squeeze S_ squeezes_S1_S_).sem
      = dcell ((i 0).val % 2) := by decide +kernel

/-- Two waits, half a tile's credit each, drain a slot. -/
theorem drain_run (c : Dev nD) {ivf : ℕ → ℕ} {N : ℕ} (hL : Lay ivf N) (Yf : ℕ → S256x1024.Idx → Elt F .f32)
    {A A' : Finset S266240x128.Idx} {p b : ℕ} (hb : b < N) (hA : A' = bs ivf b ∪ A) (hd : Disjoint (bs ivf b) A)
    [Nonempty (Elt F .f32)] {α : Type} {sem : DmaSem sig} (hsem : sem = dcell p)
    {s1 s2 : Shape} {src1 : Memref sig .tc .vmem s1 .f32} {src2 : Memref sig .tc .vmem s2 .f32}
    {dst1 dst2 : Memref sig .tc .hbm S1024x128 .f32} {hs1 hd1 hs2 hd2}
    (k : PUnit → Prog (TpuEff nD τ sig (Elt F) Λ₀ .tc) α) (Q : α → sProp 𝕄) (W : Waits sig Unit) :
    iprop(fly c ivf Yf p b ∗ ownOut c ivf Yf A b ∗ owes (c : Thread nD τ) 0 W)
      ⊢ iprop(((idle c p ∗ ownOut c ivf Yf A' (b + 1) ∗ ∃ W, owes (c : Thread nD τ) 0 W)
            -∗ wp frame (wpE defs₀ Variants.none (c : Thread nD τ) none) Set.univ (k ⟨⟩) Q)
          -∗ wp frame (wpE defs₀ Variants.none (c : Thread nD τ) none) Set.univ
            (.op (.waitDma2 sem src1 dst1 hs1 hd1) fun _ => .op (.waitDma2 sem src2 dst2 hs2 hd2) k) Q) := by
  subst hsem
  unfold fly
  iintro ⟨⟨HB, Hf⟩, HO, HW⟩ Hk
  iapply (Transfers.wp_waitBatchMul (countersEmb (U := Pipeline.UD sig nD τ)) Variants.none (c : Thread nD τ) none () (N := NN) 128
    credit_half (D := dlv c (dstOf ivf b) (Yf b) p) (j := 256) (u := 0) (by decide)) $$ [HB HW]
  · isplitl [HB]; · iexact HB
    iexact HW
  iintro ⟨HB, HW⟩
  iapply (Transfers.wp_waitBatchAll (countersEmb (U := Pipeline.UD sig nD τ)) Variants.none (c : Thread nD τ) none () (N := NN) (J := 128 * NN)
    credit_half (by decide) (D := dlv c (dstOf ivf b) (Yf b) p) (u := 0 + 128 * NN) (by decide)) $$ [HB HW]
  · isplitl [HB]; · iexact HB
    iexact HW
  iintro ⟨HD, Hs, HW⟩
  iapply Hk
  ihave H := (drained c hL Yf hb hA hd (p := p)) $$ [HD Hs Hf HO]
  · isplitl [HD]; · iexact HD
    isplitl [Hs]; · iexact Hs
    isplitl [Hf]; · iexact Hf
    iexact HO
  icases H with ⟨H1, H2⟩
  isplitl [H1]; · iexact H1
  isplitl [H2]; · iexact H2
  iexists _; iexact HW

theorem bs_sub {ivf : ℕ → ℕ} {N : ℕ} (hL : Lay ivf N) {i : ℕ} (h2 : 2 ≤ i ∧ i ≤ N) : bs ivf (i - 2) ⊆ Finset.univ \ bs ivf (i - 1) := by
  intro x hx
  rw [Finset.mem_sdiff]
  refine ⟨Finset.mem_univ _, fun hy => ?_⟩
  have := hL.disj (b := i - 2) (by omega)
  rw [show i - 2 + 1 = i - 1 by omega] at this
  exact Finset.disjoint_left.1 this hy hx

/-- One column block of the token-major rows: row 8 r + k of the window for each slot r. -/
def xcol (k : ℕ) (h : ∀ a, (![256, 128] : Fin 2 → ℕ) a = 0 ∨ (![k, 0] : Fin 2 → ℕ) a + (![8, 1] : Fin 2 → ℕ) a * ((![256, 128] : Fin 2 → ℕ) a - 1) < S2048x128.size a)
    (X : S2048x128.Idx → Elt F .f32) : S256x128.Idx → Elt F .f32 :=
  fun x => X ((⟨![k, 0], S256x128.size, ![8, 1], h⟩ : LoadRect S2048x128).idx x)

theorem other_pos (c : Dev nD) (ivf : ℕ → ℕ) (Yf : ℕ → S256x1024.Idx → Elt F .f32) {i : ℕ} (h : 0 < i) :
    other c ivf Yf i = fly c ivf Yf ((i - 1) % 2) (i - 1) := by unfold other; rw [if_neg (by omega)]
theorem avail_pos (ivf : ℕ → ℕ) {i : ℕ} (h : 0 < i) : avail ivf i = Finset.univ \ bs ivf (i - 1) := by unfold avail; rw [if_neg (by omega)]

theorem cond3_iff : ∀ i : grid0.Coords, k0_cond3 i = 1#1 ↔ 2 ≤ (i 0).val := by decide +kernel
theorem cond5_iff : ∀ i : grid0.Coords, k0_cond5 i = 1#1 ↔ 1 ≤ (i 0).val := by decide +kernel

/-- The eight column blocks. -/
def xs8 (X : S2048x128.Idx → Elt F .f32) : Fin 8 → S256x128.Idx → Elt F .f32 :=
  ![xcol 0 inb_S2048x128_S256x128_0_0_s_8_1 X, xcol 1 inb_S2048x128_S256x128_1_0_s_8_1 X, xcol 2 inb_S2048x128_S256x128_2_0_s_8_1 X, xcol 3 inb_S2048x128_S256x128_3_0_s_8_1 X, xcol 4 inb_S2048x128_S256x128_4_0_s_8_1 X, xcol 5 inb_S2048x128_S256x128_5_0_s_8_1 X, xcol 6 inb_S2048x128_S256x128_6_0_s_8_1 X, xcol 7 inb_S2048x128_S256x128_7_0_s_8_1 X]

set_option pp.maxSteps 1200 in
set_option maxHeartbeats 4000000 in
theorem part1_run (c : Dev nD) (i : grid0.Coords) [Nonempty (Elt F .f32)]
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole)
    (X4 : S2048x128.Idx → Elt F .f32) (X5 : S1x1024.Idx → Elt F .f32) (X6 : S1024x128.Idx → Elt F .bf16) (X7 : S1x128.Idx → Elt F .f32)
    {ivf : ℕ → ℕ} {N : ℕ} (hL : Lay ivf N) (hi : (i 0).val < N) (Yf : ℕ → S256x1024.Idx → Elt F .f32) (arg0 : BitVec 32) (W : Waits sig Unit) :
    iprop(owns (c : Thread nD τ) arg4 fullShare X4 ∗ owns (c : Thread nD τ) arg5 fullShare X5 ∗ owns (c : Thread nD τ) arg6 fullShare X6 ∗ owns (c : Thread nD τ) arg7 fullShare X7 ∗ St c ivf Yf N (i 0).val ∗ owes (c : Thread nD τ) 0 W)
      ⊢ wp frame (wpE defs₀ Variants.none (c : Thread nD τ) none) Set.univ
          (k0_part1_skel i (Memref.whole main_v32) (Memref.isWhole_whole _) (Memref.whole main_arg1) (Memref.isWhole_whole _)
      arg3 harg3 arg4 harg4 arg5 harg5 arg6 harg6 arg7 harg7 arg8 harg8 arg9 harg9 arg10 harg10 arg11 harg11 arg12 harg12 arg13 harg13
      outM (Memref.isWhole_whole _) obufM (Memref.isWhole_whole _) cc0_scratch1 arg0)
        (fun r => iprop(⌜r = ⟨k0_pay6 (xs8 X4 0) (xs8 X4 1) (xs8 X4 2) (xs8 X4 3) (xs8 X4 4) (xs8 X4 5) (xs8 X4 6) (xs8 X4 7),
            k0_pay7 (xs8 X4 0) (xs8 X4 1) (xs8 X4 2) (xs8 X4 3) (xs8 X4 4) (xs8 X4 5) (xs8 X4 6) (xs8 X4 7) X5,
            k0_pay8 (xs8 X4 0) (xs8 X4 1) (xs8 X4 2) (xs8 X4 3) (xs8 X4 4) (xs8 X4 5) (xs8 X4 6) (xs8 X4 7) X5 X6, X7⟩⌝
          ∗ owns (c : Thread nD τ) arg4 fullShare X4 ∗ owns (c : Thread nD τ) arg5 fullShare X5 ∗ owns (c : Thread nD τ) arg6 fullShare X6 ∗ owns (c : Thread nD τ) arg7 fullShare X7
          ∗ idle c ((i 0).val % 2) ∗ other c ivf Yf (i 0).val ∗ ownOut c ivf Yf (avail ivf (i 0).val) ((i 0).val - 1) ∗ ∃ W, owes (c : Thread nD τ) 0 W)) := by
  unfold k0_part1_skel
  by_cases h3 : k0_cond3 i = 1#1
  · have h2 := (cond3_iff i).1 h3
    rw [dif_pos h3]
    unfold St
    rw [if_neg (by omega), if_neg (by omega), if_neg (by omega)]
    rw [other_pos c ivf Yf (by omega), avail_pos ivf (by omega)]
    simp only [Prog.bind_lift, Prog.bind_op]
    unfold owns
    iintro ⟨HX4, HX5, HX6, HX7, HS, HW⟩
    icases HX4 with ⟨%fx4, %hfx4, HX4⟩
    icases HX5 with ⟨%fx5, %hfx5, HX5⟩
    icases HX6 with ⟨%fx6, %hfx6, HX6⟩
    icases HX7 with ⟨%fx7, %hfx7, HX7⟩
    subst hfx4 hfx5 hfx6 hfx7
    icases HS with ⟨Hot, Hf2, HO⟩
    iapply (drain_run c hL Yf (A := (Finset.univ \ bs ivf ((i 0).val - 1)) \ bs ivf ((i 0).val - 2)) (A' := Finset.univ \ bs ivf ((i 0).val - 1))
      (p := (i 0).val % 2) (b := (i 0).val - 2) (by omega) ?_ ?_ (cell2 i h3) _ _ _) $$ [Hf2 HO HW]
    · rw [Finset.union_sdiff_of_subset]
      exact bs_sub hL (by omega)
    · exact Finset.disjoint_sdiff
    · isplitl [Hf2]; · iexact Hf2
      isplitl [HO]; · iexact HO
      iexact HW
    iintro ⟨Hid, HO, ⟨%W', HW⟩⟩
    rw [show (i 0).val - 2 + 1 = (i 0).val - 1 by omega]
    sl_exec
    sl_step
    rw [View.readAt_full, View.readAt_full, View.readAt_full]
    isplitr; · ipureintro; rfl
    isplitl [HX4]; · iexists fx4; isplitr; · ipureintro; rfl
                     iexact HX4
    isplitl [HX5]; · iexists fx5; isplitr; · ipureintro; rfl
                     iexact HX5
    isplitl [HX6]; · iexists fx6; isplitr; · ipureintro; rfl
                     iexact HX6
    isplitl [HX7]; · iexists fx7; isplitr; · ipureintro; rfl
                     iexact HX7
    isplitl [Hid]; · iexact Hid
    isplitl [Hot]; · iexact Hot
    isplitl [HO]; · iexact HO
    iexists _; iexact HW
  · have h2 : ¬ 2 ≤ (i 0).val := fun h => h3 ((cond3_iff i).2 h)
    rw [dif_neg h3]
    have hS : St c ivf Yf N (i 0).val ⊢ (iprop(idle c ((i 0).val % 2) ∗ other c ivf Yf (i 0).val ∗ ownOut c ivf Yf (avail ivf (i 0).val) ((i 0).val - 1)) : sProp 𝕄) := by
      unfold St other avail
      rw [if_neg (by omega)]
      obtain h0 | h0 : (i 0).val = 0 ∨ (i 0).val = 1 := by omega
      · rw [h0]; simp only [if_pos]; exact .rfl
      · rw [h0]; simp only [one_ne_zero, if_false, if_pos]
        iintro ⟨H1, H2, H3⟩
        isplitl [H2]; · iexact H2
        isplitl [H1]; · iexact H1
        iexact H3
    unfold owns
    iintro ⟨HX4, HX5, HX6, HX7, HS, HW⟩
    icases HX4 with ⟨%fx4, %hfx4, HX4⟩
    icases HX5 with ⟨%fx5, %hfx5, HX5⟩
    icases HX6 with ⟨%fx6, %hfx6, HX6⟩
    icases HX7 with ⟨%fx7, %hfx7, HX7⟩
    subst hfx4 hfx5 hfx6 hfx7
    ihave HS' := hS $$ HS
    icases HS' with ⟨Hid, Hot, HO⟩
    sl_exec
    sl_step
    rw [View.readAt_full, View.readAt_full, View.readAt_full]
    isplitr; · ipureintro; rfl
    isplitl [HX4]; · iexists fx4; isplitr; · ipureintro; rfl
                     iexact HX4
    isplitl [HX5]; · iexists fx5; isplitr; · ipureintro; rfl
                     iexact HX5
    isplitl [HX6]; · iexists fx6; isplitr; · ipureintro; rfl
                     iexact HX6
    isplitl [HX7]; · iexists fx7; isplitr; · ipureintro; rfl
                     iexact HX7
    isplitl [Hid]; · iexact Hid
    isplitl [Hot]; · iexact Hot
    isplitl [HO]; · iexact HO
    iexists _; iexact HW

end Cert.KernelIdeal.Hand

end
-- ==== Proof.Mid.lean ====
/-
  The compute part of the body at a point in use: the tile's new rows as one function of the blocks loaded, and the runs
  of the parts that load them.
-/
module

public import proofs.«01_k».proof.Proof.Part1

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lane of a tile's first expert, as the body computes it from the tile's bucket. -/
def laneLo (v47 : BitVec 32) : BitVec 32 :=
  let v48 : BitVec 32 := Scalar.divsi v47 6#32
  let v49 : BitVec 1 := Scalar.cmpi .sgt v47 0#32
  let v50 : BitVec 32 := Scalar.extui v49
  let v51 : BitVec 1 := Scalar.cmpi .slt v47 0#32
  let v52 : BitVec 32 := Scalar.extui v51
  let v53 : BitVec 32 := Scalar.subi v50 v52
  let v54 : BitVec 1 := Scalar.cmpi .sgt 6#32 0#32
  let v55 : BitVec 32 := Scalar.extui v54
  let v56 : BitVec 1 := Scalar.cmpi .slt 6#32 0#32
  let v57 : BitVec 32 := Scalar.extui v56
  let v58 : BitVec 32 := Scalar.subi v55 v57
  let v59 : BitVec 1 := Scalar.cmpi .ne v53 v58
  let v60 : BitVec 32 := Scalar.remsi v47 6#32
  let v61 : BitVec 1 := Scalar.cmpi .ne v60 0#32
  let v62 : BitVec 1 := Scalar.andi v59 v61
  let v63 : BitVec 32 := Scalar.subi v48 1#32
  let v64 : BitVec 32 := Scalar.select v62 v63 v48
  let v65 : BitVec 32 := Scalar.muli v64 6#32
  let v66 : BitVec 32 := Scalar.subi v47 v65
  let v67 : BitVec 1 := Scalar.cmpi .slt v66 3#32
  let v68 : BitVec 1 := Scalar.cmpi .slt v66 5#32
  let v69 : BitVec 32 := Scalar.select v68 1#32 2#32
  let v70 : BitVec 32 := Scalar.select v67 0#32 v69
  let v71 : BitVec 1 := Scalar.cmpi .slt v66 3#32
  let v72 : BitVec 32 := Scalar.addi v66 1#32
  let v73 : BitVec 1 := Scalar.cmpi .slt v66 5#32
  let v74 : BitVec 32 := Scalar.subi v66 1#32
  let v75 : BitVec 32 := Scalar.select v73 v74 3#32
  let v76 : BitVec 32 := Scalar.select v71 v72 v75
  let v77 : BitVec 32 := Scalar.muli v64 4#32
  let v78 : BitVec 32 := Scalar.addi v77 v70
  let v79 : BitVec 32 := Scalar.muli v64 4#32
  let v80 : BitVec 32 := Scalar.addi v79 v76
  v78
/-- The lane of its second expert. -/
def laneHi (v47 : BitVec 32) : BitVec 32 :=
  let v48 : BitVec 32 := Scalar.divsi v47 6#32
  let v49 : BitVec 1 := Scalar.cmpi .sgt v47 0#32
  let v50 : BitVec 32 := Scalar.extui v49
  let v51 : BitVec 1 := Scalar.cmpi .slt v47 0#32
  let v52 : BitVec 32 := Scalar.extui v51
  let v53 : BitVec 32 := Scalar.subi v50 v52
  let v54 : BitVec 1 := Scalar.cmpi .sgt 6#32 0#32
  let v55 : BitVec 32 := Scalar.extui v54
  let v56 : BitVec 1 := Scalar.cmpi .slt 6#32 0#32
  let v57 : BitVec 32 := Scalar.extui v56
  let v58 : BitVec 32 := Scalar.subi v55 v57
  let v59 : BitVec 1 := Scalar.cmpi .ne v53 v58
  let v60 : BitVec 32 := Scalar.remsi v47 6#32
  let v61 : BitVec 1 := Scalar.cmpi .ne v60 0#32
  let v62 : BitVec 1 := Scalar.andi v59 v61
  let v63 : BitVec 32 := Scalar.subi v48 1#32
  let v64 : BitVec 32 := Scalar.select v62 v63 v48
  let v65 : BitVec 32 := Scalar.muli v64 6#32
  let v66 : BitVec 32 := Scalar.subi v47 v65
  let v67 : BitVec 1 := Scalar.cmpi .slt v66 3#32
  let v68 : BitVec 1 := Scalar.cmpi .slt v66 5#32
  let v69 : BitVec 32 := Scalar.select v68 1#32 2#32
  let v70 : BitVec 32 := Scalar.select v67 0#32 v69
  let v71 : BitVec 1 := Scalar.cmpi .slt v66 3#32
  let v72 : BitVec 32 := Scalar.addi v66 1#32
  let v73 : BitVec 1 := Scalar.cmpi .slt v66 5#32
  let v74 : BitVec 32 := Scalar.subi v66 1#32
  let v75 : BitVec 32 := Scalar.select v73 v74 3#32
  let v76 : BitVec 32 := Scalar.select v71 v72 v75
  let v77 : BitVec 32 := Scalar.muli v64 4#32
  let v78 : BitVec 32 := Scalar.addi v77 v70
  let v79 : BitVec 32 := Scalar.muli v64 4#32
  let v80 : BitVec 32 := Scalar.addi v79 v76
  v80

/-- The lanes counted along a row. -/
def lanes : IVec S256x128 32 := iota .tc S256x128 32 [1] iota_S256x128_d1_w32

/-- The rows before the experts: the tile's rows, normalised, and the router's logits. -/
def tX (x : Fin 8 → S256x128.Idx → Elt F .f32) : FVec F S256x1024 .f32 := k0_pay6 (x 0) (x 1) (x 2) (x 3) (x 4) (x 5) (x 6) (x 7)
def tH (x : Fin 8 → S256x128.Idx → Elt F .f32) (n2g : S1x1024.Idx → Elt F .f32) : FVec F S256x1024 .bf16 :=
  k0_pay7 (x 0) (x 1) (x 2) (x 3) (x 4) (x 5) (x 6) (x 7) n2g
def tL (x : Fin 8 → S256x128.Idx → Elt F .f32) (n2g : S1x1024.Idx → Elt F .f32) (wr : S1024x128.Idx → Elt F .bf16)
    (br : S1x128.Idx → Elt F .f32) : FVec F S256x128 .f32 :=
  k0_pay9 (k0_pay8 (x 0) (x 1) (x 2) (x 3) (x 4) (x 5) (x 6) (x 7) n2g wr) br

/-- A tile's new rows. -/
def tileY (w : BitVec 32) (X4 : S2048x128.Idx → Elt F .f32) (X5 : S1x1024.Idx → Elt F .f32) (X6 : S1024x128.Idx → Elt F .bf16)
    (X7 : S1x128.Idx → Elt F .f32) (X8 : S1x1024x256.Idx → Elt F .bf16) (X9 : S1x1024x256.Idx → Elt F .bf16) (X10 : S1x256x1024.Idx → Elt F .bf16) (X11 : S1x1024x256.Idx → Elt F .bf16) (X12 : S1x1024x256.Idx → Elt F .bf16) (X13 : S1x256x1024.Idx → Elt F .bf16) : S256x1024.Idx → Elt F .f32 :=
  k0_pay19 (k0_pay17 (tX (xs8 X4)) (tH (xs8 X4) X5)
      (k0_pay14 (tL (xs8 X4) X5 X6 X7) (laneLo w) (laneHi w) lanes (k0_pay10 (F := F) w)) (k0_pay16 X8) (constant S256x256 .f32 0x00000000#32) X9 X10)
    (k0_pay18 (tH (xs8 X4) X5) (k0_pay15 (tL (xs8 X4) X5 X6 X7) (laneLo w) (laneHi w) lanes (k0_pay10 (F := F) w)) X11 X12) X13

/-- The point's place in the table. -/
def tix (i : grid0.Coords) : S256.Idx := ix1 (⟨(i 0).val, lt_of_lt_of_le (i 0).isLt (by decide)⟩ : Fin 256)

theorem part2_run (c : Dev nD) (i : grid0.Coords)
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole)
    (tb : S256.Idx → Elt F .i32) (q : PosShare TreeShare) (arg0 : BitVec 32) (v41 : FVec F S256x128 .f32) (v42 : Vec F S1x128 .f32) :
    (owns (c : Thread nD τ) (Memref.whole main_v32 : Memref sig .tc .smem S256 .i32) q tb : sProp 𝕄)
      ⊢ wp frame (wpE defs₀ Variants.none (c : Thread nD τ) none) Set.univ
          (k0_part2_skel i (Memref.whole main_v32) (Memref.isWhole_whole _) (Memref.whole main_arg1) (Memref.isWhole_whole _)
      arg3 harg3 arg4 harg4 arg5 harg5 arg6 harg6 arg7 harg7 arg8 harg8 arg9 harg9 arg10 harg10 arg11 harg11 arg12 harg12 arg13 harg13
      outM (Memref.isWhole_whole _) obufM (Memref.isWhole_whole _) cc0_scratch1 arg0 v41 v42)
        (fun r => iprop(⌜r = ⟨k0_pay9 v41 v42, laneLo (tb (tix i)), laneHi (tb (tix i)), lanes, k0_pay10 (tb (tix i))⟩⌝
          ∗ owns (c : Thread nD τ) (Memref.whole main_v32 : Memref sig .tc .smem S256 .i32) q tb)) := by
  unfold owns
  iintro ⟨%fT, %hfT, HT⟩

  unfold k0_part2_skel
  sl_exec
  sl_step
  isplitr
  · ipureintro
    have h4 : k0_off4 i = ![(i 0).val] := Gen.k0_off4_eq i
    have hw : ∀ w : Elt F .i32, w = tb (tix i) → (⟨k0_pay9 v41 v42, laneLo w, laneHi w, lanes, k0_pay10 w⟩ : (Σ' (v45 : FVec F S256x128 .f32) (v78 : BitVec 32) (v80 : BitVec 32) (v81 : IVec S256x128 32), IVec S256x128 32))
        = ⟨k0_pay9 v41 v42, laneLo (tb (tix i)), laneHi (tb (tix i)), lanes, k0_pay10 (tb (tix i))⟩ := by
      intro w h; rw [h]
    refine hw _ ?_
    unfold part2_run.sl.r
    subst hfT
    refine congrArg fT (funext fun a => Fin.ext ?_)
    fin_cases a
    exact (congrArg (· + _) (congrFun h4 0))
  iexists fT; isplitr; · ipureintro; exact hfT
  iexact HT

theorem part3_run (c : Dev nD) (i : grid0.Coords)
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole)
    (X8 : S1x1024x256.Idx → Elt F .bf16) (v45 : FVec F S256x128 .f32) (v78 : BitVec 32) (v80 : BitVec 32) (v81 : IVec S256x128 32) (v82 : IVec S256x128 32) :
    (owns (c : Thread nD τ) arg8 fullShare X8 : sProp 𝕄)
      ⊢ wp frame (wpE defs₀ Variants.none (c : Thread nD τ) none) Set.univ
          (k0_part3_skel i (Memref.whole main_v32) (Memref.isWhole_whole _) (Memref.whole main_arg1) (Memref.isWhole_whole _)
      arg3 harg3 arg4 harg4 arg5 harg5 arg6 harg6 arg7 harg7 arg8 harg8 arg9 harg9 arg10 harg10 arg11 harg11 arg12 harg12 arg13 harg13
      outM (Memref.isWhole_whole _) obufM (Memref.isWhole_whole _) cc0_scratch1 v45 v78 v80 v81 v82)
        (fun r => iprop(⌜r = ⟨k0_pay14 v45 v78 v80 v81 v82, k0_pay15 v45 v78 v80 v81 v82, k0_pay16 X8, constant S256x256 .f32 0x00000000#32⟩⌝
          ∗ owns (c : Thread nD τ) arg8 fullShare X8)) := by
  unfold owns
  iintro ⟨%fx8, %hfx8, HX8⟩
  subst hfx8
  unfold k0_part3_skel
  sl_exec
  sl_step
  rw [View.readAt_full]
  isplitr; · ipureintro; rfl
  iexists fx8; isplitr; · ipureintro; rfl
  iexact HX8

theorem part4_run (c : Dev nD) (i : grid0.Coords)
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole)
    (X9 : S1x1024x256.Idx → Elt F .bf16) (X10 : S1x256x1024.Idx → Elt F .bf16) (X11 : S1x1024x256.Idx → Elt F .bf16) (X12 : S1x1024x256.Idx → Elt F .bf16) (v23 : FVec F S256x1024 .f32) (v38 : FVec F S256x1024 .bf16) (v117 : FVec F S256x1 .f32) (v122 : FVec F S256x1 .f32) (v124 : FVec F S1024x256 .bf16) (cst_55 : FVec F S256x256 .f32) :
    iprop(owns (c : Thread nD τ) arg9 fullShare X9 ∗ owns (c : Thread nD τ) arg10 fullShare X10 ∗ owns (c : Thread nD τ) arg11 fullShare X11 ∗ owns (c : Thread nD τ) arg12 fullShare X12)
      ⊢ wp frame (wpE defs₀ Variants.none (c : Thread nD τ) none) Set.univ
          (k0_part4_skel i (Memref.whole main_v32) (Memref.isWhole_whole _) (Memref.whole main_arg1) (Memref.isWhole_whole _)
      arg3 harg3 arg4 harg4 arg5 harg5 arg6 harg6 arg7 harg7 arg8 harg8 arg9 harg9 arg10 harg10 arg11 harg11 arg12 harg12 arg13 harg13
      outM (Memref.isWhole_whole _) obufM (Memref.isWhole_whole _) cc0_scratch1 v23 v38 v117 v122 v124 cst_55)
        (fun r => (iprop(⌜r = ⟨k0_pay17 v23 v38 v117 v124 cst_55 X9 X10, k0_pay18 v38 v122 X11 X12⟩⌝ ∗ owns (c : Thread nD τ) arg9 fullShare X9 ∗ owns (c : Thread nD τ) arg10 fullShare X10 ∗ owns (c : Thread nD τ) arg11 fullShare X11 ∗ owns (c : Thread nD τ) arg12 fullShare X12) : sProp 𝕄)) := by
  unfold owns
  iintro ⟨⟨%fx9, %hfx9, HX9⟩, ⟨%fx10, %hfx10, HX10⟩, ⟨%fx11, %hfx11, HX11⟩, ⟨%fx12, %hfx12, HX12⟩⟩
  subst hfx9 hfx10 hfx11 hfx12
  unfold k0_part4_skel
  sl_exec
  sl_step
  rw [View.readAt_full, View.readAt_full, View.readAt_full, View.readAt_full]
  isplitr; · ipureintro; rfl
  isplitl [HX9]; · iexists fx9; isplitr; · ipureintro; rfl
                   iexact HX9
  isplitl [HX10]; · iexists fx10; isplitr; · ipureintro; rfl
                    iexact HX10
  isplitl [HX11]; · iexists fx11; isplitr; · ipureintro; rfl
                    iexact HX11
  iexists fx12; isplitr; · ipureintro; rfl
  iexact HX12

/-- The slot of the output buffer that the tile is written to. -/
abbrev obM (i : grid0.Coords) : Memref sig .tc .vmem S3072x128 .f32 :=
  (obufM.slice (Rect.unit (s := S2x3072x128) (k0_off5 i) S1x3072x128.size (k0_off5_inb i)) (fun _ => rfl)).squeeze S3072x128 squeezes_S1x3072x128_S3072x128

/-- The rows of a tile as the slot holds them: row r of 128·8 lanes as eight rows of 128 at a pitch of twelve. -/
def gY {V : Type} (Y : S256x1024.Idx → V) (y : S3072x128.Idx) : V :=
  Y (ix2 (⟨(y 0).val / 12 % 256, Nat.mod_lt _ (by omega)⟩ : Fin 256) (⟨(128 * ((y 0).val % 12) + (y 1).val) % 1024, Nat.mod_lt _ (by omega)⟩ : Fin 1024))

/-- One column block's rows of the slot. -/
abbrev srect (k : ℕ) (h : ∀ a, (![256, 128] : Fin 2 → ℕ) a = 0 ∨ (![k, 0] : Fin 2 → ℕ) a + (![12, 1] : Fin 2 → ℕ) a * ((![256, 128] : Fin 2 → ℕ) a - 1) < S3072x128.size a) : Rect S3072x128 :=
  ⟨(⟨![k, 0], S256x128.size, ![12, 1], h⟩ : LoadRect S3072x128), spos_12_1⟩

theorem srect_emb (k : ℕ) (h) (x : (srect k h).shape.Idx) : ∀ a, ((srect k h).emb x a).val = (![k, 0] : Fin 2 → ℕ) a + (![12, 1] : Fin 2 → ℕ) a * (x a).val := fun _ => rfl

theorem mem_srect (k : ℕ) (hk : k < 12) (h) (y : S3072x128.Idx) : y ∈ (srect k h).set ↔ (y 0).val % 12 = k := by
  constructor
  · intro hy
    obtain ⟨x, rfl⟩ := (srect k h).exists_idx_of_mem hy
    have h0 : ((srect k h).emb x 0).val = k + 12 * (x 0).val := rfl
    exact (congrArg (· % 12) h0).trans (by show (k + 12 * (x 0).val) % 12 = k; omega)
  · intro hy
    have h0 : (y 0).val < 3072 := (y 0).isLt
    have h1 : (y 1).val < 128 := (y 1).isLt
    have : y = (srect k h).emb (ix2 (⟨(y 0).val / 12, by omega⟩ : Fin 256) (⟨(y 1).val, h1⟩ : Fin 128)) := by
      funext a
      apply Fin.ext
      fin_cases a
      · show (y 0).val = k + 12 * ((y 0).val / 12); omega
      · show (y 1).val = 0 + 1 * (y 1).val; omega
    rw [this]
    rw [← Rect.map_emb_univ]; exact Finset.mem_map_of_mem _ (Finset.mem_univ _)

/-- A column block cut from the rows is what the slot holds at the block's rows. -/
theorem cut_eq (k : ℕ) (hk : k < 8) (h) {o : ℕ} (ho : o = 128 * k) (hs : S256x1024.Slices ![0, o] S256x128) (Y : S256x1024.Idx → Elt F .f32) (x : S256x128.Idx) :
    extractStridedSlice S256x128 ![0, o] Y hs x = gY Y ((srect k h).emb x) := by
  have h0 : (x 0).val < 256 := (x 0).isLt
  have h1 : (x 1).val < 128 := (x 1).isLt
  refine extractStridedSlice_apply _ _ _ _ _ fun a => ?_
  subst ho
  fin_cases a
  · show (k + 12 * (x 0).val) / 12 % 256 = 0 + (x 0).val; omega
  · show (128 * ((k + 12 * (x 0).val) % 12) + (0 + 1 * (x 1).val)) % 1024 = 128 * k + (x 1).val; omega

/-- The same, the block's shape cast to itself as the stored value is. -/
theorem cast_cut (k : ℕ) (hk : k < 8) (h) {o : ℕ} (ho : o = 128 * k) (hs : S256x1024.Slices ![0, o] S256x128) (Y : S256x1024.Idx → Elt F .f32) (x : S256x128.Idx) :
    shapeCast S256x128 (extractStridedSlice S256x128 ![0, o] Y hs) shapeCasts_S256x128_S256x128 x = gY Y ((srect k h).emb x) :=
  (congrFun (shapeCast_self _ _) x).trans (cut_eq k hk h ho hs Y x)

theorem obM_set (i : grid0.Coords) : (obM i).view.set = half ((i 0).val % 2) := by
  refine ((View.set_reshape _ _).trans (View.set_slice_whole _ _)).trans ?_
  ext x
  rw [mem_half]
  refine Rect.mem_set_unit.trans ?_
  have h5 := Gen.k0_off5_eq i
  have o0 : k0_off5 i 0 = (i 0).val % 2 := congrFun h5 0
  have o1 : k0_off5 i 1 = 0 := congrFun h5 1
  have o2 : k0_off5 i 2 = 0 := congrFun h5 2
  have h8 : S1x3072x128.size 0 = 1 := rfl
  have h9 : S1x3072x128.size 1 = 3072 := rfl
  have h10 : S1x3072x128.size 2 = 128 := rfl
  have hx1 : (x 1).val < 3072 := (x 1).isLt
  have hx2 : (x 2).val < 128 := (x 2).isLt
  constructor
  · intro hx
    have := hx 0
    omega
  · intro hx a
    fin_cases a
    · show k0_off5 i 0 ≤ (x 0).val ∧ (x 0).val < k0_off5 i 0 + S1x3072x128.size 0; omega
    · show k0_off5 i 1 ≤ (x 1).val ∧ (x 1).val < k0_off5 i 1 + S1x3072x128.size 1; omega
    · show k0_off5 i 2 ≤ (x 2).val ∧ (x 2).val < k0_off5 i 2 + S1x3072x128.size 2; omega

/-- The slot holds the tile's rows once it reads so. -/
theorem obOk_of_read (i : grid0.Coords) (Y : S256x1024.Idx → Elt F .f32) (f : S2x3072x128.Idx → Elt F .f32)
    (hr : ∀ y : S3072x128.Idx, (y 0).val % 12 < 8 → (obM i).view.read (Elt F) f y = gY Y y) : obOk ((i 0).val % 2) Y f := by
  intro x hx0 hx1
  have b1 : (x 1).val < 3072 := (x 1).isLt
  have b2 : (x 2).val < 128 := (x 2).isLt
  have h5 := Gen.k0_off5_eq i
  have := hr (ix2 (⟨(x 1).val, b1⟩ : Fin 3072) (⟨(x 2).val, b2⟩ : Fin 128)) hx1
  refine Eq.trans ?_ this
  show f x = f ((obufM.slice (Rect.unit (s := S2x3072x128) (k0_off5 i) S1x3072x128.size (k0_off5_inb i)) (fun _ => rfl)).view.emb (Shape.reshapeEquiv _ _))
  rw [show Shape.reshapeEquiv (s := S1x3072x128) (s' := S3072x128) squeezes_S1x3072x128_S3072x128.numel_eq (ix2 (⟨(x 1).val, b1⟩ : Fin 3072) (⟨(x 2).val, b2⟩ : Fin 128))
      = ix3 (0 : Fin 1) (⟨(x 1).val, b1⟩ : Fin 3072) (⟨(x 2).val, b2⟩ : Fin 128) from reshapeEquiv_ix2_1ab _ _ _]
  congr 1
  funext a
  apply Fin.ext
  refine Eq.trans ?_ (ValueKit.view_emb_slice_whole_unit_val cc0_scratch0 (k0_off5 i) S1x3072x128.size (k0_off5_inb i) _ a).symm
  fin_cases a
  · exact hx0.trans ((congrFun h5 0).symm.trans (Nat.add_zero _).symm)
  · exact (Nat.zero_add _).symm.trans (congrArg (· + (x 1).val) (congrFun h5 1).symm)
  · exact (Nat.zero_add _).symm.trans (congrArg (· + (x 2).val) (congrFun h5 2).symm)

theorem cover_some {Val : EltTy → Type} {L : List (View.Piece Val S3072x128 .f32)} (k : ℕ) (hk : k < 12) (h) (w) (hm : (⟨srect k h, w⟩ : View.Piece Val S3072x128 .f32) ∈ L)
    (y : S3072x128.Idx) (hy : (y 0).val % 12 = k) : ∃ p ∈ L, y ∈ p.1.set := ⟨_, hm, (mem_srect k hk h y).2 hy⟩

set_option maxHeartbeats 1000000 in
theorem part5_run (c : Dev nD) (i : grid0.Coords)
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole)
    (X13 : S1x256x1024.Idx → Elt F .bf16) (v144 : FVec F S256x1024 .f32) (v162 : FVec F S256x256 .bf16) (f : S2x3072x128.Idx → Elt F .f32) :
    iprop(owns (c : Thread nD τ) arg13 fullShare X13 ∗ (obM i).view.loc (c : Thread nD τ) ↦[(obM i).view.set]{fullShare} f)
      ⊢ wp frame (wpE defs₀ Variants.none (c : Thread nD τ) none) Set.univ
          (k0_part5_skel i (Memref.whole main_v32) (Memref.isWhole_whole _) (Memref.whole main_arg1) (Memref.isWhole_whole _)
      arg3 harg3 arg4 harg4 arg5 harg5 arg6 harg6 arg7 harg7 arg8 harg8 arg9 harg9 arg10 harg10 arg11 harg11 arg12 harg12 arg13 harg13
      outM (Memref.isWhole_whole _) obufM (Memref.isWhole_whole _) cc0_scratch1 v144 v162)
        (fun r => (iprop(⌜∃ z, r = ⟨k0_pay19 v144 v162 X13, k0_pay24 v144 v162 X13, z⟩⌝ ∗ owns (c : Thread nD τ) arg13 fullShare X13
          ∗ ∃ f' : S2x3072x128.Idx → Elt F .f32, ⌜∀ y : S3072x128.Idx, (y 0).val % 12 < 4 → (obM i).view.read (Elt F) f' y = gY (k0_pay19 v144 v162 X13) y⌝
            ∗ (obM i).view.loc (c : Thread nD τ) ↦[(obM i).view.set]{fullShare} f') : sProp 𝕄)) := by
  unfold owns
  iintro ⟨⟨%fx13, %hfx13, HX13⟩, HO⟩
  subst hfx13
  unfold k0_part5_skel
  sl_exec
  sl_step
  rw [View.readAt_full]
  isplitr
  · ipureintro
    exact ⟨_, rfl⟩
  isplitl [HX13]
  · iexists fx13; isplitr; · ipureintro; rfl
    iexact HX13
  iexists _
  isplitr
  swap
  · iexact HO
  ipureintro
  intro y hy
  unfold part5_run.sl.HO_4
  rw [View.readAt_full]
  refine View.read_writes_apply_of_pieces (obM i).view f (gY (k0_pay19 v144 v162 (arg13.view.read (Elt F) fx13))) _ ?_ y ?_
  · intro p hp x
    simp only [List.mem_cons, List.not_mem_nil, _root_.or_false] at hp
    rcases hp with rfl | rfl | rfl | rfl
    · exact cast_cut 3 (by omega) inb_S3072x128_S256x128_3_0_s_12_1 (o := 384) rfl slices_S256x1024_o0_384_S256x128 (k0_pay19 v144 v162 (arg13.view.read (Elt F) fx13)) x
    · exact cast_cut 2 (by omega) inb_S3072x128_S256x128_2_0_s_12_1 (o := 256) rfl slices_S256x1024_o0_256_S256x128 (k0_pay19 v144 v162 (arg13.view.read (Elt F) fx13)) x
    · exact cast_cut 1 (by omega) inb_S3072x128_S256x128_1_0_s_12_1 (o := 128) rfl slices_S256x1024_o0_128_S256x128 (k0_pay19 v144 v162 (arg13.view.read (Elt F) fx13)) x
    · exact cast_cut 0 (by omega) inb_S3072x128_S256x128_0_0_s_12_1 (o := 0) rfl slices_S256x1024_o0_0_S256x128 (k0_pay19 v144 v162 (arg13.view.read (Elt F) fx13)) x
  · obtain h | h | h | h : (y 0).val % 12 = 0 ∨ (y 0).val % 12 = 1 ∨ (y 0).val % 12 = 2 ∨ (y 0).val % 12 = 3 := by omega
    · exact cover_some 0 (by omega) inb_S3072x128_S256x128_0_0_s_12_1 _ (by simp only [List.mem_cons]; exact Or.inr (Or.inr (Or.inr (Or.inl rfl)))) y h
    · exact cover_some 1 (by omega) inb_S3072x128_S256x128_1_0_s_12_1 _ (by simp only [List.mem_cons]; exact Or.inr (Or.inr (Or.inl rfl))) y h
    · exact cover_some 2 (by omega) inb_S3072x128_S256x128_2_0_s_12_1 _ (by simp only [List.mem_cons]; exact Or.inr (Or.inl rfl)) y h
    · exact cover_some 3 (by omega) inb_S3072x128_S256x128_3_0_s_12_1 _ (by simp only [List.mem_cons]; exact Or.inl rfl) y h

set_option maxHeartbeats 1000000 in
/-- The last four column blocks' stores. -/
theorem stores_run (c : Dev nD) (i : grid0.Coords) (v166 : FVec F S256x1024 .f32) (v191 : FVec F S256x128 .f32)
    (hv : v191 = extractStridedSlice S256x128 ![0, 512] v166 slices_S256x1024_o0_512_S256x128) (f : S2x3072x128.Idx → Elt F .f32)
    (hf : ∀ y : S3072x128.Idx, (y 0).val % 12 < 4 → (obM i).view.read (Elt F) f y = gY v166 y)
    {α : Type} (k : Prog (TpuEff nD τ sig (Elt F) Λ₀ .tc) α) (Q : α → sProp 𝕄) :
    ((obM i).view.loc (c : Thread nD τ) ↦[(obM i).view.set]{fullShare} f : sProp 𝕄)
      ⊢ iprop((∀ f' : S2x3072x128.Idx → Elt F .f32, ⌜obOk ((i 0).val % 2) v166 f'⌝ -∗ (obLoc c ↦[half ((i 0).val % 2)]{fullShare} f')
            -∗ wp frame (wpE defs₀ Variants.none (c : Thread nD τ) none) Set.univ k Q)
        -∗ wp frame (wpE defs₀ Variants.none (c : Thread nD τ) none) Set.univ (do
  Prog.lift (.store (obM i) ⟨(⟨![4, 0], S256x128.size, ![12, 1], inb_S3072x128_S256x128_4_0_s_12_1⟩ : LoadRect S3072x128), spos_12_1⟩ (k0_pay2 v191) Finset.univ (View.stores_vmem_bits_univ h_S256x128 rfl) (.inl rfl))
  let v200 : Vec F S256x128 .f32 ← Prog.lift (.load (obM i) (⟨![5, 0], S256x128.size, ![12, 1], inb_S3072x128_S256x128_5_0_s_12_1⟩ : LoadRect S3072x128) (View.loadsAt_vmem h_S256x128))
  Prog.lift (.store (obM i) ⟨(⟨![5, 0], S256x128.size, ![12, 1], inb_S3072x128_S256x128_5_0_s_12_1⟩ : LoadRect S3072x128), spos_12_1⟩ (k0_pay3 v166) Finset.univ (View.stores_vmem_bits_univ h_S256x128 rfl) (.inl rfl))
  let v206 : Vec F S256x128 .f32 ← Prog.lift (.load (obM i) (⟨![6, 0], S256x128.size, ![12, 1], inb_S3072x128_S256x128_6_0_s_12_1⟩ : LoadRect S3072x128) (View.loadsAt_vmem h_S256x128))
  Prog.lift (.store (obM i) ⟨(⟨![6, 0], S256x128.size, ![12, 1], inb_S3072x128_S256x128_6_0_s_12_1⟩ : LoadRect S3072x128), spos_12_1⟩ (k0_pay4 v166) Finset.univ (View.stores_vmem_bits_univ h_S256x128 rfl) (.inl rfl))
  let v212 : Vec F S256x128 .f32 ← Prog.lift (.load (obM i) (⟨![7, 0], S256x128.size, ![12, 1], inb_S3072x128_S256x128_7_0_s_12_1⟩ : LoadRect S3072x128) (View.loadsAt_vmem h_S256x128))
  Prog.lift (.store (obM i) ⟨(⟨![7, 0], S256x128.size, ![12, 1], inb_S3072x128_S256x128_7_0_s_12_1⟩ : LoadRect S3072x128), spos_12_1⟩ (k0_pay5 v166) Finset.univ (View.stores_vmem_bits_univ h_S256x128 rfl) (.inl rfl))
  k) Q) := by
  iintro HO Hk
  sl_exec
  have hO := obOk_of_read i v166 _ (?_ : ∀ y : S3072x128.Idx, (y 0).val % 12 < 8 → (obM i).view.read (Elt F) ((obM i).view.writes (Elt F) f
      [⟨srect 7 inb_S3072x128_S256x128_7_0_s_12_1, k0_pay5 v166⟩, ⟨srect 6 inb_S3072x128_S256x128_6_0_s_12_1, k0_pay4 v166⟩,
        ⟨srect 5 inb_S3072x128_S256x128_5_0_s_12_1, k0_pay3 v166⟩, ⟨srect 4 inb_S3072x128_S256x128_4_0_s_12_1, k0_pay2 v191⟩]) y = gY v166 y)
  · ispecialize Hk $$ %_
    ispecialize Hk $$ %hO
    iapply Hk
    rw [← obM_set]
    iexact HO
  subst hv
  intro y hy
  by_cases h4 : (y 0).val % 12 < 4
  · refine (View.read_writes_apply_of_forall_not_mem (obM i).view f y _ ?_).trans (hf y h4)
    intro p hp
    simp only [List.mem_cons, List.not_mem_nil, _root_.or_false] at hp
    rcases hp with rfl | rfl | rfl | rfl
    · intro hc; have := (mem_srect 7 (by omega) inb_S3072x128_S256x128_7_0_s_12_1 y).1 hc; omega
    · intro hc; have := (mem_srect 6 (by omega) inb_S3072x128_S256x128_6_0_s_12_1 y).1 hc; omega
    · intro hc; have := (mem_srect 5 (by omega) inb_S3072x128_S256x128_5_0_s_12_1 y).1 hc; omega
    · intro hc; have := (mem_srect 4 (by omega) inb_S3072x128_S256x128_4_0_s_12_1 y).1 hc; omega
  refine View.read_writes_apply_of_pieces (obM i).view f (gY v166) _ ?_ y ?_
  · intro p hp x
    simp only [List.mem_cons, List.not_mem_nil, _root_.or_false] at hp
    rcases hp with rfl | rfl | rfl | rfl
    · exact cast_cut 7 (by omega) inb_S3072x128_S256x128_7_0_s_12_1 (o := 896) rfl slices_S256x1024_o0_896_S256x128 v166 x
    · exact cast_cut 6 (by omega) inb_S3072x128_S256x128_6_0_s_12_1 (o := 768) rfl slices_S256x1024_o0_768_S256x128 v166 x
    · exact cast_cut 5 (by omega) inb_S3072x128_S256x128_5_0_s_12_1 (o := 640) rfl slices_S256x1024_o0_640_S256x128 v166 x
    · exact cast_cut 4 (by omega) inb_S3072x128_S256x128_4_0_s_12_1 (o := 512) rfl slices_S256x1024_o0_512_S256x128 v166 x
  · obtain h | h | h | h : (y 0).val % 12 = 4 ∨ (y 0).val % 12 = 5 ∨ (y 0).val % 12 = 6 ∨ (y 0).val % 12 = 7 := by omega
    · exact cover_some 4 (by omega) inb_S3072x128_S256x128_4_0_s_12_1 _ (by simp only [List.mem_cons]; exact Or.inr (Or.inr (Or.inr (Or.inl rfl)))) y h
    · exact cover_some 5 (by omega) inb_S3072x128_S256x128_5_0_s_12_1 _ (by simp only [List.mem_cons]; exact Or.inr (Or.inr (Or.inl rfl))) y h
    · exact cover_some 6 (by omega) inb_S3072x128_S256x128_6_0_s_12_1 _ (by simp only [List.mem_cons]; exact Or.inr (Or.inl rfl)) y h
    · exact cover_some 7 (by omega) inb_S3072x128_S256x128_7_0_s_12_1 _ (by simp only [List.mem_cons]; exact Or.inl rfl) y h

end Cert.KernelIdeal.Hand

end
-- ==== Proof.Tail.lean ====
/-
  The pieces around a tile's computation: the issue loop on an idle slot, the last drain, the fill of the padding blocks.
-/
module

public import proofs.«01_k».proof.Proof.Mid
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Sequencing -/

/-- A program run first, the rest from what it leaves. -/
theorem seq_run (c : Dev nD) {α β : Type} (P : sProp 𝕄) (p : Prog (TpuEff nD τ sig (Elt F) Λ₀ .tc) α) (R : α → sProp 𝕄)
    (hp : P ⊢ wp frame (wpE defs₀ Variants.none (c : Thread nD τ) none) Set.univ p R)
    (k : α → Prog (TpuEff nD τ sig (Elt F) Λ₀ .tc) β) (Q : β → sProp 𝕄) :
    P ⊢ iprop((∀ r, R r -∗ wp frame (wpE defs₀ Variants.none (c : Thread nD τ) none) Set.univ (k r) Q)
      -∗ wp frame (wpE defs₀ Variants.none (c : Thread nD τ) none) Set.univ (p >>= k) Q) := by
  rw [wp_bind]
  exact hp.trans (wp_wand _ _ _)

theorem cell7 : ∀ i : grid0.Coords, tsem i = .dma (dcell ((i 0).val % 2)) := by decide +kernel
theorem cell10 : ∀ i : grid0.Coords,
    (((cc0_scratch1 : DmaSems sig S2).slice (Rect.unit (s := S2) (k0_off10 i) S1.size (k0_off10_inb i))).squeeze S_ squeezes_S1_S_).sem
      = dcell ((i 0).val % 2) := by decide +kernel
theorem cell12 : ∀ (i : grid0.Coords) (h : k0_cond5 i = 1#1),
    (((cc0_scratch1 : DmaSems sig S2).slice (Rect.unit (s := S2) (k0_off12 i) S1.size (k0_off12_inb i h))).squeeze S_ squeezes_S1_S_).sem
      = dcell (((i 0).val - 1) % 2) := by decide +kernel
theorem cellA : (((cc0_scratch1 : DmaSems sig S2).slice (Rect.unit (s := S2) ![0] S1.size inb_S2_S1_0)).squeeze S_ squeezes_S1_S_).sem = dcell 0 := by decide +kernel
theorem cellB : (((cc0_scratch1 : DmaSems sig S2).slice (Rect.unit (s := S2) ![1] S1.size inb_S2_S1_1)).squeeze S_ squeezes_S1_S_).sem = dcell 1 := by decide +kernel

/-! ## A tile sent -/

/-- The issue loop on an idle slot: the slot's 256 copies in flight. -/
theorem start_run (c : Dev nD) (i : grid0.Coords) {ivf : ℕ → ℕ} {N : ℕ} (hL : Lay ivf N) (hi : (i 0).val < N) (Yf : ℕ → S256x1024.Idx → Elt F .f32)
    (arg3 : Memref sig .tc .smem S1x1x256 .i32) (X : S1x1x256.Idx → Elt F .i32)
    (hX : ∀ k : Fin 256, ((X (ix3 (0 : Fin 1) (0 : Fin 1) k) : BitVec 32)).toNat = dstOf ivf (i 0).val k)
    (f : S2x3072x128.Idx → Elt F .f32) (hf : obOk ((i 0).val % 2) (Yf (i 0).val) f) (n : ℕ)
    (v0 : Elt F .i32) (h2 : k0_cond2 i v0 = 1#1)
    {α : Type} (k : Unit → Prog (TpuEff nD τ sig (Elt F) Λ₀ .tc) α) (Q : α → sProp 𝕄) :
    iprop(semVal ((c : Thread nD τ), SemLoc.dma (dcell ((i 0).val % 2))) 0 ∗ (obLoc c ↦[half ((i 0).val % 2)]{fullShare} (f : Buf (Elt F) (obLoc c)))
        ∗ ownOut c ivf Yf (avail ivf (i 0).val) n ∗ owns (c : Thread nD τ) arg3 fullShare X)
      ⊢ iprop(((fly c ivf Yf ((i 0).val % 2) (i 0).val ∗ ownOut c ivf Yf (avail ivf (i 0).val \ bs ivf (i 0).val) n ∗ owns (c : Thread nD τ) arg3 fullShare X)
            -∗ wp frame (wpE defs₀ Variants.none (c : Thread nD τ) none) Set.univ (k ()) Q)
          -∗ wp frame (wpE defs₀ Variants.none (c : Thread nD τ) none) Set.univ (Scf.Loop.for k0_t1_loop k0_t1_ok ⟨⟩ (trip i arg3 v0 h2) >>= k) Q) := by
  unfold ownOut
  iintro ⟨Hs, Hf, ⟨%g, %hg, HO⟩, HX⟩ Hk
  imod (Transfers.batch_alloc' (countersEmb (U := Pipeline.UD sig nD τ)) (c := (c : Thread nD τ)) (sm := .dma (dcell ((i 0).val % 2))) () NN (dlv c (dstOf ivf (i 0).val) (Yf (i 0).val) ((i 0).val % 2))) $$ Hs with HB
  iapply (seq_run c _ _ _ (loop_run c i arg3 X (dstOf ivf (i 0).val) (Yf (i 0).val) ((i 0).val % 2) (avail ivf (i 0).val) g f v0 h2 rfl hX
    (fun t => hL.lt _ (by have := t.isLt; omega)) (avail_sup hL hi) (hL.inj hi) hf) k Q) $$ [HB Hf HO HX]
  · unfold loopInv
    rw [cell7, bsets_zero, rsets_zero, Finset.sdiff_empty, Finset.sdiff_empty]
    isplitl [HB]; · iexact HB
    isplitl [HO]; · iexact HO
    isplitl [Hf]; · iexact Hf
    iexact HX
  iintro %r H
  unfold loopInv
  rw [cell7]
  icases H with ⟨HB, HO, Hf, HX⟩
  iapply Hk
  isplitl [HB Hf]
  · unfold fly
    isplitl [HB]; · iexact HB
    iexists f; iexact Hf
  isplitl [HO]
  · iexists g
    isplitr; · ipureintro; exact hg
    iexact HO
  iexact HX

/-! ## The last drain -/

/-- Two waits: every copy of the slot delivered. -/
theorem wait_run (c : Dev nD) (ivf : ℕ → ℕ) (Yf : ℕ → S256x1024.Idx → Elt F .f32) (p b : ℕ)
    {α : Type} {sem : DmaSem sig} (hsem : sem = dcell p)
    {s1 s2 : Shape} {src1 : Memref sig .tc .vmem s1 .f32} {src2 : Memref sig .tc .vmem s2 .f32}
    {dst1 dst2 : Memref sig .tc .hbm S1024x128 .f32} {hs1 hd1 hs2 hd2}
    (k : PUnit → Prog (TpuEff nD τ sig (Elt F) Λ₀ .tc) α) (Q : α → sProp 𝕄) (W : Waits sig Unit) :
    iprop(fly c ivf Yf p b ∗ owes (c : Thread nD τ) 0 W)
      ⊢ iprop(((bigSep Finset.univ (dlv c (dstOf ivf b) (Yf b) p) ∗ semVal ((c : Thread nD τ), SemLoc.dma (dcell p)) 0
              ∗ (∃ f : Buf (Elt F) (obLoc c), obLoc c ↦[half p \ rsets p 256]{fullShare} f) ∗ ∃ W, owes (c : Thread nD τ) 0 W)
            -∗ wp frame (wpE defs₀ Variants.none (c : Thread nD τ) none) Set.univ (k ⟨⟩) Q)
          -∗ wp frame (wpE defs₀ Variants.none (c : Thread nD τ) none) Set.univ
            (.op (.waitDma2 sem src1 dst1 hs1 hd1) fun _ => .op (.waitDma2 sem src2 dst2 hs2 hd2) k) Q) := by
  subst hsem
  unfold fly
  iintro ⟨⟨HB, Hf⟩, HW⟩ Hk
  iapply (Transfers.wp_waitBatchMul (countersEmb (U := Pipeline.UD sig nD τ)) Variants.none (c : Thread nD τ) none () (N := NN) 128
    credit_half (D := dlv c (dstOf ivf b) (Yf b) p) (j := 256) (u := 0) (by decide)) $$ [HB HW]
  · isplitl [HB]; · iexact HB
    iexact HW
  iintro ⟨HB, HW⟩
  iapply (Transfers.wp_waitBatchAll (countersEmb (U := Pipeline.UD sig nD τ)) Variants.none (c : Thread nD τ) none () (N := NN) (J := 128 * NN)
    credit_half (by decide) (D := dlv c (dstOf ivf b) (Yf b) p) (u := 0 + 128 * NN) (by decide)) $$ [HB HW]
  · isplitl [HB]; · iexact HB
    iexact HW
  iintro ⟨HD, Hs, HW⟩
  iapply Hk
  isplitl [HD]; · iexact HD
  isplitl [Hs]; · iexact Hs
  isplitl [Hf]; · iexact Hf
  iexists _; iexact HW

/-! ## The first point's fill of the padding blocks -/

abbrev zsrc (off : Fin 3 → ℕ) (h : ∀ a, off a + S1x2048x128.size a ≤ S2x3072x128.size a) : Memref sig .tc .vmem S2048x128 .f32 :=
  ((Memref.whole cc0_scratch0 : Memref sig .tc .vmem S2x3072x128 .f32).slice (Rect.unit (s := S2x3072x128) off S1x2048x128.size h) (fun _ => rfl)).squeeze S2048x128 squeezes_S1x2048x128_S2048x128
abbrev zdst (off : Fin 2 → ℕ) (h : ∀ a, off a + S2048x128.size a ≤ S266240x128.size a) : Memref sig .tc .hbm S2048x128 .f32 :=
  (Memref.whole main_v33 : Memref sig .tc .hbm S266240x128 .f32).slice (Rect.unit (s := S266240x128) off S2048x128.size h) (fun _ => rfl)

/-- What a fill brings back. -/
def zdlv (c : Dev nD) (T : Finset S2x3072x128.Idx) (S : Finset S266240x128.Idx) (_ : Fin 1) : sProp 𝕄 :=
  iprop((∃ g : Buf (Elt F) (outLoc c), (outLoc c ↦[S]{fullShare} g)) ∗ (∃ f : Buf (Elt F) (obLoc c), obLoc c ↦[T]{fullShare} f))
instance zdlv_storable (c : Dev nD) (T : Finset S2x3072x128.Idx) (S : Finset S266240x128.Idx) (t : Fin 1) :
    BI.Storable (upEmb : UEmb _ 𝕄) (zdlv c T S t) := by
  unfold zdlv; infer_instance

theorem zdlv_all (c : Dev nD) (T : Finset S2x3072x128.Idx) (S : Finset S266240x128.Idx) : (bigSep Finset.univ (zdlv c T S) : sProp 𝕄)
    ⊢ iprop((∃ g : Buf (Elt F) (outLoc c), (outLoc c ↦[S]{fullShare} g)) ∗ (∃ f : Buf (Elt F) (obLoc c), obLoc c ↦[T]{fullShare} f)) := by
  rw [show (Finset.univ : Finset (Fin 1)) = {0} from rfl, bigSep_singleton]
  exact .rfl

theorem credit_fill : RefSig.tileCredit S2048x128 .f32 = 32768 := by decide

/-- One fill: a copy and its wait. -/
theorem fill_run (c : Dev nD) {p : ℕ} {sem : DmaSem sig} (hsem : sem = dcell p) (off : Fin 3 → ℕ) (h) (off' : Fin 2 → ℕ) (h')
    {hs1 hd1 he hs2 hd2} (f : S2x3072x128.Idx → Elt F .f32) (g : S266240x128.Idx → Elt F .f32)
    {α : Type} (k : PUnit → Prog (TpuEff nD τ sig (Elt F) Λ₀ .tc) α) (Q : α → sProp 𝕄) (W : Waits sig Unit) :
    iprop(semVal ((c : Thread nD τ), SemLoc.dma (dcell p)) 0 ∗ (obLoc c ↦{fullShare} (f : Buf (Elt F) (obLoc c)))
        ∗ (outLoc c ↦{fullShare} (g : Buf (Elt F) (outLoc c))) ∗ owes (c : Thread nD τ) 0 W)
      ⊢ iprop(((semVal ((c : Thread nD τ), SemLoc.dma (dcell p)) 0 ∗ (∃ f : Buf (Elt F) (obLoc c), obLoc c ↦{fullShare} f)
        ∗ (∃ g : Buf (Elt F) (outLoc c), outLoc c ↦{fullShare} g) ∗ ∃ W, owes (c : Thread nD τ) 0 W)
            -∗ wp frame (wpE defs₀ Variants.none (c : Thread nD τ) none) Set.univ (k ⟨⟩) Q)
          -∗ wp frame (wpE defs₀ Variants.none (c : Thread nD τ) none) Set.univ
            (.op (.enqueueDma (zsrc off h) (.here (zdst off' h')) (.dma sem) hs1 hd1 he) fun _ => .op (.waitDma2 sem (zsrc off h) (zdst off' h') hs2 hd2) k) Q) := by
  subst hsem
  iintro ⟨Hs, Hf, Hg, HW⟩ Hk
  ihave Hf' := (pointsTo_split_subset (Finset.subset_univ (zsrc off h).view.set)).1 $$ Hf
  icases Hf' with ⟨Hf1, Hf2⟩
  ihave Hg' := (pointsTo_split_subset (Finset.subset_univ (zdst off' h').view.set)).1 $$ Hg
  icases Hg' with ⟨Hg1, Hg2⟩
  imod (Transfers.batch_alloc' (countersEmb (U := Pipeline.UD sig nD τ)) (c := (c : Thread nD τ)) (sm := .dma (dcell p)) () 32768 (zdlv c (zsrc off h).view.set (zdst off' h').view.set)) $$ Hs with HB
  iapply (Transfers.wp_dmaBatch (countersEmb (U := Pipeline.UD sig nD τ)) Variants.none (c : Thread nD τ) none () 32768
    (show (zdst off' h').view.amount (.dma (dcell p)) = 32768 from credit_fill) (Finset.Subset.refl _) (by decide : 0 < 1) (Nat.zero_le _)
    (D := zdlv c (zsrc off h).view.set (zdst off' h').view.set) (fd := g) (fs := f) (q := fullShare) ?_) $$ [Hf1 Hg1 HB]
  · unfold zdlv
    iintro ⟨H1, H2⟩
    isplitl [H1]
    · iexists _; iexact H1
    · iexists _; iexact H2
  · isplitl [Hf1]; · iexact Hf1
    isplitl [Hg1]; · iexact Hg1
    iexact HB
  iintro HB
  iapply (Transfers.wp_waitBatchAll (countersEmb (U := Pipeline.UD sig nD τ)) Variants.none (c : Thread nD τ) none () (N := 32768) (J := 32768)
    credit_fill (by decide) (D := zdlv c (zsrc off h).view.set (zdst off' h').view.set) (u := 0) (by decide)) $$ [HB HW]
  · isplitl [HB]; · iexact HB
    iexact HW
  iintro ⟨HD, Hs, HW⟩
  ihave HD' := (zdlv_all c _ _) $$ HD
  icases HD' with ⟨⟨%g1, Hg1⟩, ⟨%f1, Hf1⟩⟩
  iapply Hk
  isplitl [Hs]; · iexact Hs
  isplitl [Hf1 Hf2]
  · iexists _
    iapply (pointsTo_join_subset (Finset.subset_univ (zsrc off h).view.set))
    isplitl [Hf1]; · iexact Hf1
    iexact Hf2
  isplitl [Hg1 Hg2]
  · iexists _
    iapply (pointsTo_join_subset (Finset.subset_univ (zdst off' h').view.set))
    isplitl [Hg1]; · iexact Hg1
    iexact Hg2
  iexists _; iexact HW

theorem half_sub : half 1 = (Finset.univ : Finset S2x3072x128.Idx) \ half 0 := by
  ext x
  rw [Finset.mem_sdiff, mem_half, mem_half]
  have : (x 0).val < 2 := (x 0).isLt
  simp only [Finset.mem_univ, true_and]
  omega

/-- The two halves of the output buffer. -/
theorem halves (c : Dev nD) (f : S2x3072x128.Idx → Elt F .f32) :
    ((obLoc c ↦{fullShare} (f : Buf (Elt F) (obLoc c))) : sProp 𝕄) ⊢ iprop((obLoc c ↦[half 0]{fullShare} (f : Buf (Elt F) (obLoc c))) ∗ (obLoc c ↦[half 1]{fullShare} (f : Buf (Elt F) (obLoc c)))) := by
  rw [half_sub]
  exact (pointsTo_split_subset (Finset.subset_univ (half 0))).1
theorem unhalves (c : Dev nD) (f g : S2x3072x128.Idx → Elt F .f32) :
    (iprop((obLoc c ↦[half 0]{fullShare} (f : Buf (Elt F) (obLoc c))) ∗ (obLoc c ↦[half 1]{fullShare} (g : Buf (Elt F) (obLoc c)))) : sProp 𝕄)
      ⊢ iprop(∃ f : Buf (Elt F) (obLoc c), obLoc c ↦{fullShare} f) := by
  rw [half_sub]
  iintro H
  iexists _
  iapply (pointsTo_join_subset (Finset.subset_univ (half 0)))
  iexact H

end Cert.KernelIdeal.Hand

end
-- ==== Proof.Fin.lean ====
/-
  The end of the body: the drain at the last tile in use.
-/
module

public import proofs.«01_k».proof.Proof.Tail
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## When the tests hold -/

theorem cond2_fin : ∀ (i : grid0.Coords) (n : Fin 153), k0_cond2 i (BitVec.ofNat 32 n.val) = 1#1 ↔ (i 0).val < n.val := by decide +kernel
theorem cond2_iff (i : grid0.Coords) {v0 : BitVec 32} {N : ℕ} (hv : v0.toNat = N) (hN : N ≤ 152) : k0_cond2 i v0 = 1#1 ↔ (i 0).val < N := by
  have h : v0 = BitVec.ofNat 32 N := BitVec.eq_of_toNat_eq (by rw [BitVec.toNat_ofNat]; omega)
  rw [h]; exact cond2_fin i ⟨N, by omega⟩
/-- The test for the last tile in use. -/
abbrev lastc (i : grid0.Coords) (v0 : BitVec 32) : BitVec 1 :=
  Scalar.cmpi .ne (Scalar.extui (Scalar.cmpi .eq (BitVec.ofNat 32 (i 0).val) (Scalar.subi v0 1#32)) : BitVec 32) 0#32
theorem last_fin : ∀ (i : grid0.Coords) (n : Fin 152), lastc i (BitVec.ofNat 32 (n.val + 1)) = 1#1 ↔ (i 0).val = n.val := by decide +kernel
theorem last_iff (i : grid0.Coords) {v0 : BitVec 32} {N : ℕ} (hv : v0.toNat = N) (hN1 : 1 ≤ N) (hN : N ≤ 152) : lastc i v0 = 1#1 ↔ (i 0).val + 1 = N := by
  have h : v0 = BitVec.ofNat 32 (N - 1 + 1) := BitVec.eq_of_toNat_eq (by rw [BitVec.toNat_ofNat]; omega)
  rw [h]
  have := last_fin i ⟨N - 1, by omega⟩
  simp only at this
  rw [this]; omega
theorem first_iff : ∀ i : grid0.Coords, Scalar.cmpi .ne (Scalar.extui (Scalar.cmpi .eq (BitVec.ofNat 32 (i 0).val) 0#32) : BitVec 32) 0#32 = 1#1 ↔ (i 0).val = 0 := by decide +kernel

/-! ## The end of the body -/

/-- The end of the body: the drain at the last tile in use. -/
def finP (i : grid0.Coords) (v0 : Elt F .i32) : Prog (TpuEff nD τ sig (Elt F) Λ₀ .tc) PUnit := do
  let v8 : BitVec 32 := Scalar.subi v0 1#32
  let v9 : BitVec 1 := Scalar.cmpi .eq (BitVec.ofNat 32 (i 0).val) v8
  let v10 : BitVec 32 := Scalar.extui v9
  let v11 : BitVec 1 := Scalar.cmpi .ne v10 0#32
  if v11 = 1#1 then do
    let v12 : DmaSems sig S1 := cc0_scratch1.slice (Rect.unit (s := S2) (k0_off10 i) S1.size (k0_off10_inb i))
    let v13 : DmaSems sig S_ := v12.squeeze S_ squeezes_S1_S_
    let v14 : Memref sig .tc .hbm S1024x128 .f32 := outM.slice (Rect.unit (s := S266240x128) ![0, 0] S1024x128.size inb_S266240x128_S1024x128_0_0) (fun _ => rfl)
    let v15 : Memref sig .tc .vmem S1x1024x128 .f32 := obufM.slice (Rect.unit (s := S2x3072x128) (k0_off11 i) S1x1024x128.size (k0_off11_inb i)) (fun _ => rfl)
    let v16 : Memref sig .tc .vmem S1024x128 .f32 := v15.squeeze S1024x128 squeezes_S1x1024x128_S1024x128
    Prog.lift (.waitDma2 v13.sem v16 v14 ((View.wordExact_bits rfl).reshape _ _) (View.wordExact_bits rfl))
    let v17 : DmaSems sig S1 := cc0_scratch1.slice (Rect.unit (s := S2) (k0_off10 i) S1.size (k0_off10_inb i))
    let v18 : DmaSems sig S_ := v17.squeeze S_ squeezes_S1_S_
    let v19 : Memref sig .tc .hbm S1024x128 .f32 := outM.slice (Rect.unit (s := S266240x128) ![0, 0] S1024x128.size inb_S266240x128_S1024x128_0_0) (fun _ => rfl)
    let v20 : Memref sig .tc .vmem S1x1024x128 .f32 := obufM.slice (Rect.unit (s := S2x3072x128) (k0_off11 i) S1x1024x128.size (k0_off11_inb i)) (fun _ => rfl)
    let v21 : Memref sig .tc .vmem S1024x128 .f32 := v20.squeeze S1024x128 squeezes_S1x1024x128_S1024x128
    Prog.lift (.waitDma2 v18.sem v21 v19 ((View.wordExact_bits rfl).reshape _ _) (View.wordExact_bits rfl))
    if k0_h5 : k0_cond5 i = 1#1 then do
      let v26 : DmaSems sig S1 := cc0_scratch1.slice (Rect.unit (s := S2) (k0_off12 i) S1.size (k0_off12_inb i k0_h5))
      let v27 : DmaSems sig S_ := v26.squeeze S_ squeezes_S1_S_
      let v28 : Memref sig .tc .hbm S1024x128 .f32 := outM.slice (Rect.unit (s := S266240x128) ![0, 0] S1024x128.size inb_S266240x128_S1024x128_0_0) (fun _ => rfl)
      let v29 : Memref sig .tc .vmem S1x1024x128 .f32 := obufM.slice (Rect.unit (s := S2x3072x128) (k0_off13 i) S1x1024x128.size (k0_off13_inb i k0_h5)) (fun _ => rfl)
      let v30 : Memref sig .tc .vmem S1024x128 .f32 := v29.squeeze S1024x128 squeezes_S1x1024x128_S1024x128
      Prog.lift (.waitDma2 v27.sem v30 v28 ((View.wordExact_bits rfl).reshape _ _) (View.wordExact_bits rfl))
      let v31 : DmaSems sig S1 := cc0_scratch1.slice (Rect.unit (s := S2) (k0_off12 i) S1.size (k0_off12_inb i k0_h5))
      let v32 : DmaSems sig S_ := v31.squeeze S_ squeezes_S1_S_
      let v33 : Memref sig .tc .hbm S1024x128 .f32 := outM.slice (Rect.unit (s := S266240x128) ![0, 0] S1024x128.size inb_S266240x128_S1024x128_0_0) (fun _ => rfl)
      let v34 : Memref sig .tc .vmem S1x1024x128 .f32 := obufM.slice (Rect.unit (s := S2x3072x128) (k0_off13 i) S1x1024x128.size (k0_off13_inb i k0_h5)) (fun _ => rfl)
      let v35 : Memref sig .tc .vmem S1024x128 .f32 := v34.squeeze S1024x128 squeezes_S1x1024x128_S1024x128
      Prog.lift (.waitDma2 v32.sem v35 v33 ((View.wordExact_bits rfl).reshape _ _) (View.wordExact_bits rfl))
      pure ⟨⟩
    else do
      pure ⟨⟩
    pure ⟨⟩
  else do
    pure ⟨⟩
  pure ⟨⟩

/-- A point past the last tile leaves everything. -/
theorem fin_idle (c : Dev nD) (i : grid0.Coords) {ivf : ℕ → ℕ} {N : ℕ} (Yf : ℕ → S256x1024.Idx → Elt F .f32)
    (v0 : Elt F .i32) (hv : (v0 : BitVec 32).toNat = N) (hN1 : 1 ≤ N) (hN : N ≤ 152) (hi : N ≤ (i 0).val) :
    (St c ivf Yf N (i 0).val : sProp 𝕄)
      ⊢ wp frame (wpE defs₀ Variants.none (c : Thread nD τ) none) Set.univ (finP i v0) (fun _ => St c ivf Yf N ((i 0).val + 1)) := by
  have hl : ¬ lastc i v0 = 1#1 := fun h => by have := (last_iff i hv hN1 hN).1 h; omega
  unfold finP
  rw [if_neg hl]
  unfold St
  rw [if_pos hi, if_pos (by omega)]
  iintro H
  sl_step
  iexact H

/-- A tile in use: the next point's state, or at the last one everything drained. -/
theorem fin_busy (c : Dev nD) (i : grid0.Coords) {ivf : ℕ → ℕ} {N : ℕ} (hL : Lay ivf N) (Yf : ℕ → S256x1024.Idx → Elt F .f32)
    (v0 : Elt F .i32) (hv : (v0 : BitVec 32).toNat = N) (hN1 : 1 ≤ N) (hN : N ≤ 152) (hi : (i 0).val < N) [Nonempty (Elt F .f32)] (W : Waits sig Unit) :
    (iprop(fly c ivf Yf ((i 0).val % 2) (i 0).val ∗ other c ivf Yf (i 0).val
        ∗ ownOut c ivf Yf (avail ivf (i 0).val \ bs ivf (i 0).val) ((i 0).val - 1) ∗ owes (c : Thread nD τ) 0 W) : sProp 𝕄)
      ⊢ wp frame (wpE defs₀ Variants.none (c : Thread nD τ) none) Set.univ (finP i v0)
        (fun _ => iprop(St c ivf Yf N ((i 0).val + 1) ∗ ∃ W, owes (c : Thread nD τ) 0 W)) := by
  unfold finP
  by_cases hl : lastc i v0 = 1#1
  · have hN' := (last_iff i hv hN1 hN).1 hl
    rw [if_pos hl]
    by_cases h5 : k0_cond5 i = 1#1
    · have h1 := (cond5_iff i).1 h5
      rw [dif_pos h5, other_pos c ivf Yf (by omega), avail_pos ivf (by omega)]
      unfold St
      rw [if_pos (by omega)]
      simp only [Prog.bind_lift, Prog.bind_op]
      iintro ⟨HA, HB, HO, HW⟩
      iapply (wait_run c ivf Yf ((i 0).val % 2) (i 0).val (cell10 i) _ _ _) $$ [HA HW]
      · isplitl [HA]; · iexact HA
        iexact HW
      iintro ⟨HDa, Hsa, Hfa, ⟨%W1, HW⟩⟩
      iapply (wait_run c ivf Yf (((i 0).val - 1) % 2) ((i 0).val - 1) (cell12 i h5) _ _ _) $$ [HB HW]
      · isplitl [HB]; · iexact HB
        iexact HW
      iintro ⟨HDb, Hsb, Hfb, ⟨%W2, HW⟩⟩
      have hdis : Disjoint (bs ivf (i 0).val) (bs ivf ((i 0).val - 1)) := by
        have := hL.disj (b := (i 0).val - 1) (by omega)
        rwa [show (i 0).val - 1 + 1 = (i 0).val by omega] at this
      ihave H1 := (drained c hL Yf (A := (Finset.univ \ bs ivf ((i 0).val - 1)) \ bs ivf (i 0).val) (A' := Finset.univ \ bs ivf (i 0).val)
        (p := ((i 0).val - 1) % 2) (b := (i 0).val - 1) (by omega) ?_ ?_) $$ [HDb Hsb Hfb HO]
      · rw [sdiff_right_comm]
        exact (Finset.union_sdiff_of_subset fun x hx => Finset.mem_sdiff.2 ⟨Finset.mem_univ _, fun h => Finset.disjoint_left.1 hdis h hx⟩).symm
      · rw [Finset.disjoint_left]
        intro x hx hy
        exact (Finset.mem_sdiff.1 (Finset.mem_sdiff.1 hy).1).2 hx
      · isplitl [HDb]; · iexact HDb
        isplitl [Hsb]; · iexact Hsb
        isplitl [Hfb]; · iexact Hfb
        iexact HO
      icases H1 with ⟨Hib, HO⟩
      rw [show (i 0).val - 1 + 1 = (i 0).val by omega]
      ihave H2 := (drained c hL Yf (A := Finset.univ \ bs ivf (i 0).val) (A' := Finset.univ)
        (p := (i 0).val % 2) (b := (i 0).val) (by omega) (Finset.union_sdiff_of_subset (Finset.subset_univ _)).symm Finset.disjoint_sdiff) $$ [HDa Hsa Hfa HO]
      · isplitl [HDa]; · iexact HDa
        isplitl [Hsa]; · iexact Hsa
        isplitl [Hfa]; · iexact Hfa
        iexact HO
      icases H2 with ⟨Hia, HO⟩
      sl_step
      rw [hN']
      isplitr [HW]
      · obtain h | h : (i 0).val % 2 = 0 ∨ (i 0).val % 2 = 1 := by omega
        · rw [show ((i 0).val - 1) % 2 = 1 by omega, h]
          isplitl [Hia]; · iexact Hia
          isplitl [Hib]; · iexact Hib
          iexact HO
        · rw [show ((i 0).val - 1) % 2 = 0 by omega, h]
          isplitl [Hib]; · iexact Hib
          isplitl [Hia]; · iexact Hia
          iexact HO
      · iexists _; iexact HW
    · have h1 : (i 0).val = 0 := by
        have : ¬ 1 ≤ (i 0).val := fun h => h5 ((cond5_iff i).2 h)
        omega
      rw [dif_neg h5]
      have hN1' : N = 1 := by omega
      unfold other avail
      rw [if_pos h1, if_pos h1]
      unfold St
      rw [if_pos (by omega)]
      simp only [Prog.bind_lift, Prog.bind_op]
      iintro ⟨HA, HB, HO, HW⟩
      rw [h1]
      iapply (drain_run c hL Yf (A := Finset.univ \ bs ivf 0) (A' := Finset.univ) (p := 0) (b := 0) (by omega)
        (Finset.union_sdiff_of_subset (Finset.subset_univ _)).symm Finset.disjoint_sdiff ((cell10 i).trans (by rw [h1])) _ _ _) $$ [HA HO HW]
      · isplitl [HA]; · iexact HA
        isplitl [HO]; · iexact HO
        iexact HW
      iintro ⟨Hia, HO, HW⟩
      sl_step
      rw [hN1']
      isplitr [HW]
      · isplitl [Hia]; · iexact Hia
        isplitl [HB]; · iexact HB
        iexact HO
      · iexact HW
  · have hN' : ¬ (i 0).val + 1 = N := fun h => hl ((last_iff i hv hN1 hN).2 h)
    rw [if_neg hl]
    have hS : (iprop(fly c ivf Yf ((i 0).val % 2) (i 0).val ∗ other c ivf Yf (i 0).val
        ∗ ownOut c ivf Yf (avail ivf (i 0).val \ bs ivf (i 0).val) ((i 0).val - 1)) : sProp 𝕄) ⊢ St c ivf Yf N ((i 0).val + 1) := by
      by_cases h0 : (i 0).val = 0
      · unfold other avail
        rw [if_pos h0, if_pos h0]
        unfold St
        rw [if_neg (by omega), if_neg (by omega), if_pos (by omega), h0]
      · unfold other avail
        rw [if_neg h0, if_neg h0]
        unfold St
        rw [if_neg (by omega), if_neg (by omega), if_neg (by omega), show (i 0).val + 1 - 1 = (i 0).val by omega, show (i 0).val + 1 - 2 = (i 0).val - 1 by omega,
          show ((i 0).val + 1) % 2 = ((i 0).val - 1) % 2 by omega,
          sdiff_right_comm]
    iintro ⟨HA, HB, HO, HW⟩
    sl_step
    isplitr [HW]
    · iapply hS
      isplitl [HA]; · iexact HA
      isplitl [HB]; · iexact HB
      iexact HO
    · iexists _; iexact HW

end Cert.KernelIdeal.Hand

end
-- ==== Proof.Rest.lean ====
/-
  The body from the tile on.
-/
module

public import proofs.«01_k».proof.Proof.Fin
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## From the tile on -/

set_option cleanup.letToHave false in
/-- The body after the first point's fill. -/
def restP (i : grid0.Coords)
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole) (v0 : Elt F .i32) : Prog (TpuEff nD τ sig (Elt F) Λ₀ .tc) PUnit := do
  if k0_h2 : k0_cond2 i v0 = 1#1 then do
    let ⟨v23, v38, v41, v42⟩ : Σ' (v23 : FVec F S256x1024 .f32) (v38 : FVec F S256x1024 .bf16) (v41 : FVec F S256x128 .f32), Vec F S1x128 .f32 ← k0_part1 i (Memref.whole main_v32) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 outM (Memref.isWhole_whole _) obufM (Memref.isWhole_whole _) cc0_scratch1 (BitVec.ofNat 32 (i 0).val)
    let ⟨v45, v78, v80, v81, v82⟩ : Σ' (v45 : FVec F S256x128 .f32) (v78 : BitVec 32) (v80 : BitVec 32) (v81 : IVec S256x128 32), IVec S256x128 32 ← k0_part2 i (Memref.whole main_v32) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 outM (Memref.isWhole_whole _) obufM (Memref.isWhole_whole _) cc0_scratch1 (BitVec.ofNat 32 (i 0).val) v41 v42
    let ⟨v117, v122, v124, cst_55⟩ : Σ' (v117 : FVec F S256x1 .f32) (v122 : FVec F S256x1 .f32) (v124 : FVec F S1024x256 .bf16), FVec F S256x256 .f32 ← k0_part3 i (Memref.whole main_v32) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 outM (Memref.isWhole_whole _) obufM (Memref.isWhole_whole _) cc0_scratch1 v45 v78 v80 v81 v82
    let ⟨v144, v162⟩ : Σ' (v144 : FVec F S256x1024 .f32), FVec F S256x256 .bf16 ← k0_part4 i (Memref.whole main_v32) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 outM (Memref.isWhole_whole _) obufM (Memref.isWhole_whole _) cc0_scratch1 v23 v38 v117 v122 v124 cst_55
    let ⟨v166, v191, v194⟩ : Σ' (v166 : FVec F S256x1024 .f32) (v191 : FVec F S256x128 .f32), Vec F S256x128 .f32 ← k0_part5 i (Memref.whole main_v32) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 outM (Memref.isWhole_whole _) obufM (Memref.isWhole_whole _) cc0_scratch1 v144 v162
    let v192 : Memref sig .tc .vmem S1x3072x128 .f32 := obufM.slice (Rect.unit (s := S2x3072x128) (k0_off5 i) S1x3072x128.size (k0_off5_inb i)) (fun _ => rfl)
    let v193 : Memref sig .tc .vmem S3072x128 .f32 := v192.squeeze S3072x128 squeezes_S1x3072x128_S3072x128
    Prog.lift (.store v193 ⟨(⟨![4, 0], S256x128.size, ![12, 1], inb_S3072x128_S256x128_4_0_s_12_1⟩ : LoadRect S3072x128), spos_12_1⟩ (k0_pay2 v191) Finset.univ (View.stores_vmem_bits_univ h_S256x128 rfl) (.inl rfl))
    let v198 : Memref sig .tc .vmem S1x3072x128 .f32 := obufM.slice (Rect.unit (s := S2x3072x128) (k0_off5 i) S1x3072x128.size (k0_off5_inb i)) (fun _ => rfl)
    let v199 : Memref sig .tc .vmem S3072x128 .f32 := v198.squeeze S3072x128 squeezes_S1x3072x128_S3072x128
    let v200 : Vec F S256x128 .f32 ← Prog.lift (.load v199 (⟨![5, 0], S256x128.size, ![12, 1], inb_S3072x128_S256x128_5_0_s_12_1⟩ : LoadRect S3072x128) (View.loadsAt_vmem h_S256x128))
    Prog.lift (.store v199 ⟨(⟨![5, 0], S256x128.size, ![12, 1], inb_S3072x128_S256x128_5_0_s_12_1⟩ : LoadRect S3072x128), spos_12_1⟩ (k0_pay3 v166) Finset.univ (View.stores_vmem_bits_univ h_S256x128 rfl) (.inl rfl))
    let v204 : Memref sig .tc .vmem S1x3072x128 .f32 := obufM.slice (Rect.unit (s := S2x3072x128) (k0_off5 i) S1x3072x128.size (k0_off5_inb i)) (fun _ => rfl)
    let v205 : Memref sig .tc .vmem S3072x128 .f32 := v204.squeeze S3072x128 squeezes_S1x3072x128_S3072x128
    let v206 : Vec F S256x128 .f32 ← Prog.lift (.load v205 (⟨![6, 0], S256x128.size, ![12, 1], inb_S3072x128_S256x128_6_0_s_12_1⟩ : LoadRect S3072x128) (View.loadsAt_vmem h_S256x128))
    Prog.lift (.store v205 ⟨(⟨![6, 0], S256x128.size, ![12, 1], inb_S3072x128_S256x128_6_0_s_12_1⟩ : LoadRect S3072x128), spos_12_1⟩ (k0_pay4 v166) Finset.univ (View.stores_vmem_bits_univ h_S256x128 rfl) (.inl rfl))
    let v210 : Memref sig .tc .vmem S1x3072x128 .f32 := obufM.slice (Rect.unit (s := S2x3072x128) (k0_off5 i) S1x3072x128.size (k0_off5_inb i)) (fun _ => rfl)
    let v211 : Memref sig .tc .vmem S3072x128 .f32 := v210.squeeze S3072x128 squeezes_S1x3072x128_S3072x128
    let v212 : Vec F S256x128 .f32 ← Prog.lift (.load v211 (⟨![7, 0], S256x128.size, ![12, 1], inb_S3072x128_S256x128_7_0_s_12_1⟩ : LoadRect S3072x128) (View.loadsAt_vmem h_S256x128))
    Prog.lift (.store v211 ⟨(⟨![7, 0], S256x128.size, ![12, 1], inb_S3072x128_S256x128_7_0_s_12_1⟩ : LoadRect S3072x128), spos_12_1⟩ (k0_pay5 v166) Finset.univ (View.stores_vmem_bits_univ h_S256x128 rfl) (.inl rfl))
    Scf.Loop.for k0_t1_loop k0_t1_ok ⟨⟩ (k0_t1_body i (Memref.whole main_v32) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 outM (Memref.isWhole_whole _) obufM (Memref.isWhole_whole _) cc0_scratch1 v0 k0_h2)
    pure ⟨⟩
  else do
    pure ⟨⟩
  let v8 : BitVec 32 := Scalar.subi v0 1#32
  let v9 : BitVec 1 := Scalar.cmpi .eq (BitVec.ofNat 32 (i 0).val) v8
  let v10 : BitVec 32 := Scalar.extui v9
  let v11 : BitVec 1 := Scalar.cmpi .ne v10 0#32
  if v11 = 1#1 then do
    let v12 : DmaSems sig S1 := cc0_scratch1.slice (Rect.unit (s := S2) (k0_off10 i) S1.size (k0_off10_inb i))
    let v13 : DmaSems sig S_ := v12.squeeze S_ squeezes_S1_S_
    let v14 : Memref sig .tc .hbm S1024x128 .f32 := outM.slice (Rect.unit (s := S266240x128) ![0, 0] S1024x128.size inb_S266240x128_S1024x128_0_0) (fun _ => rfl)
    let v15 : Memref sig .tc .vmem S1x1024x128 .f32 := obufM.slice (Rect.unit (s := S2x3072x128) (k0_off11 i) S1x1024x128.size (k0_off11_inb i)) (fun _ => rfl)
    let v16 : Memref sig .tc .vmem S1024x128 .f32 := v15.squeeze S1024x128 squeezes_S1x1024x128_S1024x128
    Prog.lift (.waitDma2 v13.sem v16 v14 ((View.wordExact_bits rfl).reshape _ _) (View.wordExact_bits rfl))
    let v17 : DmaSems sig S1 := cc0_scratch1.slice (Rect.unit (s := S2) (k0_off10 i) S1.size (k0_off10_inb i))
    let v18 : DmaSems sig S_ := v17.squeeze S_ squeezes_S1_S_
    let v19 : Memref sig .tc .hbm S1024x128 .f32 := outM.slice (Rect.unit (s := S266240x128) ![0, 0] S1024x128.size inb_S266240x128_S1024x128_0_0) (fun _ => rfl)
    let v20 : Memref sig .tc .vmem S1x1024x128 .f32 := obufM.slice (Rect.unit (s := S2x3072x128) (k0_off11 i) S1x1024x128.size (k0_off11_inb i)) (fun _ => rfl)
    let v21 : Memref sig .tc .vmem S1024x128 .f32 := v20.squeeze S1024x128 squeezes_S1x1024x128_S1024x128
    Prog.lift (.waitDma2 v18.sem v21 v19 ((View.wordExact_bits rfl).reshape _ _) (View.wordExact_bits rfl))
    if k0_h5 : k0_cond5 i = 1#1 then do
      let v26 : DmaSems sig S1 := cc0_scratch1.slice (Rect.unit (s := S2) (k0_off12 i) S1.size (k0_off12_inb i k0_h5))
      let v27 : DmaSems sig S_ := v26.squeeze S_ squeezes_S1_S_
      let v28 : Memref sig .tc .hbm S1024x128 .f32 := outM.slice (Rect.unit (s := S266240x128) ![0, 0] S1024x128.size inb_S266240x128_S1024x128_0_0) (fun _ => rfl)
      let v29 : Memref sig .tc .vmem S1x1024x128 .f32 := obufM.slice (Rect.unit (s := S2x3072x128) (k0_off13 i) S1x1024x128.size (k0_off13_inb i k0_h5)) (fun _ => rfl)
      let v30 : Memref sig .tc .vmem S1024x128 .f32 := v29.squeeze S1024x128 squeezes_S1x1024x128_S1024x128
      Prog.lift (.waitDma2 v27.sem v30 v28 ((View.wordExact_bits rfl).reshape _ _) (View.wordExact_bits rfl))
      let v31 : DmaSems sig S1 := cc0_scratch1.slice (Rect.unit (s := S2) (k0_off12 i) S1.size (k0_off12_inb i k0_h5))
      let v32 : DmaSems sig S_ := v31.squeeze S_ squeezes_S1_S_
      let v33 : Memref sig .tc .hbm S1024x128 .f32 := outM.slice (Rect.unit (s := S266240x128) ![0, 0] S1024x128.size inb_S266240x128_S1024x128_0_0) (fun _ => rfl)
      let v34 : Memref sig .tc .vmem S1x1024x128 .f32 := obufM.slice (Rect.unit (s := S2x3072x128) (k0_off13 i) S1x1024x128.size (k0_off13_inb i k0_h5)) (fun _ => rfl)
      let v35 : Memref sig .tc .vmem S1024x128 .f32 := v34.squeeze S1024x128 squeezes_S1x1024x128_S1024x128
      Prog.lift (.waitDma2 v32.sem v35 v33 ((View.wordExact_bits rfl).reshape _ _) (View.wordExact_bits rfl))
      pure ⟨⟩
    else do
      pure ⟨⟩
    pure ⟨⟩
  else do
    pure ⟨⟩
  pure ⟨⟩

/-- The body from the tile on, at any point. -/
theorem rest_run (c : Dev nD) (i : grid0.Coords) [Nonempty (Elt F .f32)]
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole)
    (tb : S256.Idx → Elt F .i32) (q1 : PosShare TreeShare)
    (X3 : S1x1x256.Idx → Elt F .i32) (X4 : S2048x128.Idx → Elt F .f32) (X5 : S1x1024.Idx → Elt F .f32) (X6 : S1024x128.Idx → Elt F .bf16) (X7 : S1x128.Idx → Elt F .f32) (X8 : S1x1024x256.Idx → Elt F .bf16) (X9 : S1x1024x256.Idx → Elt F .bf16) (X10 : S1x256x1024.Idx → Elt F .bf16) (X11 : S1x1024x256.Idx → Elt F .bf16) (X12 : S1x1024x256.Idx → Elt F .bf16) (X13 : S1x256x1024.Idx → Elt F .bf16)
    {ivf : ℕ → ℕ} {N : ℕ} (hL : Lay ivf N) (hN1 : 1 ≤ N) (hN : N ≤ 152) (v0 : Elt F .i32) (hv : (v0 : BitVec 32).toNat = N)
    (hX : (i 0).val < N → ∀ k : Fin 256, ((X3 (ix3 (0 : Fin 1) (0 : Fin 1) k) : BitVec 32)).toNat = dstOf ivf (i 0).val k)
    (Yf : ℕ → S256x1024.Idx → Elt F .f32) (hY : (i 0).val < N → Yf (i 0).val = tileY (tb (tix i)) X4 X5 X6 X7 X8 X9 X10 X11 X12 X13) (W : Waits sig Unit) :
    iprop(owns (c : Thread nD τ) (Memref.whole main_v32 : Memref sig .tc .smem S256 .i32) q1 tb ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ St c ivf Yf N (i 0).val ∗ owes (c : Thread nD τ) 0 W)
      ⊢ wp frame (wpE defs₀ Variants.none (c : Thread nD τ) none) Set.univ
          (restP i arg3 harg3 arg4 harg4 arg5 harg5 arg6 harg6 arg7 harg7 arg8 harg8 arg9 harg9 arg10 harg10 arg11 harg11 arg12 harg12 arg13 harg13 v0)
        (fun _ => (iprop(owns (c : Thread nD τ) (Memref.whole main_v32 : Memref sig .tc .smem S256 .i32) q1 tb ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ St c ivf Yf N ((i 0).val + 1) ∗ ∃ W, owes (c : Thread nD τ) 0 W) : sProp 𝕄)) := by
  unfold restP
  rw [k0_part1_eq_skeleton, k0_part2_eq_skeleton, k0_part3_eq_skeleton, k0_part4_eq_skeleton, k0_part5_eq_skeleton]
  by_cases h2 : k0_cond2 i v0 = 1#1
  · have hi := (cond2_iff i hv hN).1 h2
    rw [dif_pos h2]
    iintro ⟨HT, HX3, HX4, HX5, HX6, HX7, HX8, HX9, HX10, HX11, HX12, HX13, HS, HW⟩
    iapply (seq_run c _ _ _ (part1_run c i arg3 harg3 arg4 harg4 arg5 harg5 arg6 harg6 arg7 harg7 arg8 harg8 arg9 harg9 arg10 harg10 arg11 harg11 arg12 harg12 arg13 harg13 X4 X5 X6 X7 hL hi Yf _ W) _ _) $$ [HX4 HX5 HX6 HX7 HS HW]
    · isplitl [HX4]; · iexact HX4
      isplitl [HX5]; · iexact HX5
      isplitl [HX6]; · iexact HX6
      isplitl [HX7]; · iexact HX7
      isplitl [HS]; · iexact HS
      iexact HW
    iintro %r ⟨%hr, HX4, HX5, HX6, HX7, Hid, Hot, HO, ⟨%W1, HW⟩⟩
    subst hr
    iapply (seq_run c _ _ _ (part2_run c i arg3 harg3 arg4 harg4 arg5 harg5 arg6 harg6 arg7 harg7 arg8 harg8 arg9 harg9 arg10 harg10 arg11 harg11 arg12 harg12 arg13 harg13 tb q1 _ _ _) _ _) $$ HT
    iintro %r ⟨%hr, HT⟩
    subst hr
    iapply (seq_run c _ _ _ (part3_run c i arg3 harg3 arg4 harg4 arg5 harg5 arg6 harg6 arg7 harg7 arg8 harg8 arg9 harg9 arg10 harg10 arg11 harg11 arg12 harg12 arg13 harg13 X8 _ _ _ _ _) _ _) $$ HX8
    iintro %r ⟨%hr, HX8⟩
    subst hr
    iapply (seq_run c _ _ _ (part4_run c i arg3 harg3 arg4 harg4 arg5 harg5 arg6 harg6 arg7 harg7 arg8 harg8 arg9 harg9 arg10 harg10 arg11 harg11 arg12 harg12 arg13 harg13 X9 X10 X11 X12 _ _ _ _ _ _) _ _) $$ [HX9 HX10 HX11 HX12]
    · isplitl [HX9]; · iexact HX9
      isplitl [HX10]; · iexact HX10
      isplitl [HX11]; · iexact HX11
      iexact HX12
    iintro %r ⟨%hr, HX9, HX10, HX11, HX12⟩
    subst hr
    unfold idle
    icases Hid with ⟨Hsem, ⟨%f0, Hf⟩⟩
    rw [← obM_set]
    iapply (seq_run c _ _ _ (part5_run c i arg3 harg3 arg4 harg4 arg5 harg5 arg6 harg6 arg7 harg7 arg8 harg8 arg9 harg9 arg10 harg10 arg11 harg11 arg12 harg12 arg13 harg13 X13 _ _ f0) _ _) $$ [HX13 Hf]
    · isplitl [HX13]; · iexact HX13
      iexact Hf
    iintro %r ⟨%hr, HX13, ⟨%f1, %hf1, Hf⟩⟩
    obtain ⟨z, hr⟩ := hr
    subst hr
    iapply (stores_run c i _ _ rfl f1 hf1 _ _) $$ Hf
    iintro %f2 %hf2 Hf
    iapply (start_run c i hL hi Yf arg3 X3 (hX hi) f2 (by rw [hY hi]; exact hf2) ((i 0).val - 1) v0 h2 _ _) $$ [Hsem Hf HO HX3]
    · isplitl [Hsem]; · iexact Hsem
      isplitl [Hf]; · iexact Hf
      isplitl [HO]; · iexact HO
      iexact HX3
    iintro ⟨Hfly, HO, HX3⟩
    ihave Hfin := (fin_busy c i hL Yf v0 hv hN1 hN hi W1) $$ [Hfly Hot HO HW]
    · isplitl [Hfly]; · iexact Hfly
      isplitl [Hot]; · iexact Hot
      isplitl [HO]; · iexact HO
      iexact HW
    iapply (wp_wand _ _ _) $$ Hfin
    iintro %_ ⟨HS, HW⟩
    isplitl [HT]; · iexact HT
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HS]; · iexact HS
    iexact HW
  · have hi : N ≤ (i 0).val := by
      have : ¬ (i 0).val < N := fun h => h2 ((cond2_iff i hv hN).2 h)
      omega
    rw [dif_neg h2]
    iintro ⟨HT, HX3, HX4, HX5, HX6, HX7, HX8, HX9, HX10, HX11, HX12, HX13, HS, HW⟩
    ihave Hfin := (fin_idle c i Yf v0 hv hN1 hN hi) $$ HS
    iapply (wp_wand _ _ _) $$ Hfin
    iintro %_ HS
    isplitl [HT]; · iexact HT
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HS]; · iexact HS
    iexists _; iexact HW

end Cert.KernelIdeal.Hand

end
-- ==== Proof.Body.lean ====
/-
  The body at one grid point.
-/
module

public import proofs.«01_k».proof.Proof.Rest
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The count of tiles in use, as the body reads it. -/
theorem nu_load (c : Dev nD) (nu : S1.Idx → Elt F .i32) (q2 : PosShare TreeShare) :
    (owns (c : Thread nD τ) (Memref.whole main_arg1 : Memref sig .tc .smem S1 .i32) q2 nu : sProp 𝕄)
      ⊢ wp frame (wpE defs₀ Variants.none (c : Thread nD τ) none) Set.univ
        (smemLoad (Memref.whole main_arg1) (Rect.unit (s := S1) ![0] S1.size inb_S1_S1_0) numel1_S1 rfl)
        (fun r => (iprop(⌜r = nu (ix1 (0 : Fin 1))⌝ ∗ owns (c : Thread nD τ) (Memref.whole main_arg1 : Memref sig .tc .smem S1 .i32) q2 nu) : sProp 𝕄)) := by
  unfold owns
  iintro ⟨%fN, %hfN, HN⟩
  sl_exec
  try sl_step
  isplitr
  · ipureintro
    subst hfN
    refine congrArg fN (funext fun a => Fin.ext ?_)
    fin_cases a
    rfl
  iexists fN
  isplitr; · ipureintro; exact hfN
  iexact HN

/-- The two slots as the body names them. -/
theorem obView (c : Dev nD) (f : Buf (Elt F) (obLoc c)) :
    ((obLoc c ↦{fullShare} f) : sProp 𝕄) ⊣⊢ ((obufM.view.loc (c : Thread nD τ)) ↦{fullShare} (f : Buf (Elt F) (obufM.view.loc (c : Thread nD τ)))) := .rfl

/-- The body at any point of the grid. -/
theorem body_run (c : Dev nD) (i : grid0.Coords) [Nonempty (Elt F .f32)]
    (arg3 : Memref sig .tc .smem S1x1x256 .i32) (harg3 : arg3.IsWhole)
    (arg4 : Memref sig .tc .vmem S2048x128 .f32) (harg4 : arg4.IsWhole)
    (arg5 : Memref sig .tc .vmem S1x1024 .f32) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S1x1024x256 .bf16) (harg8 : arg8.IsWhole)
    (arg9 : Memref sig .tc .vmem S1x1024x256 .bf16) (harg9 : arg9.IsWhole)
    (arg10 : Memref sig .tc .vmem S1x256x1024 .bf16) (harg10 : arg10.IsWhole)
    (arg11 : Memref sig .tc .vmem S1x1024x256 .bf16) (harg11 : arg11.IsWhole)
    (arg12 : Memref sig .tc .vmem S1x1024x256 .bf16) (harg12 : arg12.IsWhole)
    (arg13 : Memref sig .tc .vmem S1x256x1024 .bf16) (harg13 : arg13.IsWhole)
    (tb : S256.Idx → Elt F .i32) (nu : S1.Idx → Elt F .i32) (q1 q2 : PosShare TreeShare)
    (X3 : S1x1x256.Idx → Elt F .i32) (X4 : S2048x128.Idx → Elt F .f32) (X5 : S1x1024.Idx → Elt F .f32) (X6 : S1024x128.Idx → Elt F .bf16) (X7 : S1x128.Idx → Elt F .f32) (X8 : S1x1024x256.Idx → Elt F .bf16) (X9 : S1x1024x256.Idx → Elt F .bf16) (X10 : S1x256x1024.Idx → Elt F .bf16) (X11 : S1x1024x256.Idx → Elt F .bf16) (X12 : S1x1024x256.Idx → Elt F .bf16) (X13 : S1x256x1024.Idx → Elt F .bf16)
    {ivf : ℕ → ℕ} {N : ℕ} (hL : Lay ivf N) (hN1 : 1 ≤ N) (hN : N ≤ 152) (hnu : ((nu (ix1 (0 : Fin 1)) : BitVec 32)).toNat = N)
    (hX : (i 0).val < N → ∀ k : Fin 256, ((X3 (ix3 (0 : Fin 1) (0 : Fin 1) k) : BitVec 32)).toNat = dstOf ivf (i 0).val k)
    (Yf : ℕ → S256x1024.Idx → Elt F .f32) (hY : (i 0).val < N → Yf (i 0).val = tileY (tb (tix i)) X4 X5 X6 X7 X8 X9 X10 X11 X12 X13) (W : Waits sig Unit) :
    iprop(owns (c : Thread nD τ) (Memref.whole main_arg1 : Memref sig .tc .smem S1 .i32) q2 nu ∗ owns (c : Thread nD τ) (Memref.whole main_v32 : Memref sig .tc .smem S256 .i32) q1 tb ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ St c ivf Yf N (i 0).val ∗ owes (c : Thread nD τ) 0 W)
      ⊢ wp frame (wpE defs₀ Variants.none (c : Thread nD τ) none) Set.univ
          (cc0_hier_moe_skel i (Memref.whole main_v32) (Memref.isWhole_whole _) (Memref.whole main_arg1) (Memref.isWhole_whole _)
      arg3 harg3 arg4 harg4 arg5 harg5 arg6 harg6 arg7 harg7 arg8 harg8 arg9 harg9 arg10 harg10 arg11 harg11 arg12 harg12 arg13 harg13
      outM (Memref.isWhole_whole _) obufM (Memref.isWhole_whole _) cc0_scratch1)
        (fun _ => (iprop(owns (c : Thread nD τ) (Memref.whole main_arg1 : Memref sig .tc .smem S1 .i32) q2 nu ∗ owns (c : Thread nD τ) (Memref.whole main_v32 : Memref sig .tc .smem S256 .i32) q1 tb ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ St c ivf Yf N ((i 0).val + 1) ∗ ∃ W, owes (c : Thread nD τ) 0 W) : sProp 𝕄)) := by
  unfold cc0_hier_moe_skel
  iintro ⟨HN, HT, HX3, HX4, HX5, HX6, HX7, HX8, HX9, HX10, HX11, HX12, HX13, HS, HW⟩
  iapply (seq_run c _ _ _ (nu_load c nu q2) _ _) $$ HN
  iintro %r ⟨%hr, HN⟩
  subst hr
  by_cases h1 : Scalar.cmpi .ne (Scalar.extui (Scalar.cmpi .eq (BitVec.ofNat 32 (i 0).val) 0#32) : BitVec 32) 0#32 = 1#1
  · have h0 := (first_iff i).1 h1
    rw [dif_pos h1]
    have hS1 : St c ivf Yf N (i 0).val ⊢ (iprop(idle c 0 ∗ idle c 1 ∗ ownOut c ivf Yf Finset.univ 0) : sProp 𝕄) := by
      unfold St; rw [if_neg (by omega), if_pos h0]
    have hS2 : (iprop(idle c 0 ∗ idle c 1 ∗ ownOut c ivf Yf Finset.univ 0) : sProp 𝕄) ⊢ St c ivf Yf N (i 0).val := by
      unfold St; rw [if_neg (by omega), if_pos h0]
    ihave HS' := hS1 $$ HS
    unfold idle ownOut
    icases HS' with ⟨⟨Hs0, ⟨%f0, Hf0⟩⟩, ⟨Hs1, ⟨%f1, Hf1⟩⟩, ⟨%g, %hg, Hg⟩⟩
    ihave Hf := (unhalves c f0 f1) $$ [Hf0 Hf1]
    · isplitl [Hf0]; · iexact Hf0
      iexact Hf1
    icases Hf with ⟨%f, Hf⟩
    ihave Hf := (obView c f).1 $$ Hf
    sl_exec
    iapply (fill_run c cellA ![0, 0, 0] inb_S2x3072x128_S1x2048x128_0_0_0 ![262144, 0] inb_S266240x128_S2048x128_262144_0 _ g _ _ W) $$ [Hs0 Hf Hg HW]
    · isplitl [Hs0]; · iexact Hs0
      isplitl [Hf]; · iexact Hf
      isplitl [Hg]; · iexact Hg
      iexact HW
    iintro ⟨Hs0, ⟨%f2, Hf⟩, ⟨%g2, Hg⟩, ⟨%W2, HW⟩⟩
    iapply (fill_run c cellB ![1, 0, 0] inb_S2x3072x128_S1x2048x128_1_0_0 ![264192, 0] inb_S266240x128_S2048x128_264192_0 f2 g2 _ _ W2) $$ [Hs1 Hf Hg HW]
    · isplitl [Hs1]; · iexact Hs1
      isplitl [Hf]; · iexact Hf
      isplitl [Hg]; · iexact Hg
      iexact HW
    iintro ⟨Hs1, ⟨%f3, Hf⟩, ⟨%g3, Hg⟩, ⟨%W3, HW⟩⟩
    ihave Hf := (halves c f3) $$ Hf
    icases Hf with ⟨Hf0, Hf1⟩
    ihave HS := hS2 $$ [Hs0 Hs1 Hf0 Hf1 Hg]
    · unfold idle ownOut
      isplitl [Hs0 Hf0]
      · isplitl [Hs0]; · iexact Hs0
        iexists f3; iexact Hf0
      isplitl [Hs1 Hf1]
      · isplitl [Hs1]; · iexact Hs1
        iexists f3; iexact Hf1
      iexists g3
      isplitr
      · ipureintro; exact fun s hs => absurd hs (Nat.not_lt_zero s)
      iexact Hg
    ihave Hr := (rest_run c i arg3 harg3 arg4 harg4 arg5 harg5 arg6 harg6 arg7 harg7 arg8 harg8 arg9 harg9 arg10 harg10 arg11 harg11 arg12 harg12 arg13 harg13 tb q1 X3 X4 X5 X6 X7 X8 X9 X10 X11 X12 X13 hL hN1 hN (nu (ix1 (0 : Fin 1))) hnu hX Yf hY W3) $$ [HT HX3 HX4 HX5 HX6 HX7 HX8 HX9 HX10 HX11 HX12 HX13 HS HW]
    · isplitl [HT]; · iexact HT
      isplitl [HX3]; · iexact HX3
      isplitl [HX4]; · iexact HX4
      isplitl [HX5]; · iexact HX5
      isplitl [HX6]; · iexact HX6
      isplitl [HX7]; · iexact HX7
      isplitl [HX8]; · iexact HX8
      isplitl [HX9]; · iexact HX9
      isplitl [HX10]; · iexact HX10
      isplitl [HX11]; · iexact HX11
      isplitl [HX12]; · iexact HX12
      isplitl [HX13]; · iexact HX13
      isplitl [HS]; · iexact HS
      iexact HW
    iapply (wp_wand _ _ _) $$ Hr
    iintro %_ ⟨HT, HX3, HX4, HX5, HX6, HX7, HX8, HX9, HX10, HX11, HX12, HX13, HS, HW⟩
    isplitl [HN]; · iexact HN
    isplitl [HT]; · iexact HT
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HS]; · iexact HS
    iexact HW
  · rw [dif_neg h1]
    ihave Hr := (rest_run c i arg3 harg3 arg4 harg4 arg5 harg5 arg6 harg6 arg7 harg7 arg8 harg8 arg9 harg9 arg10 harg10 arg11 harg11 arg12 harg12 arg13 harg13 tb q1 X3 X4 X5 X6 X7 X8 X9 X10 X11 X12 X13 hL hN1 hN (nu (ix1 (0 : Fin 1))) hnu hX Yf hY W) $$ [HT HX3 HX4 HX5 HX6 HX7 HX8 HX9 HX10 HX11 HX12 HX13 HS HW]
    · isplitl [HT]; · iexact HT
      isplitl [HX3]; · iexact HX3
      isplitl [HX4]; · iexact HX4
      isplitl [HX5]; · iexact HX5
      isplitl [HX6]; · iexact HX6
      isplitl [HX7]; · iexact HX7
      isplitl [HX8]; · iexact HX8
      isplitl [HX9]; · iexact HX9
      isplitl [HX10]; · iexact HX10
      isplitl [HX11]; · iexact HX11
      isplitl [HX12]; · iexact HX12
      isplitl [HX13]; · iexact HX13
      isplitl [HS]; · iexact HS
      iexact HW
    iapply (wp_wand _ _ _) $$ Hr
    iintro %_ ⟨HT, HX3, HX4, HX5, HX6, HX7, HX8, HX9, HX10, HX11, HX12, HX13, HS, HW⟩
    isplitl [HN]; · iexact HN
    isplitl [HT]; · iexact HT
    isplitl [HX3]; · iexact HX3
    isplitl [HX4]; · iexact HX4
    isplitl [HX5]; · iexact HX5
    isplitl [HX6]; · iexact HX6
    isplitl [HX7]; · iexact HX7
    isplitl [HX8]; · iexact HX8
    isplitl [HX9]; · iexact HX9
    isplitl [HX10]; · iexact HX10
    isplitl [HX11]; · iexact HX11
    isplitl [HX12]; · iexact HX12
    isplitl [HX13]; · iexact HX13
    isplitl [HS]; · iexact HS
    iexact HW

end Cert.KernelIdeal.Hand

end
-- ==== Proof.Host.lean ====
/-
  The host operations before the call: what the call's operands hold when it starts.
-/
module

public import proofs.«01_k».proof.Proof.Body
public import Idealize.ShloMosaic.Lib.StableHlo.RunRead
public import Idealize.ShloMosaic.Lib.StableHlo.Predicate
public import Idealize.ShloMosaic.Lib.Tactic.WordOmega

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- What each buffer of device `c` holds when the call starts: the contents after the host operations. -/
def V (c : Dev nD) (b : Ref sig .tc) : Buf (Elt F) ((c.tc : Thread nD τ).loc b) :=
  StableHlo.after hostOps0 (fun b => m (c, b)) b

set_option backward.isDefEq.respectTransparency.types false in
/-- The host program runs to the call with the buffers at `V`. -/
theorem hmain (𝒱₀ : Variants) :
    Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub
    (by repeat' constructor) (fun c => main_chain c)

/-- A buffer no host operation writes holds what it held. -/
theorem V_arg (c : Dev nD) (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11) :
    V m c b = m (c, b) := by
  unfold V
  rcases hb with h | h | h | h | h | h | h | h | h | h | h | h <;> subst h <;> after_reads_simp

/-- Slot `k` of tile `b` names the row that entry `256 b + k` of the array of names does. -/
theorem V_inv (c : Dev nD) (b : Fin 152) (k : Fin 256) :
    (V m c main_v20 : S152x1x256.Idx → BitVec 32) (ix3 b 0 k)
      = (m (c, main_arg2) : S39424.Idx → BitVec 32) (ix1 ⟨256 * b.val + k.val, by omega⟩) := by
  unfold V
  after_reads_simp
  refine (shapeCast_apply _ _ _ (ix1 ⟨256 * b.val + k.val, by omega⟩) ?_).trans ?_
  · refine (Shape.rowMajor_val_one _).trans (Eq.trans ?_ (Shape.rowMajor_val_three (ix3 b (0 : Fin 1) k)).symm)
    show 256 * b.val + k.val = (b.val * 1 + 0) * 256 + k.val
    omega
  · unfold extractStridedSlice
    refine congrArg _ (funext fun a => ?_)
    match a with
    | ⟨0, _⟩ => exact Fin.ext (Nat.zero_add _)

/-- The tile whose bucket point `i` reads, as the host computes it from the word `nu` that counts the used tiles. -/
def lastW (nu : BitVec 32) (i : ℕ) : BitVec 32 :=
  let x := IntOp.minsi (BitVec.ofNat 32 i) (IntOp.subi nu 1#32)
  Scalar.select (IntOp.cmpi .slt x 0#32) (IntOp.addi x 256#32) x

/-- It is tile `i`, or the last used tile behind it. -/
theorem lastW_toNat (nu : BitVec 32) (N : ℕ) (hN1 : 1 ≤ N) (hN : N ≤ 152) (hnu : nu.toNat = N) (i : ℕ) (hi : i < 256) :
    (lastW nu i).toInt.toNat = min i (N - 1) := by
  have hs : IntOp.subi nu 1#32 = BitVec.ofNat 32 (N - 1) := by
    apply BitVec.eq_of_toNat_eq; unfold IntOp.subi; rw [BitVec.toNat_sub, BitVec.toNat_ofNat, hnu]; simp; omega
  have ht : ∀ n < 1000, (BitVec.ofNat 32 n).toNat = n := fun n hn => by rw [BitVec.toNat_ofNat]; omega
  have hx : IntOp.minsi (BitVec.ofNat 32 i) (IntOp.subi nu 1#32) = BitVec.ofNat 32 (min i (N - 1)) := by
    rw [hs]; unfold IntOp.minsi
    have := StableHlo.Predicate.slt_iff_toNat (a := BitVec.ofNat 32 i) (b := BitVec.ofNat 32 (N - 1))
      (by rw [ht _ (by omega)]; omega) (by rw [ht _ (by omega)]; omega)
    rw [ht _ (by omega), ht _ (by omega)] at this
    unfold IntOp.cmpi at this
    by_cases h : i < N - 1
    · have h2 := this.mpr h
      have h3 : (BitVec.ofNat 32 i).slt (BitVec.ofNat 32 (N - 1)) = true := by
        cases h4 : (BitVec.ofNat 32 i).slt (BitVec.ofNat 32 (N - 1)) <;> simp_all
      rw [if_pos h3, min_eq_left h.le]
    · have h3 : ¬ (BitVec.ofNat 32 i).slt (BitVec.ofNat 32 (N - 1)) = true := fun h4 => h (this.mp (by simp [h4]))
      rw [if_neg h3, min_eq_right (by omega)]
  unfold lastW
  rw [hx]
  have h0 : ¬ IntOp.cmpi .slt (BitVec.ofNat 32 (min i (N - 1))) 0#32 = 1#1 := fun h => by
    have := (StableHlo.Predicate.slt_iff_toNat (by rw [ht _ (by omega)]; omega) (by decide)).mp h
    simp at this
  show (Scalar.select _ _ _ : BitVec 32).toInt.toNat = _
  unfold Scalar.select
  rw [if_neg (show ¬ IntOp.cmpi .slt (BitVec.ofNat 32 (min i (N - 1))) 0#32 = (1 : BitVec 1) from h0), StableHlo.Predicate.toInt_eq_toNat_of_lt (by rw [ht _ (by omega)]; omega), ht _ (by omega)]
  omega

/-- The host's chain of operations from the count of used tiles to the tiles read. -/
theorem last_chain (z : S_.Idx → BitVec 32) (nu : BitVec 32) (hz : ∀ j, z j = nu) (p : Fin 256) :
    broadcastInDim S256x1 ![0] bcast_S256_S256x1_0
      (select (cmpi .slt (minsi (iotaInDim S256 32 0) (broadcastInDim S256 ![] bcast_S_S256 (subi z (constantI S_ 32 1#32))))
          (broadcastInDim S256 ![] bcast_S_S256 (constantI S_ 32 0#32)))
        (addi (minsi (iotaInDim S256 32 0) (broadcastInDim S256 ![] bcast_S_S256 (subi z (constantI S_ 32 1#32))))
          (broadcastInDim S256 ![] bcast_S_S256 (constantI S_ 32 256#32)))
        (minsi (iotaInDim S256 32 0) (broadcastInDim S256 ![] bcast_S_S256 (subi z (constantI S_ 32 1#32)))))
      (StableHlo.Predicate.ixP p) = lastW nu p.val := by
  have hb : ∀ (w : S_.Idx → BitVec 32) (j : S256.Idx), broadcastInDim S256 ![] bcast_S_S256 w j = w (Shape.Idx.first (by decide)) :=
    fun w j => StableHlo.Predicate.bcast_scalar _ _ _ _
  rw [StableHlo.Predicate.bcast_col1]
  unfold select cmpi minsi addi subi
  simp only [hb, hz]
  rfl

theorem V31 (c : Dev nD) (p : Fin 256) : (V m c main_v31 : S256x1.Idx → BitVec 32) (StableHlo.Predicate.ixP p)
    = lastW ((m (c, main_arg1) : S1.Idx → BitVec 32) (ix1 (0 : Fin 1))) p.val := by
  unfold V
  after_reads_simp
  refine last_chain _ _ (fun j => ?_) p
  exact shapeCast_apply _ _ _ (ix1 (0 : Fin 1)) (by
    have h1 := (S1.rowMajor (ix1 (0 : Fin 1))).isLt
    have h2 := (S_.rowMajor j).isLt
    have e1 : S1.numel = 1 := by decide
    have e2 : S_.numel = 1 := by decide
    show (S1.rowMajor (ix1 (0 : Fin 1))).val = (S_.rowMajor j).val
    omega)

theorem V32 (c : Dev nD) : (V m c main_v32 : S256.Idx → BitVec 32)
    = Host.gather gather_S256_S256x1_S256_n_0_n_n_0_1_1 (m (c, main_arg0) : S256.Idx → BitVec 32) (V m c main_v31 : S256x1.Idx → BitVec 32) := by
  unfold V
  after_reads_simp

/-- A table taken at those tiles. -/
theorem take_last (x : S256.Idx → BitVec 32) (idx : S256x1.Idx → BitVec 32) (nu : BitVec 32)
    (hidx : ∀ p, idx (StableHlo.Predicate.ixP p) = lastW nu p.val) (N : ℕ) (hN1 : 1 ≤ N) (hN : N ≤ 152) (hnu : nu.toNat = N) (i : Fin 256) :
    Host.gather gather_S256_S256x1_S256_n_0_n_n_0_1_1 x idx (ix1 i) = x (ix1 ⟨min i.val (N - 1), by omega⟩) := by
  have e : ∀ {n : ℕ} (j : Fin n), (ix1 j : (⟨1, ![n]⟩ : Shape).Idx) = Shape.Idx.ofFin j := fun j => funext fun a => by
    match a with | ⟨0, _⟩ => rfl
  refine (congrArg _ (e i)).trans ((StableHlo.Predicate.gather_take gather_S256_S256x1_S256_n_0_n_n_0_1_1 rfl rfl rfl rfl x idx i (by decide)).trans ?_)
  refine congrArg x ((congrArg _ (Fin.ext ?_)).trans (e _).symm)
  show min _ _ = min _ _
  rw [hidx, lastW_toNat nu N hN1 hN hnu i.val i.isLt]
  omega

/-- The bucket of point `i` is that of tile `i`, or of the last used tile behind it. -/
theorem V_tb (c : Dev nD) (N : ℕ) (hN1 : 1 ≤ N) (hN : N ≤ 152)
    (hnu : ((m (c, main_arg1) : S1.Idx → BitVec 32) (ix1 (0 : Fin 1))).toNat = N) (i : Fin 256) :
    (V m c main_v32 : S256.Idx → BitVec 32) (ix1 i)
      = (m (c, main_arg0) : S256.Idx → BitVec 32) (ix1 ⟨min i.val (N - 1), by omega⟩) :=
  (congrFun (V32 m c) _).trans (take_last _ _ _ (V31 m c) N hN1 hN hnu i)

end Cert.KernelIdeal.Hand

end
-- ==== Proof.Pre.lean ====
/-
  What the precondition `layout_ok` says of the arguments.
-/
module

public import proofs.«01_k».proof.Proof.Host
public import proofs.«01_k».proof.Proof.Gen.Pre_layout_ok
public import Idealize.ShloMosaic.Lib.StableHlo.Predicate

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Pre_layout_ok (fn)

/-- The row that slot `s` names. -/
def ivOf (a2 : S39424.Idx → BitVec 32) (s : ℕ) : ℕ := if h : s < 39424 then (a2 (ix1 ⟨s, h⟩)).toNat else 0

theorem bit_or {a b : BitVec 1} : IntOp.ori a b = 1#1 ↔ a = 1#1 ∨ b = 1#1 := by
  unfold IntOp.ori; revert a b; decide
theorem bit_and {a b : BitVec 1} : IntOp.andi a b = 1#1 ↔ a = 1#1 ∧ b = 1#1 := by
  unfold IntOp.andi; revert a b; decide

/-- A word between two small bounds, compared as signed. -/
theorem word_between {w lo hi : BitVec 32} (hlo : lo.toNat < 2 ^ 31) (hhi : hi.toNat < 2 ^ 31)
    (h1 : IntOp.cmpi .sge w lo = 1#1) (h2 : IntOp.cmpi .sle w hi = 1#1 ∨ IntOp.cmpi .slt w hi = 1#1) : lo.toNat ≤ w.toNat ∧ w.toNat < 2 ^ 31 := by
  have a := h1
  unfold IntOp.cmpi at a
  have hw : w.toNat < 2 ^ 31 := by
    by_contra hc
    have : w.toInt < 0 := by rw [BitVec.toInt_eq_toNat_cond]; have := w.isLt; split <;> omega
    have : lo.sle w = true := by revert a; cases lo.sle w <;> simp
    rw [BitVec.sle_iff_toInt_le, StableHlo.Predicate.toInt_eq_toNat_of_lt hlo] at this
    omega
  exact ⟨(StableHlo.Predicate.sge_iff_toNat hw hlo).mp h1, hw⟩

theorem scalar_of_one {x : S1.Idx → BitVec 32} (j : S_.Idx) (h : S1.ShapeCasts S_) :
    shapeCast S_ x h j = x (ix1 (0 : Fin 1)) :=
  shapeCast_apply _ _ _ (ix1 (0 : Fin 1)) (by
    have h1 := (S1.rowMajor (ix1 (0 : Fin 1))).isLt
    have h2 := (S_.rowMajor j).isLt
    have e1 : S1.numel = 1 := by decide
    have e2 : S_.numel = 1 := by decide
    show (S1.rowMajor (ix1 (0 : Fin 1))).val = (S_.rowMajor j).val
    omega)

variable {a0 : S256.Idx → BitVec 32} {a1 : S1.Idx → BitVec 32} {a2 : S39424.Idx → BitVec 32}
  {a3 : FVec F S311296x128 .f32} {a4 : FVec F S1024 .f32} {a5 : FVec F S1024x4 .f32} {a6 : FVec F S4 .f32}
  {a7 : FVec F S1024x16 .f32} {a8 : FVec F S16 .f32} {a9 a10 : FVec F S16x1024x256 .f32} {a11 : FVec F S16x256x1024 .f32}

theorem layout_used (h : (fn (F := F) a0 a1 a2 a3 a4 a5 a6 a7 a8 a9 a10 a11).1 = fun _ => 1#1) :
    1 ≤ (a1 (ix1 (0 : Fin 1))).toNat ∧ (a1 (ix1 (0 : Fin 1))).toNat ≤ 152 := by
  have h' := congrFun h (ix1 (0 : Fin 1))
  have hb : ∀ (w : S_.Idx → BitVec 32) (j : S1.Idx), broadcastInDim S1 ![] Cert.Pre_layout_ok.Facts.bcast_S_S1 w j = w (Shape.Idx.first (by decide)) :=
    fun w j => StableHlo.Predicate.bcast_scalar _ _ _ _
  unfold fn Cert.Pre_layout_ok.fn_part1 Cert.Pre_layout_ok.fn_part2 at h'
  dsimp only at h'
  unfold andi cmpi at h'
  simp only [hb] at h'
  rw [bit_and] at h'
  have := word_between (by decide) (by decide) h'.1 (.inl h'.2)
  exact ⟨this.1, (StableHlo.Predicate.sle_iff_toNat this.2 (by decide)).mp h'.2⟩

theorem layout_tb (h : (fn (F := F) a0 a1 a2 a3 a4 a5 a6 a7 a8 a9 a10 a11).2.2 = fun _ => 1#1)
    (hN : (a1 (ix1 (0 : Fin 1))).toNat ≤ 152) (i : Fin 256) (hi : i.val < (a1 (ix1 (0 : Fin 1))).toNat) :
    (a0 (ix1 i)).toNat < 24 := by
  have h' := congrFun h (ix1 i)
  have hb : ∀ (w : S_.Idx → BitVec 32) (j : S256.Idx), broadcastInDim S256 ![] Cert.Pre_layout_ok.Facts.bcast_S_S256 w j = w (Shape.Idx.first (by decide)) :=
    fun w j => StableHlo.Predicate.bcast_scalar _ _ _ _
  unfold fn Cert.Pre_layout_ok.fn_part1 Cert.Pre_layout_ok.fn_part2 at h'
  dsimp only at h'
  unfold andi cmpi ori at h'
  simp only [hb, scalar_of_one] at h'
  rw [bit_or, bit_and] at h'
  rcases h' with h' | h'
  · have := word_between (by decide) (by decide) h'.1 (.inr h'.2)
    exact (StableHlo.Predicate.slt_iff_toNat this.2 (by decide)).mp h'.2
  · have e : (iotaInDim S256 32 0 (ix1 i)).toNat = i.val := by
      show (BitVec.ofNat 32 i.val).toNat = _
      rw [BitVec.toNat_ofNat]; omega
    have := (StableHlo.Predicate.sge_iff_toNat (by rw [e]; omega) (by omega)).mp h'
    rw [e] at this; omega

/-- What the layout says of one slot: it is behind the used tiles, or its row is a token's, and then the slot that the
    token is looked up in, or its own junk row. -/
theorem layout_slot (h : (fn (F := F) a0 a1 a2 a3 a4 a5 a6 a7 a8 a9 a10 a11).2.1 = fun _ => 1#1)
    (hN : (a1 (ix1 (0 : Fin 1))).toNat ≤ 152) :
    ∃ seen : ℕ → BitVec 32, ∀ s < 256 * (a1 (ix1 (0 : Fin 1))).toNat,
      (ivOf a2 s < 32768 ∧ seen (ivOf a2 s) = BitVec.ofNat 32 s) ∨ ivOf a2 s = 32768 + s % 512 := by
  have hb : ∀ (w : S_.Idx → BitVec 32) (j : Cert.Pre_layout_ok.S38912.Idx), broadcastInDim Cert.Pre_layout_ok.S38912 ![] Cert.Pre_layout_ok.Facts.bcast_S_S38912 w j = w (Shape.Idx.first (by decide)) :=
    fun w j => StableHlo.Predicate.bcast_scalar _ _ _ _
  have ht : ∀ n < 1000000, (BitVec.ofNat 32 n).toNat = n := fun n hn => by rw [BitVec.toNat_ofNat]; omega
  unfold fn Cert.Pre_layout_ok.fn_part1 Cert.Pre_layout_ok.fn_part2 Cert.Pre_layout_ok.fn_where at h
  dsimp only at h
  generalize maxsi _ _ = x at h
  refine ⟨fun n => x (Shape.Idx.ofFin ⟨min n (32768 - 1), by omega⟩), fun s hs => ?_⟩
  have hs' : s < 38912 := by omega
  have h' := congrFun h (Shape.Idx.ofFin (⟨s, hs'⟩ : Fin 38912))
  unfold andi cmpi ori select muli addi at h'
  simp only [hb, scalar_of_one] at h'
  have hv : extractStridedSlice Cert.Pre_layout_ok.S38912 ![0] a2 Cert.Pre_layout_ok.Facts.slices_S39424_S38912_0 (Shape.Idx.ofFin (⟨s, hs'⟩ : Fin 38912)) = a2 (ix1 ⟨s, by omega⟩) := by
    unfold extractStridedSlice
    refine congrArg a2 (funext fun a => ?_)
    match a with
    | ⟨0, _⟩ => exact Fin.ext (Nat.zero_add _)
  have hg := StableHlo.Predicate.gather_take Cert.Pre_layout_ok.gather_S32768_S38912x1_S38912_n_0_n_n_0_1_1 rfl rfl rfl rfl x
    (broadcastInDim Cert.Pre_layout_ok.S38912x1 ![0] Cert.Pre_layout_ok.Facts.bcast_S38912_S38912x1_0
      (extractStridedSlice Cert.Pre_layout_ok.S38912 ![0] a2 Cert.Pre_layout_ok.Facts.slices_S39424_S38912_0)) (⟨s, hs'⟩ : Fin 38912) (by decide)
  have hidx := (StableHlo.Predicate.bcast_col1 Cert.Pre_layout_ok.Facts.bcast_S38912_S38912x1_0
      (extractStridedSlice Cert.Pre_layout_ok.S38912 ![0] a2 Cert.Pre_layout_ok.Facts.slices_S39424_S38912_0) (⟨s, hs'⟩ : Fin 38912)).trans hv
  rw [hv, hg] at h'
  have hi : iotaInDim Cert.Pre_layout_ok.S38912 32 0 (Shape.Idx.ofFin (⟨s, hs'⟩ : Fin 38912)) = BitVec.ofNat 32 s := rfl
  rw [hi] at h'
  have hiv : ivOf a2 s = (a2 (ix1 ⟨s, by omega⟩)).toNat := by unfold ivOf; rw [dif_pos]
  rw [hiv]
  generalize a2 (ix1 ⟨s, by omega⟩) = w at h' hidx ⊢
  simp only [constantI] at h'
  rw [bit_or, bit_and] at h'
  rcases h' with ⟨h1, h2⟩ | h'
  · have hw : w.toNat < 2 ^ 31 := by
      by_contra hc
      have h1' := h1
      unfold IntOp.cmpi at h1'
      have : w.toInt < 0 := by rw [BitVec.toInt_eq_toNat_cond]; have := w.isLt; split <;> omega
      have : (0#32).sle w = true := by revert h1'; cases (0#32).sle w <;> simp
      rw [BitVec.sle_iff_toInt_le, StableHlo.Predicate.toInt_eq_toNat_of_lt (by decide)] at this
      simp at this; omega
    have hlt := StableHlo.Predicate.slt_iff_toNat (a := w) (b := 32768#32) hw (by decide)
    unfold Scalar.select at h2
    split at h2
    · next h3 =>
      left
      have h4 := hlt.mp h3
      refine ⟨h4, ?_⟩
      have h5 := StableHlo.Predicate.cmpi_eq_iff.mp h2
      rw [← h5]
      refine congrArg x (congrArg _ (Fin.ext ?_))
      show min _ _ = min _ _
      rw [hidx, StableHlo.Predicate.toInt_eq_toNat_of_lt hw]; rfl
    · right
      have h5 := StableHlo.Predicate.cmpi_eq_iff.mp h2
      rw [h5]
      show (32768#32 + (BitVec.ofNat 32 s &&& 511#32)).toNat = _
      have e : (BitVec.ofNat 32 s &&& 511#32).toNat = s % 512 := by
        rw [BitVec.toNat_and, ht _ (by omega)]
        exact Nat.and_two_pow_sub_one_eq_mod s 9
      rw [BitVec.toNat_add, e]
      show (32768 + s % 512) % 2 ^ 32 = _
      omega
  · exfalso
    have e : (IntOp.muli (a1 (ix1 (0 : Fin 1))) 256#32).toNat = 256 * (a1 (ix1 (0 : Fin 1))).toNat := by
      show ((a1 (ix1 (0 : Fin 1))) * 256#32).toNat = _
      rw [BitVec.toNat_mul]
      show _ * 256 % 2 ^ 32 = _
      omega
    have := (StableHlo.Predicate.sge_iff_toNat (by rw [ht _ (by omega)]; omega) (by rw [e]; omega)).mp h'
    rw [e, ht _ (by omega)] at this
    omega

/-- A well formed layout, as the run of the call asks for it. -/
theorem layout_lay (h : (fn (F := F) a0 a1 a2 a3 a4 a5 a6 a7 a8 a9 a10 a11).2.1 = fun _ => 1#1)
    (hN : (a1 (ix1 (0 : Fin 1))).toNat ≤ 152) : Lay (ivOf a2) (a1 (ix1 (0 : Fin 1))).toNat := by
  obtain ⟨seen, hs⟩ := layout_slot h hN
  refine ⟨fun s h => ?_, fun s h s' h' e ht => ?_, fun s h hj => ?_⟩
  · rcases hs s h with ⟨a, -⟩ | a <;> omega
  · have ht' : ivOf a2 s < 32768 := ht
    rcases hs s h with ⟨-, a⟩ | a
    · rcases hs s' h' with ⟨-, b⟩ | b
      · rw [e] at a
        have := congrArg BitVec.toNat (a.symm.trans b)
        rw [BitVec.toNat_ofNat, BitVec.toNat_ofNat] at this
        omega
      · omega
    · omega
  · have hj' : 32768 ≤ ivOf a2 s := hj
    rcases hs s h with ⟨a, -⟩ | a
    · omega
    · exact a

/-! ## The blocks that the tables name -/

theorem bf_words {ix : Fin 3 → Nat} (h : ∀ a, (ix a + 1) * S1x1024x256.size a ≤ S16x1024x256.size a) :
    (Rect.block (s := S16x1024x256) S1x1024x256.size ix h).WholeWords (EltTy.packing .bf16) :=
  Affine.block_words_dvd (of_decide_eq_true rfl) (by decide)
theorem bf_words' {ix : Fin 3 → Nat} (h : ∀ a, (ix a + 1) * S1x256x1024.size a ≤ S16x256x1024.size a) :
    (Rect.block (s := S16x256x1024) S1x256x1024.size ix h).WholeWords (EltTy.packing .bf16) :=
  Affine.block_words_dvd (of_decide_eq_true rfl) (by decide)

/-- Window 5's block is one of the sixteen experts'. -/
theorem tr5_ok (pf : pre0.Contents (Elt F)) (i : grid0.Coords) (w : BitVec 32) (hw : w.toNat < 24)
    (h : pf.at 0 (Rect.unit (s := S256) (k0_off1 i) S1.size (k0_off1_inb i)) numel1_S1 = w) :
    ∀ a, (cc0_transform_5 k0_off1_inb numel1_S1 pf i a + 1) * S1x1024x256.size a ≤ S16x1024x256.size a := by
  unfold cc0_transform_5
  dsimp only
  have h' : pf.at 0 (Rect.unit (s := S256) ![(Scalar.indexCast (BitVec.ofNat 32 (i 0).val)).toNat] S1.size (k0_off1_inb i)) numel1_S1 = w := h
  rw [h']
  obtain ⟨n, hn⟩ : ∃ n : Fin 24, w = BitVec.ofNat 32 n.val := ⟨⟨w.toNat, hw⟩, (BitVec.ofNat_toNat 32 w).symm ▸ by simp⟩
  subst hn
  clear h h' hw
  revert n
  decide +kernel

/-- Window 6's block is one of the sixteen experts'. -/
theorem tr6_ok (pf : pre0.Contents (Elt F)) (i : grid0.Coords) (w : BitVec 32) (hw : w.toNat < 24)
    (h : pf.at 0 (Rect.unit (s := S256) (k0_off1 i) S1.size (k0_off1_inb i)) numel1_S1 = w) :
    ∀ a, (cc0_transform_6 k0_off1_inb numel1_S1 pf i a + 1) * S1x1024x256.size a ≤ S16x1024x256.size a := by
  unfold cc0_transform_6
  dsimp only
  have h' : pf.at 0 (Rect.unit (s := S256) ![(Scalar.indexCast (BitVec.ofNat 32 (i 0).val)).toNat] S1.size (k0_off1_inb i)) numel1_S1 = w := h
  rw [h']
  obtain ⟨n, hn⟩ : ∃ n : Fin 24, w = BitVec.ofNat 32 n.val := ⟨⟨w.toNat, hw⟩, (BitVec.ofNat_toNat 32 w).symm ▸ by simp⟩
  subst hn
  clear h h' hw
  revert n
  decide +kernel

/-- Window 7's block is one of the sixteen experts'. -/
theorem tr7_ok (pf : pre0.Contents (Elt F)) (i : grid0.Coords) (w : BitVec 32) (hw : w.toNat < 24)
    (h : pf.at 0 (Rect.unit (s := S256) (k0_off1 i) S1.size (k0_off1_inb i)) numel1_S1 = w) :
    ∀ a, (cc0_transform_7 k0_off1_inb numel1_S1 pf i a + 1) * S1x256x1024.size a ≤ S16x256x1024.size a := by
  unfold cc0_transform_7
  dsimp only
  have h' : pf.at 0 (Rect.unit (s := S256) ![(Scalar.indexCast (BitVec.ofNat 32 (i 0).val)).toNat] S1.size (k0_off1_inb i)) numel1_S1 = w := h
  rw [h']
  obtain ⟨n, hn⟩ : ∃ n : Fin 24, w = BitVec.ofNat 32 n.val := ⟨⟨w.toNat, hw⟩, (BitVec.ofNat_toNat 32 w).symm ▸ by simp⟩
  subst hn
  clear h h' hw
  revert n
  decide +kernel

/-- Window 8's block is one of the sixteen experts'. -/
theorem tr8_ok (pf : pre0.Contents (Elt F)) (i : grid0.Coords) (w : BitVec 32) (hw : w.toNat < 24)
    (h : pf.at 0 (Rect.unit (s := S256) (k0_off1 i) S1.size (k0_off1_inb i)) numel1_S1 = w) :
    ∀ a, (cc0_transform_8 k0_off1_inb numel1_S1 pf i a + 1) * S1x1024x256.size a ≤ S16x1024x256.size a := by
  unfold cc0_transform_8
  dsimp only
  have h' : pf.at 0 (Rect.unit (s := S256) ![(Scalar.indexCast (BitVec.ofNat 32 (i 0).val)).toNat] S1.size (k0_off1_inb i)) numel1_S1 = w := h
  rw [h']
  obtain ⟨n, hn⟩ : ∃ n : Fin 24, w = BitVec.ofNat 32 n.val := ⟨⟨w.toNat, hw⟩, (BitVec.ofNat_toNat 32 w).symm ▸ by simp⟩
  subst hn
  clear h h' hw
  revert n
  decide +kernel

/-- Window 9's block is one of the sixteen experts'. -/
theorem tr9_ok (pf : pre0.Contents (Elt F)) (i : grid0.Coords) (w : BitVec 32) (hw : w.toNat < 24)
    (h : pf.at 0 (Rect.unit (s := S256) (k0_off1 i) S1.size (k0_off1_inb i)) numel1_S1 = w) :
    ∀ a, (cc0_transform_9 k0_off1_inb numel1_S1 pf i a + 1) * S1x1024x256.size a ≤ S16x1024x256.size a := by
  unfold cc0_transform_9
  dsimp only
  have h' : pf.at 0 (Rect.unit (s := S256) ![(Scalar.indexCast (BitVec.ofNat 32 (i 0).val)).toNat] S1.size (k0_off1_inb i)) numel1_S1 = w := h
  rw [h']
  obtain ⟨n, hn⟩ : ∃ n : Fin 24, w = BitVec.ofNat 32 n.val := ⟨⟨w.toNat, hw⟩, (BitVec.ofNat_toNat 32 w).symm ▸ by simp⟩
  subst hn
  clear h h' hw
  revert n
  decide +kernel

/-- Window 10's block is one of the sixteen experts'. -/
theorem tr10_ok (pf : pre0.Contents (Elt F)) (i : grid0.Coords) (w : BitVec 32) (hw : w.toNat < 24)
    (h : pf.at 0 (Rect.unit (s := S256) (k0_off1 i) S1.size (k0_off1_inb i)) numel1_S1 = w) :
    ∀ a, (cc0_transform_10 k0_off1_inb numel1_S1 pf i a + 1) * S1x256x1024.size a ≤ S16x256x1024.size a := by
  unfold cc0_transform_10
  dsimp only
  have h' : pf.at 0 (Rect.unit (s := S256) ![(Scalar.indexCast (BitVec.ofNat 32 (i 0).val)).toNat] S1.size (k0_off1_inb i)) numel1_S1 = w := h
  rw [h']
  obtain ⟨n, hn⟩ : ∃ n : Fin 24, w = BitVec.ofNat 32 n.val := ⟨⟨w.toNat, hw⟩, (BitVec.ofNat_toNat 32 w).symm ▸ by simp⟩
  subst hn
  clear h h' hw
  revert n
  decide +kernel

theorem tr1_ok (pf : pre0.Contents (Elt F)) (i : grid0.Coords) (w : BitVec 32) (hw1 : 1 ≤ w.toNat) (hw : w.toNat ≤ 152)
    (h : pf.at 1 (Rect.unit (s := S1) ![0] S1.size inb_S1_S1_0) numel1_S1 = w) :
    ∀ a, (cc0_transform_1 inb_S1_S1_0 numel1_S1 pf i a + 1) * S2048x128.size a ≤ S311296x128.size a := by
  unfold cc0_transform_1
  dsimp only
  rw [h]
  have hi : (i 0).val < 152 := (i 0).isLt
  have e : (BitVec.ofNat 32 (i 0).val).toNat = (i 0).val := by rw [BitVec.toNat_ofNat]; omega
  have hm : (Scalar.minsi (BitVec.ofNat 32 (i 0).val) (Scalar.subi w 1#32)).toNat < 152 := by
    unfold Scalar.minsi IntOp.minsi Scalar.subi IntOp.subi
    split
    · omega
    · rw [BitVec.toNat_sub]; simp; omega
  intro a
  match a with
  | ⟨0, _⟩ =>
    show ((Scalar.minsi (BitVec.ofNat 32 (i 0).val) (Scalar.subi w 1#32)).toNat + 1) * 2048 ≤ 311296
    omega
  | ⟨1, _⟩ => show (0 + 1) * 128 ≤ 128; omega

/-- The tables' side condition: a count of 1 to 152 used tiles, and a bucket below 24 at every point. -/
theorem ok_of (pf : pre0.Contents (Elt F)) (nu : S1.Idx → BitVec 32) (tb : S256.Idx → BitVec 32) (h1 : pf 1 = nu) (h0 : pf 0 = tb)
    (hn1 : 1 ≤ (nu (ix1 (0 : Fin 1))).toNat) (hn : (nu (ix1 (0 : Fin 1))).toNat ≤ 152) (htb : ∀ i, (tb (ix1 i)).toNat < 24) : ok0 pf := by
  have hr1 : pf.at 1 (Rect.unit (s := S1) ![0] S1.size inb_S1_S1_0) numel1_S1 = nu (ix1 (0 : Fin 1)) := by
    show pf 1 _ = _
    rw [h1]
    exact congrArg nu (funext fun a => match a with | ⟨0, _⟩ => Subsingleton.elim (α := Fin 1) _ _)
  have hr0 : ∀ i : grid0.Coords, (pf.at 0 (Rect.unit (s := S256) (k0_off1 i) S1.size (k0_off1_inb i)) numel1_S1 : BitVec 32).toNat < 24 := fun i => by
    show (pf 0 _ : BitVec 32).toNat < 24
    rw [h0]
    have e : ∀ j : S256.Idx, (tb j).toNat < 24 := fun j => by
      have : j = ix1 (j 0) := funext fun a => match a with | ⟨0, _⟩ => rfl
      rw [this]; exact htb _
    exact e _
  exact ⟨fun i => ⟨tr1_ok pf i _ hn1 hn hr1, .inl rfl⟩, fun i => ⟨tr5_ok pf i _ (hr0 i) rfl, .inr (bf_words _)⟩,
    fun i => ⟨tr6_ok pf i _ (hr0 i) rfl, .inr (bf_words _)⟩, fun i => ⟨tr7_ok pf i _ (hr0 i) rfl, .inr (bf_words' _)⟩,
    fun i => ⟨tr8_ok pf i _ (hr0 i) rfl, .inr (bf_words _)⟩, fun i => ⟨tr9_ok pf i _ (hr0 i) rfl, .inr (bf_words _)⟩,
    fun i => ⟨tr10_ok pf i _ (hr0 i) rfl, .inr (bf_words' _)⟩⟩

end Cert.KernelIdeal.Hand

end
-- ==== Proof.Launch.lean ====
module

public import proofs.«01_k».proof.Proof.Pre
public import Idealize.ShloMosaic.Lib.Pipeline.FrameValue
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-! ## The tables -/

/-- What the two prefetched tables hold when the call is reached. -/
def pfM : pre0.Contents (Elt F) := fun k => V m 0 (pre0.ref k)
/-- The count of used tiles, as a word and as a number. -/
def nuM : S1.Idx → BitVec 32 := V m 0 main_arg1
/-- The tiles' buckets, the table padded past the last used tile. -/
def tbM : S256.Idx → BitVec 32 := V m 0 main_v32
def cntM : ℕ := (nuM m (ix1 (0 : Fin 1))).toNat
/-- The rows' destinations. -/
def ivM : ℕ → ℕ := ivOf (m (0, main_arg2) : S39424.Idx → BitVec 32)

/-- What the launch needs of the arguments: at least one used tile and no more than the grid's points, every bucket read a
    bucket, and the rows' destinations distinct. -/
structure Good : Prop where
  one : 1 ≤ cntM m
  le : cntM m ≤ 152
  lay : Lay (ivM m) (cntM m)
  tb : ∀ i : Fin 256, (tbM m (ix1 i)).toNat < 24

variable {m} in
theorem ok_good (hg : Good m) : ok0 (pfM m) := ok_of (pfM m) (nuM m) (tbM m) rfl rfl hg.one hg.le hg.tb

/-- The tables as the pipeline is pinned at them. -/
def adm (hg : Good m) : (pcfg0 (F := F)).Adm := ⟨pfM m, ok_good hg⟩
abbrev cfgM (hg : Good m) : Cfg sig Λ₀ := cfg0 (adm m hg)

/-! ## The windows' blocks -/

/-- What window `w` fetches at point `t`. -/
def iblk (hg : Good m) (c : Dev nD) (w : Fin (cfgM m hg).W) (t : Fin (cfgM m hg).N) :
    (((cfgM m hg).win w).xblock ((cfgM m hg).grid.coords t)).Idx → Elt F ((cfgM m hg).win w).elt :=
  (((cfgM m hg).win w).blk t).view.read (Elt F) (V m c (Pipeline.arrRef spec0 w))
abbrev B0 (hg : Good m) (t : Fin (cfgM m hg).N) : S1x1x256.Idx → Elt F .i32 := iblk m hg 0 0 t
abbrev B1 (hg : Good m) (t : Fin (cfgM m hg).N) : S2048x128.Idx → Elt F .f32 := iblk m hg 0 1 t
abbrev B2 (hg : Good m) (t : Fin (cfgM m hg).N) : S1x1024.Idx → Elt F .f32 := iblk m hg 0 2 t
abbrev B3 (hg : Good m) (t : Fin (cfgM m hg).N) : S1024x128.Idx → Elt F .bf16 := iblk m hg 0 3 t
abbrev B4 (hg : Good m) (t : Fin (cfgM m hg).N) : S1x128.Idx → Elt F .f32 := iblk m hg 0 4 t
abbrev B5 (hg : Good m) (t : Fin (cfgM m hg).N) : S1x1024x256.Idx → Elt F .bf16 := iblk m hg 0 5 t
abbrev B6 (hg : Good m) (t : Fin (cfgM m hg).N) : S1x1024x256.Idx → Elt F .bf16 := iblk m hg 0 6 t
abbrev B7 (hg : Good m) (t : Fin (cfgM m hg).N) : S1x256x1024.Idx → Elt F .bf16 := iblk m hg 0 7 t
abbrev B8 (hg : Good m) (t : Fin (cfgM m hg).N) : S1x1024x256.Idx → Elt F .bf16 := iblk m hg 0 8 t
abbrev B9 (hg : Good m) (t : Fin (cfgM m hg).N) : S1x1024x256.Idx → Elt F .bf16 := iblk m hg 0 9 t
abbrev B10 (hg : Good m) (t : Fin (cfgM m hg).N) : S1x256x1024.Idx → Elt F .bf16 := iblk m hg 0 10 t

/-- The rows tile `b` computes. -/
def Ym (hg : Good m) (b : ℕ) : S256x1024.Idx → Elt F .f32 :=
  if h : b < grid0.N then tileY (tbM m (tix (grid0.coords ⟨b, h⟩))) (B1 m hg ⟨b, h⟩) (B2 m hg ⟨b, h⟩) (B3 m hg ⟨b, h⟩) (B4 m hg ⟨b, h⟩) (B5 m hg ⟨b, h⟩) (B6 m hg ⟨b, h⟩) (B7 m hg ⟨b, h⟩) (B8 m hg ⟨b, h⟩) (B9 m hg ⟨b, h⟩) (B10 m hg ⟨b, h⟩)
  else fun _ => FloatOps.ofBits .f32 0#32

theorem coords_val (t : Fin grid0.N) : (grid0.coords t 0).val = t.val := by
  revert t; decide +kernel

theorem Ym_at (hg : Good m) (t : Fin (cfgM m hg).N) :
    Ym m hg (grid0.coords t 0).val = tileY (tbM m (tix (grid0.coords t))) (B1 m hg t) (B2 m hg t) (B3 m hg t) (B4 m hg t) (B5 m hg t) (B6 m hg t) (B7 m hg t) (B8 m hg t) (B9 m hg t) (B10 m hg t) := by
  have e : (grid0.coords t 0).val = t.val := coords_val t
  rw [e]
  unfold Ym
  rw [dif_pos t.isLt]

/-! ## The proof data -/

/-- The state between points. -/
def Phi (hg : Good m) (c : Dev nD) (n : ℕ) : sProp 𝕄 :=
  iprop((∃ r, prngReg c r) ∗ owns (c : Thread nD τ) (Memref.whole main_v32 : Memref sig .tc .smem S256 .i32) fullShare.right (tbM m)
    ∗ owns (c : Thread nD τ) (Memref.whole main_arg1 : Memref sig .tc .smem S1 .i32) fullShare.right (nuM m) ∗ St c (ivM m) (Ym m hg) (cntM m) n)

def dats (hg : Good m) (_ : Fin 1) (c : Dev nD) : Dat τ (Elt F) Unit ℕ (Pipeline.UD sig nD τ) ℕ (cfgM m hg) c where
  A w := V m c (Pipeline.arrRef spec0 w)
  after w t := match w with
    | ⟨0, _⟩ => iblk m hg c 0 t
    | ⟨1, _⟩ => iblk m hg c 1 t
    | ⟨2, _⟩ => iblk m hg c 2 t
    | ⟨3, _⟩ => iblk m hg c 3 t
    | ⟨4, _⟩ => iblk m hg c 4 t
    | ⟨5, _⟩ => iblk m hg c 5 t
    | ⟨6, _⟩ => iblk m hg c 6 t
    | ⟨7, _⟩ => iblk m hg c 7 t
    | ⟨8, _⟩ => iblk m hg c 8 t
    | ⟨9, _⟩ => iblk m hg c 9 t
    | ⟨10, _⟩ => iblk m hg c 10 t
  Φ t := Phi m hg c t.val
  q := Pipeline.shareOf spec0
  owed _ := 0

theorem A_eq (hg : Good m) (c : Dev nD) (w : Fin (cfgM m hg).W) : (dats m hg 0 c).A w = V m c (Pipeline.arrRef spec0 w) := by
  dsimp only [dats]
theorem after_0 (hg : Good m) (c : Dev nD) (t : Fin (cfgM m hg).N) : (dats m hg 0 c).after 0 t = iblk m hg c 0 t := by dsimp only [dats]; try rfl
theorem after_1 (hg : Good m) (c : Dev nD) (t : Fin (cfgM m hg).N) : (dats m hg 0 c).after 1 t = iblk m hg c 1 t := by dsimp only [dats]; try rfl
theorem after_2 (hg : Good m) (c : Dev nD) (t : Fin (cfgM m hg).N) : (dats m hg 0 c).after 2 t = iblk m hg c 2 t := by dsimp only [dats]; try rfl
theorem after_3 (hg : Good m) (c : Dev nD) (t : Fin (cfgM m hg).N) : (dats m hg 0 c).after 3 t = iblk m hg c 3 t := by dsimp only [dats]; try rfl
theorem after_4 (hg : Good m) (c : Dev nD) (t : Fin (cfgM m hg).N) : (dats m hg 0 c).after 4 t = iblk m hg c 4 t := by dsimp only [dats]; try rfl
theorem after_5 (hg : Good m) (c : Dev nD) (t : Fin (cfgM m hg).N) : (dats m hg 0 c).after 5 t = iblk m hg c 5 t := by dsimp only [dats]; try rfl
theorem after_6 (hg : Good m) (c : Dev nD) (t : Fin (cfgM m hg).N) : (dats m hg 0 c).after 6 t = iblk m hg c 6 t := by dsimp only [dats]; try rfl
theorem after_7 (hg : Good m) (c : Dev nD) (t : Fin (cfgM m hg).N) : (dats m hg 0 c).after 7 t = iblk m hg c 7 t := by dsimp only [dats]; try rfl
theorem after_8 (hg : Good m) (c : Dev nD) (t : Fin (cfgM m hg).N) : (dats m hg 0 c).after 8 t = iblk m hg c 8 t := by dsimp only [dats]; try rfl
theorem after_9 (hg : Good m) (c : Dev nD) (t : Fin (cfgM m hg).N) : (dats m hg 0 c).after 9 t = iblk m hg c 9 t := by dsimp only [dats]; try rfl
theorem after_10 (hg : Good m) (c : Dev nD) (t : Fin (cfgM m hg).N) : (dats m hg 0 c).after 10 t = iblk m hg c 10 t := by dsimp only [dats]; try rfl
theorem before_0 (hg : Good m) (c : Dev nD) (t : Fin (cfgM m hg).N) (d) : (dats m hg 0 c).before 0 t d = iblk m hg c 0 t :=
  ((dats m hg 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hg : Good m) (c : Dev nD) (t : Fin (cfgM m hg).N) (d) : (dats m hg 0 c).before 1 t d = iblk m hg c 1 t :=
  ((dats m hg 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hg : Good m) (c : Dev nD) (t : Fin (cfgM m hg).N) (d) : (dats m hg 0 c).before 2 t d = iblk m hg c 2 t :=
  ((dats m hg 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hg : Good m) (c : Dev nD) (t : Fin (cfgM m hg).N) (d) : (dats m hg 0 c).before 3 t d = iblk m hg c 3 t :=
  ((dats m hg 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hg : Good m) (c : Dev nD) (t : Fin (cfgM m hg).N) (d) : (dats m hg 0 c).before 4 t d = iblk m hg c 4 t :=
  ((dats m hg 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hg : Good m) (c : Dev nD) (t : Fin (cfgM m hg).N) (d) : (dats m hg 0 c).before 5 t d = iblk m hg c 5 t :=
  ((dats m hg 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hg : Good m) (c : Dev nD) (t : Fin (cfgM m hg).N) (d) : (dats m hg 0 c).before 6 t d = iblk m hg c 6 t :=
  ((dats m hg 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (hg : Good m) (c : Dev nD) (t : Fin (cfgM m hg).N) (d) : (dats m hg 0 c).before 7 t d = iblk m hg c 7 t :=
  ((dats m hg 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (hg : Good m) (c : Dev nD) (t : Fin (cfgM m hg).N) (d) : (dats m hg 0 c).before 8 t d = iblk m hg c 8 t :=
  ((dats m hg 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (hg : Good m) (c : Dev nD) (t : Fin (cfgM m hg).N) (d) : (dats m hg 0 c).before 9 t d = iblk m hg c 9 t :=
  ((dats m hg 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (hg : Good m) (c : Dev nD) (t : Fin (cfgM m hg).N) (d) : (dats m hg 0 c).before 10 t d = iblk m hg c 10 t :=
  ((dats m hg 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

theorem Phi_cast (hg : Good m) (c : Dev nD) (t : Fin (cfgM m hg).N) : (dats m hg 0 c).Φ t.castSucc = Phi m hg c t.val := by
  dsimp only [dats]; simp only [Fin.coe_castSucc]
theorem Phi_succ (hg : Good m) (c : Dev nD) (t : Fin (cfgM m hg).N) : (dats m hg 0 c).Φ t.succ = Phi m hg c (t.val + 1) := by
  dsimp only [dats]; simp only [Fin.val_succ]

/-- The body as the pipeline calls it at point `t`. -/
abbrev bodyAt (hg : Good m) (t : Fin (cfgM m hg).N) : Prog (TpuEff nD τ sig (Elt F) Λ₀ .tc) PUnit :=
  cc0_hier_moe (grid0.coords t) (Memref.whole main_v32) (Memref.isWhole_whole _) (Memref.whole main_arg1) (Memref.isWhole_whole _)
    (spec0_0.stage ((cfgM m hg).slots t 0)) (hstage0_0 (((cfgM m hg).slots t 0).cast nbuf0_0)) (spec0_1.stage ((cfgM m hg).slots t 1)) (hstage0_1 (((cfgM m hg).slots t 1).cast nbuf0_1)) (spec0_2.stage ((cfgM m hg).slots t 2)) (hstage0_2 (((cfgM m hg).slots t 2).cast nbuf0_2)) (spec0_3.stage ((cfgM m hg).slots t 3)) (hstage0_3 (((cfgM m hg).slots t 3).cast nbuf0_3)) (spec0_4.stage ((cfgM m hg).slots t 4)) (hstage0_4 (((cfgM m hg).slots t 4).cast nbuf0_4)) (spec0_5.stage ((cfgM m hg).slots t 5)) (hstage0_5 (((cfgM m hg).slots t 5).cast nbuf0_5)) (spec0_6.stage ((cfgM m hg).slots t 6)) (hstage0_6 (((cfgM m hg).slots t 6).cast nbuf0_6)) (spec0_7.stage ((cfgM m hg).slots t 7)) (hstage0_7 (((cfgM m hg).slots t 7).cast nbuf0_7)) (spec0_8.stage ((cfgM m hg).slots t 8)) (hstage0_8 (((cfgM m hg).slots t 8).cast nbuf0_8)) (spec0_9.stage ((cfgM m hg).slots t 9)) (hstage0_9 (((cfgM m hg).slots t 9).cast nbuf0_9)) (spec0_10.stage ((cfgM m hg).slots t 10)) (hstage0_10 (((cfgM m hg).slots t 10).cast nbuf0_10))
    (Memref.whole main_v33) (Memref.isWhole_whole _) (Memref.whole cc0_scratch0) (Memref.isWhole_whole _) cc0_scratch1

def bodyPre (hg : Good m) (c : Dev nD) (t : Fin (cfgM m hg).N) : sProp 𝕄 :=
  iprop((dats m hg 0 c).Φ t.castSucc ∗ (dats m hg 0 c).owesAt () t.castSucc
    ∗ (∃ d, owns (c : Thread nD τ) (spec0_0.stage ((cfgM m hg).slots t 0)) fullShare ((dats m hg 0 c).before 0 t d)) ∗ (∃ d, owns (c : Thread nD τ) (spec0_1.stage ((cfgM m hg).slots t 1)) fullShare ((dats m hg 0 c).before 1 t d)) ∗ (∃ d, owns (c : Thread nD τ) (spec0_2.stage ((cfgM m hg).slots t 2)) fullShare ((dats m hg 0 c).before 2 t d)) ∗ (∃ d, owns (c : Thread nD τ) (spec0_3.stage ((cfgM m hg).slots t 3)) fullShare ((dats m hg 0 c).before 3 t d)) ∗ (∃ d, owns (c : Thread nD τ) (spec0_4.stage ((cfgM m hg).slots t 4)) fullShare ((dats m hg 0 c).before 4 t d)) ∗ (∃ d, owns (c : Thread nD τ) (spec0_5.stage ((cfgM m hg).slots t 5)) fullShare ((dats m hg 0 c).before 5 t d)) ∗ (∃ d, owns (c : Thread nD τ) (spec0_6.stage ((cfgM m hg).slots t 6)) fullShare ((dats m hg 0 c).before 6 t d)) ∗ (∃ d, owns (c : Thread nD τ) (spec0_7.stage ((cfgM m hg).slots t 7)) fullShare ((dats m hg 0 c).before 7 t d)) ∗ (∃ d, owns (c : Thread nD τ) (spec0_8.stage ((cfgM m hg).slots t 8)) fullShare ((dats m hg 0 c).before 8 t d)) ∗ (∃ d, owns (c : Thread nD τ) (spec0_9.stage ((cfgM m hg).slots t 9)) fullShare ((dats m hg 0 c).before 9 t d)) ∗ (∃ d, owns (c : Thread nD τ) (spec0_10.stage ((cfgM m hg).slots t 10)) fullShare ((dats m hg 0 c).before 10 t d)))
def bodyPost (hg : Good m) (c : Dev nD) (t : Fin (cfgM m hg).N) : sProp 𝕄 :=
  iprop((dats m hg 0 c).Φ t.succ ∗ (dats m hg 0 c).owesAt () t.succ
    ∗ owns (c : Thread nD τ) (spec0_0.stage ((cfgM m hg).slots t 0)) fullShare ((dats m hg 0 c).after 0 t) ∗ owns (c : Thread nD τ) (spec0_1.stage ((cfgM m hg).slots t 1)) fullShare ((dats m hg 0 c).after 1 t) ∗ owns (c : Thread nD τ) (spec0_2.stage ((cfgM m hg).slots t 2)) fullShare ((dats m hg 0 c).after 2 t) ∗ owns (c : Thread nD τ) (spec0_3.stage ((cfgM m hg).slots t 3)) fullShare ((dats m hg 0 c).after 3 t) ∗ owns (c : Thread nD τ) (spec0_4.stage ((cfgM m hg).slots t 4)) fullShare ((dats m hg 0 c).after 4 t) ∗ owns (c : Thread nD τ) (spec0_5.stage ((cfgM m hg).slots t 5)) fullShare ((dats m hg 0 c).after 5 t) ∗ owns (c : Thread nD τ) (spec0_6.stage ((cfgM m hg).slots t 6)) fullShare ((dats m hg 0 c).after 6 t) ∗ owns (c : Thread nD τ) (spec0_7.stage ((cfgM m hg).slots t 7)) fullShare ((dats m hg 0 c).after 7 t) ∗ owns (c : Thread nD τ) (spec0_8.stage ((cfgM m hg).slots t 8)) fullShare ((dats m hg 0 c).after 8 t) ∗ owns (c : Thread nD τ) (spec0_9.stage ((cfgM m hg).slots t 9)) fullShare ((dats m hg 0 c).after 9 t) ∗ owns (c : Thread nD τ) (spec0_10.stage ((cfgM m hg).slots t 10)) fullShare ((dats m hg 0 c).after 10 t))

/-- The rows' destinations that window 0 stages are tile `t`'s. -/
theorem dst_win (hg : Good m) (t : Fin (cfgM m hg).N) (k : Fin 256) :
    ((B0 m hg t (ix3 (0 : Fin 1) (0 : Fin 1) k) : BitVec 32)).toNat = dstOf (ivM m) (grid0.coords t 0).val k := by
  have e : B0 m hg t (ix3 (0 : Fin 1) (0 : Fin 1) k) = (V m 0 main_v20 : S152x1x256.Idx → BitVec 32) (ix3 (⟨(grid0.coords t 0).val, (grid0.coords t 0).isLt⟩ : Fin 152) (0 : Fin 1) k) := by
    have hi : (grid0.coords t 0).val < 152 := (grid0.coords t 0).isLt
    have ht : (BitVec.ofNat 32 (grid0.coords t 0).val).toNat = (grid0.coords t 0).val := by rw [BitVec.toNat_ofNat]; omega
    show (V m 0 main_v20 : S152x1x256.Idx → BitVec 32) _ = _
    refine congrArg (V m 0 main_v20 : S152x1x256.Idx → BitVec 32) (funext fun a => Fin.ext ?_)
    match a with
    | ⟨0, _⟩ => show (BitVec.ofNat 32 (grid0.coords t 0).val).toNat * 1 + 1 * 0 = (grid0.coords t 0).val; omega
    | ⟨1, _⟩ => show 0 * 1 + 1 * 0 = 0; rfl
    | ⟨2, _⟩ => show 0 * 256 + 1 * k.val = k.val; omega
  rw [e, V_inv]
  unfold dstOf ivM ivOf
  have h1 : (grid0.coords t 0).val < 152 := (grid0.coords t 0).isLt
  have h2 := k.isLt
  rw [dif_pos (by omega)]

theorem sound_body [Nonempty (Elt F .f32)] (hg : Good m) (c : Dev nD) (t : Fin (cfgM m hg).N) :
    bodyPre m hg c t ⊢ wp frame (wpE (defs₀ (F := F)) Variants.none c none) Set.univ (bodyAt m hg t) (fun _ => bodyPost m hg c t) := by
  obtain rfl : c = 0 := Subsingleton.elim _ _
  unfold bodyPre bodyPost bodyAt
  rw [cc0_hier_moe_eq_skeleton, Phi_cast, Phi_succ, after_0, after_1, after_2, after_3, after_4, after_5, after_6, after_7, after_8, after_9, after_10]
  simp only [before_0, before_1, before_2, before_3, before_4, before_5, before_6, before_7, before_8, before_9, before_10]
  unfold Phi Dat.owesAt Pipeline.owesWithin
  rw [show (dats m hg 0 0).owed t.castSucc = 0 from rfl, show (dats m hg 0 0).owed t.succ = 0 from rfl]
  have e : t.val = (grid0.coords t 0).val := (coords_val t).symm
  rw [e]
  iintro ⟨⟨Hg, Ht, Hu, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hb := body_run (F := F) 0 (grid0.coords t) (spec0_0.stage ((cfgM m hg).slots t 0)) (hstage0_0 (((cfgM m hg).slots t 0).cast nbuf0_0)) (spec0_1.stage ((cfgM m hg).slots t 1)) (hstage0_1 (((cfgM m hg).slots t 1).cast nbuf0_1)) (spec0_2.stage ((cfgM m hg).slots t 2)) (hstage0_2 (((cfgM m hg).slots t 2).cast nbuf0_2)) (spec0_3.stage ((cfgM m hg).slots t 3)) (hstage0_3 (((cfgM m hg).slots t 3).cast nbuf0_3)) (spec0_4.stage ((cfgM m hg).slots t 4)) (hstage0_4 (((cfgM m hg).slots t 4).cast nbuf0_4)) (spec0_5.stage ((cfgM m hg).slots t 5)) (hstage0_5 (((cfgM m hg).slots t 5).cast nbuf0_5)) (spec0_6.stage ((cfgM m hg).slots t 6)) (hstage0_6 (((cfgM m hg).slots t 6).cast nbuf0_6)) (spec0_7.stage ((cfgM m hg).slots t 7)) (hstage0_7 (((cfgM m hg).slots t 7).cast nbuf0_7)) (spec0_8.stage ((cfgM m hg).slots t 8)) (hstage0_8 (((cfgM m hg).slots t 8).cast nbuf0_8)) (spec0_9.stage ((cfgM m hg).slots t 9)) (hstage0_9 (((cfgM m hg).slots t 9).cast nbuf0_9)) (spec0_10.stage ((cfgM m hg).slots t 10)) (hstage0_10 (((cfgM m hg).slots t 10).cast nbuf0_10))
    (tbM m) (nuM m) fullShare.right fullShare.right (B0 m hg t) (B1 m hg t) (B2 m hg t) (B3 m hg t) (B4 m hg t) (B5 m hg t) (B6 m hg t) (B7 m hg t) (B8 m hg t) (B9 m hg t) (B10 m hg t)
    hg.lay hg.one hg.le rfl (fun _ k => dst_win m hg t k) (Ym m hg) (fun _ => Ym_at m hg t) W
  ihave Hr := hb $$ [Hu Ht H0 H1 H2 H3 H4 H5 H6 H7 H8 H9 H10 HS HW]
  · isplitl [Hu]; · iexact Hu
    isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iexact HW
  iapply (wp_wand _ _ _) $$ Hr
  iintro %_ ⟨Hu, Ht, H0, H1, H2, H3, H4, H5, H6, H7, H8, H9, H10, HS, ⟨%W', HW⟩⟩
  isplitl [Hg Ht Hu HS]
  · isplitl [Hg]; · iexact Hg
    isplitl [Ht]; · iexact Ht
    isplitl [Hu]; · iexact Hu
    iexact HS
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (hg : Good m) (t : Fin (cfgM m hg).N) :
    defs₀ (F := F) .tc (cfgM m hg).body ((cfgM m hg).bodyArgs t ((cfgM m hg).slots t)) = bodyAt m hg t := by
  unfold defs₀; rw [Defs.onTc_tc]; try rfl

theorem body_obligation [Nonempty (Elt F .f32)] (hg : Good m) (c : Dev nD) : BodyObligation (dats m hg 0 c) (defs₀ (F := F)) Variants.none () Set.univ := fun t => by
  rw [bigSep_W0, bigSep_W0, defs₀_row]
  exact triple_restated (sound_body m hg c t) rfl .rfl fun _ => .rfl

/-! ## The run -/

def R0 : Finset (Ref sig .tc) := {main_v33}
def osem0 : Fin 2 → SemLoc sig := fun j => ![SemLoc.dma 19, SemLoc.dma 20] j
theorem ownSemFacts0 : Pipeline.OwnSemFacts spec0 osem0 := by decide
theorem R0_sub : R0 ⊆ Pipeline.restRefsP sig pre0 spec0 \ ∅ := by decide

theorem bigSepL_two (P : Fin 2 → sProp 𝕄) : bigSepL [0, 1] P = iprop(P 0 ∗ P 1) := rfl

theorem hin (hg : Good m) (c : Dev nD) :
    iprop(Pipeline.ΦDRG osem0 spec0 ∅ R0 (V m) (V m) c ∗ Pipeline.ΦT pre0 (pfM m) c) ⊢ (Phi m hg c 0 : sProp 𝕄) := by
  obtain rfl : c = 0 := Subsingleton.elim _ _
  rw [Pipeline.ΦDRG_eq, scopedRest0_eq, Pipeline.ownSems0_eq_of_list 0 osem0 [0, 1] (by decide) (by decide), R0, Pipeline.routed_singleton]
  unfold Pipeline.ΦT Pipeline.prefHeld Phi
  rw [bigSepL_two]
  rw [owns_whole, owns_whole, bigSep_univ_eq_bigSepL [(0 : Fin 2), (1 : Fin 2)] (by decide) (by decide), bigSepL_two]
  iintro ⟨⟨⟨%f, Hs⟩, Hg, ⟨Hq0, Hq1⟩, -, Ho⟩, ⟨Ht, Hu⟩⟩
  isplitl [Hg]; · iexact Hg
  isplitl [Ht]; · iexact Ht
  isplitl [Hu]; · iexact Hu
  unfold St
  rw [if_neg (by have := hg.one; omega), if_pos rfl]
  unfold idle ownOut
  ihave H2 := (halves 0 f) $$ Hs
  icases H2 with ⟨H0, H1⟩
  isplitl [Hq0 H0]
  · isplitl [Hq0]; · iexact Hq0
    iexists _; iexact H0
  isplitl [Hq1 H1]
  · isplitl [Hq1]; · iexact Hq1
    iexists _; iexact H1
  iexists _
  isplitr
  swap; · iexact Ho
  ipureintro
  intro b hb
  omega

theorem hout (hg : Good m) (c : Dev nD) : (Phi m hg c 152 : sProp 𝕄)
    ⊢ iprop(Pipeline.ΦD osem0 spec0 ∅ (V m) c ∗ Pipeline.routedSat R0 c (fun W => gOk (ivM m) (Ym m hg) (cntM m) (W main_v33))) := by
  obtain rfl : c = 0 := Subsingleton.elim _ _
  unfold Pipeline.routedSat
  rw [Pipeline.ΦD_eq, scopedRest0_eq, Pipeline.ownSems0_eq_of_list 0 osem0 [0, 1] (by decide) (by decide), R0]
  unfold Phi St
  rw [bigSepL_two, if_pos hg.le, bigSep_empty]
  unfold idle ownOut
  iintro ⟨Hg, -, -, ⟨Hq0, ⟨%f0, H0⟩⟩, ⟨Hq1, ⟨%f1, H1⟩⟩, ⟨%g, %hg', Ho⟩⟩
  isplitl [Hg Hq0 H0 Hq1 H1]
  · isplitl [H0 H1]
    · iapply (unhalves 0 f0 f1)
      isplitl [H0]; · iexact H0
      iexact H1
    isplitl [Hg]; · iexact Hg
    isplitl [Hq0 Hq1]
    · isplitl [Hq0]; · iexact Hq0
      iexact Hq1
    iempintro
  iexists (fun b => if h : b = main_v33 then h ▸ g else V m 0 b)
  isplitr
  · ipureintro
    exact hg'
  rw [Pipeline.routed_singleton]
  iexact Ho

set_option backward.isDefEq.respectTransparency.types false in
/-- The run of the kernel: the arguments' buffers kept, the counters zero, every used row stored. -/
theorem run_main [∀ e, Nonempty (Elt F e)] (hg : Good m) : θ_run defs (onTc (τ := τ) (main (F := F))) (s₀ m ρ) (fun r =>
    (Pipeline.RDat.FramePostR (cfgM m hg) (fun c => (dats m hg 0 c).toR) R0 (V m) r
      ∧ ∀ c : Dev nD, ∃ W : (b : Ref sig .tc) → Buf (Elt F) ((c.tc : Thread nD τ).loc b),
          gOk (ivM m) (Ym m hg) (cntM m) (W main_v33) ∧ ∀ b ∈ R0, r.2.mem ((c.tc : Thread nD τ).loc b) = W b) ∧ r.2.sem = fun _ => 0) :=
  Pipeline.RDat.θ_run_frameP_dmaRSat_shared (Q' := _) (pcfgs (F := F)) (fun _ => adm m hg) (0 : Fin 1) launch₀0 osem0 defs₀ Variants.none
    (fun c => (dats m hg 0 c).toR) ownSemFacts0 ∅ R0 (Finset.empty_subset _) R0_sub m ρ main
    (hbody := fun c => (body_obligation m hg c).loose.toR) (hq := fun _ _ _ => rfl) (howed := fun _ _ => rfl) (V := V m)
    (hmain := hmain m Variants.none) (hA := A_eq m hg) (hpf := fun c k => by obtain rfl : c = 0 := Subsingleton.elim _ _; rfl)
    (PG := fun c W => gOk (ivM m) (Ym m hg) (cntM m) (W main_v33)) (hin := hin m hg) (hout := hout m hg) (hQ' := fun _ h => h)

end Cert.KernelIdeal.Hand

end
-- ==== Proof.Frame.lean ====
module

public import proofs.«01_k».proof.Proof.Launch

@[expose] public section

noncomputable section

namespace Cert.KernelIdeal.Hand

open Cert.KernelIdeal Cert.KernelIdeal.Gen
open Cert.Pre_layout_ok (fn)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What `layout_ok` says of the arguments is what the launch needs of them. -/
theorem good_of_layout
    (h1 : (Cert.Pre_layout_ok.fn (F := F) (m (0, main_arg0)) (m (0, main_arg1)) (m (0, main_arg2)) (m (0, main_arg3)) (m (0, main_arg4)) (m (0, main_arg5)) (m (0, main_arg6)) (m (0, main_arg7)) (m (0, main_arg8)) (m (0, main_arg9)) (m (0, main_arg10)) (m (0, main_arg11))).1 = fun _ => 1#1)
    (h2 : (Cert.Pre_layout_ok.fn (F := F) (m (0, main_arg0)) (m (0, main_arg1)) (m (0, main_arg2)) (m (0, main_arg3)) (m (0, main_arg4)) (m (0, main_arg5)) (m (0, main_arg6)) (m (0, main_arg7)) (m (0, main_arg8)) (m (0, main_arg9)) (m (0, main_arg10)) (m (0, main_arg11))).2.1 = fun _ => 1#1)
    (h3 : (Cert.Pre_layout_ok.fn (F := F) (m (0, main_arg0)) (m (0, main_arg1)) (m (0, main_arg2)) (m (0, main_arg3)) (m (0, main_arg4)) (m (0, main_arg5)) (m (0, main_arg6)) (m (0, main_arg7)) (m (0, main_arg8)) (m (0, main_arg9)) (m (0, main_arg10)) (m (0, main_arg11))).2.2 = fun _ => 1#1) : Good m := by
  have hu := layout_used h1
  have e : nuM m = (m (0, main_arg1) : S1.Idx → BitVec 32) := V_arg m 0 main_arg1 (by simp)
  have en : cntM m = ((m (0, main_arg1) : S1.Idx → BitVec 32) (ix1 (0 : Fin 1))).toNat := by unfold cntM; rw [e]
  refine ⟨by rw [en]; exact hu.1, by rw [en]; exact hu.2, ?_, fun i => ?_⟩
  · rw [en]; exact layout_lay h2 hu.2
  · have hi := i.isLt
    unfold tbM
    rw [V_tb m 0 (cntM m) (by rw [en]; exact hu.1) (by rw [en]; exact hu.2) en.symm i]
    exact layout_tb h3 hu.2 _ (by show min i.val (cntM m - 1) < _; rw [← en]; have : 1 ≤ cntM m := by rw [en]; exact hu.1
                                  omega)

theorem rest_0 : main_arg0 ∈ Pipeline.restRefs sig spec0 \ R0 := Finset.mem_sdiff.mpr ⟨Pipeline.mem_restRefs_of main_arg0 (by decide) (by decide), by decide⟩
theorem rest_1 : main_arg1 ∈ Pipeline.restRefs sig spec0 \ R0 := Finset.mem_sdiff.mpr ⟨Pipeline.mem_restRefs_of main_arg1 (by decide) (by decide), by decide⟩
theorem rest_2 : main_arg2 ∈ Pipeline.restRefs sig spec0 \ R0 := Finset.mem_sdiff.mpr ⟨Pipeline.mem_restRefs_of main_arg2 (by decide) (by decide), by decide⟩
theorem rest_4 : main_arg4 ∈ Pipeline.restRefs sig spec0 \ R0 := Finset.mem_sdiff.mpr ⟨Pipeline.mem_restRefs_of main_arg4 (by decide) (by decide), by decide⟩
theorem rest_5 : main_arg5 ∈ Pipeline.restRefs sig spec0 \ R0 := Finset.mem_sdiff.mpr ⟨Pipeline.mem_restRefs_of main_arg5 (by decide) (by decide), by decide⟩
theorem rest_6 : main_arg6 ∈ Pipeline.restRefs sig spec0 \ R0 := Finset.mem_sdiff.mpr ⟨Pipeline.mem_restRefs_of main_arg6 (by decide) (by decide), by decide⟩
theorem rest_7 : main_arg7 ∈ Pipeline.restRefs sig spec0 \ R0 := Finset.mem_sdiff.mpr ⟨Pipeline.mem_restRefs_of main_arg7 (by decide) (by decide), by decide⟩
theorem rest_8 : main_arg8 ∈ Pipeline.restRefs sig spec0 \ R0 := Finset.mem_sdiff.mpr ⟨Pipeline.mem_restRefs_of main_arg8 (by decide) (by decide), by decide⟩
theorem rest_9 : main_arg9 ∈ Pipeline.restRefs sig spec0 \ R0 := Finset.mem_sdiff.mpr ⟨Pipeline.mem_restRefs_of main_arg9 (by decide) (by decide), by decide⟩
theorem rest_10 : main_arg10 ∈ Pipeline.restRefs sig spec0 \ R0 := Finset.mem_sdiff.mpr ⟨Pipeline.mem_restRefs_of main_arg10 (by decide) (by decide), by decide⟩
theorem rest_11 : main_arg11 ∈ Pipeline.restRefs sig spec0 \ R0 := Finset.mem_sdiff.mpr ⟨Pipeline.mem_restRefs_of main_arg11 (by decide) (by decide), by decide⟩

/-- `layout_ok` of the arguments is all ones, on every device. -/
def Layout : Prop := ∀ c : Dev nD,
  (Cert.Pre_layout_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).1 = (fun _ => 1#1)
  ∧ (Cert.Pre_layout_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).2.1 = (fun _ => 1#1)
  ∧ (Cert.Pre_layout_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).2.2 = (fun _ => 1#1)

/-- What a frame says: the run keeps every argument and ends with the counters at zero. -/
def Framed : Prop := θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0)

set_option backward.isDefEq.respectTransparency.types false in
/-- The frame: every argument is kept, the counters zero. -/
theorem frame_main [∀ e, Nonempty (Elt F e)] (hg : Good m) : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  (θ_run defs _ _).mono (fun _ h => ⟨fun c => ⟨((h.1.1 c).2 main_arg0 rest_0).trans (V_arg m c main_arg0 (by simp)), ((h.1.1 c).2 main_arg1 rest_1).trans (V_arg m c main_arg1 (by simp)), ((h.1.1 c).2 main_arg2 rest_2).trans (V_arg m c main_arg2 (by simp)), ((Pipeline.RDat.FramePostR.arr_in h.1.1 c (1 : Fin 11) rfl).trans (V_arg m c main_arg3 (by simp))), ((h.1.1 c).2 main_arg4 rest_4).trans (V_arg m c main_arg4 (by simp)), ((h.1.1 c).2 main_arg5 rest_5).trans (V_arg m c main_arg5 (by simp)), ((h.1.1 c).2 main_arg6 rest_6).trans (V_arg m c main_arg6 (by simp)), ((h.1.1 c).2 main_arg7 rest_7).trans (V_arg m c main_arg7 (by simp)), ((h.1.1 c).2 main_arg8 rest_8).trans (V_arg m c main_arg8 (by simp)), ((h.1.1 c).2 main_arg9 rest_9).trans (V_arg m c main_arg9 (by simp)), ((h.1.1 c).2 main_arg10 rest_10).trans (V_arg m c main_arg10 (by simp)), ((h.1.1 c).2 main_arg11 rest_11).trans (V_arg m c main_arg11 (by simp))⟩, h.2⟩) (run_main m ρ hg)

/-- Under `layout_ok` the kernel's frame holds, over any float values. -/
theorem framed_of_layout [∀ e, Nonempty (Elt F e)] (h : Layout m) : Framed m ρ :=
  frame_main m ρ (good_of_layout m (h 0).1 (h 0).2.1 (h 0).2.2)

end Cert.KernelIdeal.Hand

end
-- ==== Proof.VMath.lean ====
/-
  Equations between extended reals that the value claim needs: the logistic function by the hyperbolic tangent, the two
  softmaxes, the row norm, and the sum over experts of which two have a weight.
-/
module

public import Idealize.ShloMosaic.PureOps.Ideal.Laws
public import Idealize.ShloMosaic.Lib.IdealHost

@[expose] public section

noncomputable section

namespace Cert.Hand.VMath

open Idealize.ShloMosaic

theorem half : Ideal.ofBits .f32 0x3F000000#32 = ((1 / 2 : ℝ) : EReal) := by
  simp [Ideal.ofBits, Ideal.ieee]; norm_num; rw [← EReal.coe_mul]; norm_num

theorem one : Ideal.ofBits .f32 0x3F800000#32 = ((1 : ℝ) : EReal) := by
  rw [Ideal.ofBits_one_f32]; rfl

theorem width : Ideal.ofBits .f32 0x44800000#32 = ((1024 : ℝ) : EReal) := by
  simp [Ideal.ofBits, Ideal.ieee]; norm_num; rw [← EReal.coe_mul]; norm_num

/-- The norm's small constant is a positive real. -/
theorem eps_pos : ∃ e : ℝ, 0 < e ∧ Ideal.ofBits .f32 0x358637BD#32 = (e : EReal) := by
  refine ⟨_, ?_, by simp [Ideal.ofBits, Ideal.ieee]; rfl⟩
  norm_num

theorem real_half_tanh (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [Real.tanh_eq_sinh_div_cosh, Real.sinh_eq, Real.cosh_eq, h1]
  have p := Real.exp_pos (1 / 2 * r)
  have q := Real.exp_pos (-(1 / 2 * r))
  set a := Real.exp (1 / 2 * r)
  set b := Real.exp (-(1 / 2 * r))
  have hs : a + b ≠ 0 := by positivity
  have ht : 1 + b * b ≠ 0 := by positivity
  field_simp
  linear_combination (b - a * b * b) * h2 * 0 + (2 * b) * h2

/-- The logistic function, as the kernel computes it and as it is defined. -/
theorem half_tanh (a : EReal) : Ideal.ofBits .f32 0x3F000000#32 * Ideal.tanh (Ideal.ofBits .f32 0x3F000000#32 * a) + Ideal.ofBits .f32 0x3F000000#32
    = Ideal.div 1 (1 + Ideal.exp (-a)) := by
  rw [half]
  show _ = Ideal.logistic a
  induction a with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    exact congrArg _ (real_half_tanh r)

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

/-- One chosen expert's weight: of the two chosen experts its share, of the groups its group's share. -/
theorem weight (l : Fin 4 → ℝ) (g : Fin 4) (v w : ℝ) :
    Ideal.div (Ideal.div ((1 : ℝ) : EReal) (∑ j, Ideal.exp ((l j : EReal) - (l g : EReal)))) (((1 : ℝ) : EReal) + Ideal.exp ((w : EReal) - (v : EReal)))
      = Ideal.div (Ideal.exp (v : EReal)) (Ideal.exp (v : EReal) + Ideal.exp (w : EReal))
        * Ideal.div (Ideal.exp (l g : EReal)) (∑ j, Ideal.exp (l j : EReal)) := by
  have h1 : ∀ j, Ideal.exp ((l j : EReal) - (l g : EReal)) = ((Real.exp (l j - l g) : ℝ) : EReal) := fun j => by
    rw [← EReal.coe_sub, Ideal.exp_coe]
  have hp : 0 < ∑ j, Real.exp (l j) := Finset.sum_pos (fun j _ => Real.exp_pos _) ⟨g, Finset.mem_univ _⟩
  have hs : ∑ j, Real.exp (l j - l g) = (∑ j, Real.exp (l j)) / Real.exp (l g) := by
    rw [Finset.sum_div]; exact Finset.sum_congr rfl fun j _ => Real.exp_sub _ _
  have pg := Real.exp_pos (l g)
  have pv := Real.exp_pos v
  have pw := Real.exp_pos w
  simp only [h1, Ideal.exp_coe, coe_sum, ← EReal.coe_sub, ← EReal.coe_add]
  rw [hs, div_real _ _ (by positivity), div_real _ _ (by positivity), div_real _ _ (by positivity), div_real _ _ (by positivity),
    ← EReal.coe_mul, Real.exp_sub]
  refine congrArg _ ?_
  set S := ∑ j, Real.exp (l j)
  field_simp

theorem sq_nonneg' (x : EReal) : 0 ≤ x * x := by
  induction x with
  | bot => simp
  | top => simp
  | coe r => rw [← EReal.coe_mul]; exact_mod_cast mul_self_nonneg r

/-- The normalised row is finite, whatever the row. -/
theorem norm_real (x : Fin 1024 → EReal) (g : Fin 1024 → EReal) (hg : ∀ k, ∃ r : ℝ, g k = (r : EReal)) :
    ∃ h : Fin 1024 → ℝ, ∀ k, x k * Ideal.rsqrt (Ideal.div (∑ k, x k * x k) (Ideal.ofBits .f32 0x44800000#32) + Ideal.ofBits .f32 0x358637BD#32) * g k = (h k : EReal) := by
  obtain ⟨e, he, hee⟩ := eps_pos
  choose gr hgr using hg
  rw [width, hee, Ideal.div_coe (by norm_num)]
  by_cases hx : ∀ k, ∃ r : ℝ, x k = (r : EReal)
  · choose xr hxr using hx
    have : ∑ k, x k * x k = ((∑ k, xr k * xr k : ℝ) : EReal) := by
      rw [← coe_sum]; exact Finset.sum_congr rfl fun k _ => by rw [hxr, EReal.coe_mul]
    have hS : 0 ≤ ∑ k, xr k * xr k := Finset.sum_nonneg fun k _ => mul_self_nonneg _
    rw [this, ← EReal.coe_mul, ← EReal.coe_add, Ideal.rsqrt_coe, if_neg (by push Not; positivity), if_neg (by positivity)]
    exact ⟨_, fun k => by rw [hxr, hgr, ← EReal.coe_mul, ← EReal.coe_mul]⟩
  · push Not at hx
    obtain ⟨k, hk⟩ := hx
    have ht : x k * x k = ⊤ := by
      induction h : x k with
      | bot => simp
      | top => simp
      | coe r => exact absurd h (hk r)
    have : ∑ k, x k * x k = ⊤ := top_le_iff.mp (ht ▸ Finset.single_le_sum (f := fun k => x k * x k) (fun i _ => sq_nonneg' _) (Finset.mem_univ k))
    rw [this, EReal.top_mul_coe_of_pos (by norm_num), EReal.top_add_coe, Ideal.rsqrt_top]
    exact ⟨fun _ => 0, fun k => by simp⟩

/-- A linear form of reals is a real. -/
theorem lin_real {n : ℕ} (h w : Fin n → EReal) (b : EReal) (hh : ∀ k, ∃ r : ℝ, h k = (r : EReal)) (hw : ∀ k, ∃ r : ℝ, w k = (r : EReal)) (hb : ∃ r : ℝ, b = (r : EReal)) :
    ∃ r : ℝ, (∑ k, h k * w k) + b = (r : EReal) := by
  choose hr hhr using hh
  choose wr hwr using hw
  obtain ⟨br, rfl⟩ := hb
  refine ⟨(∑ k, hr k * wr k) + br, ?_⟩
  rw [EReal.coe_add, ← coe_sum]
  exact congrArg (· + _) (Finset.sum_congr rfl fun k _ => by rw [hhr, hwr, EReal.coe_mul])

/-- Of the sum over all experts the two that have a weight remain. -/
theorem two_experts (lo hi : Fin 16) (hne : lo ≠ hi) (w0 w1 : EReal) (Q wd : Fin 16 → Fin 256 → EReal) :
    ∑ e, ∑ f, wd e f * (Q e f * ((if lo = e then 1 else 0) * w0 + (if hi = e then 1 else 0) * w1))
      = ∑ f, (Q lo f * w0) * wd lo f + ∑ f, (Q hi f * w1) * wd hi f := by
  rw [Finset.sum_eq_add lo hi hne]
  · congr 1 <;> refine Finset.sum_congr rfl fun f _ => ?_
    · rw [if_pos rfl, if_neg hne.symm, one_mul, zero_mul, add_zero, mul_comm]
    · rw [if_pos rfl, if_neg hne, one_mul, zero_mul, zero_add, mul_comm]
  · intro e _ he
    refine Finset.sum_eq_zero fun f _ => ?_
    rw [if_neg (Ne.symm he.1), if_neg (Ne.symm he.2), zero_mul, zero_mul, zero_add, mul_zero, mul_zero]
  · exact fun h => absurd (Finset.mem_univ _) h
  · exact fun h => absurd (Finset.mem_univ _) h

theorem pick_one {n : ℕ} (c : Fin n) (v : Fin n → EReal) : ∑ e, (if c = e then (1 : EReal) else 0) * v e = v c := by
  simp

/-- A real lies strictly below infinity in size, and only reals do. -/
theorem real_of_abs (a : EReal) (h : max a (-a) < ⊤) : ∃ r : ℝ, a = (r : EReal) := by
  induction a with
  | bot => simp at h
  | top => simp at h
  | coe r => exact ⟨r, rfl⟩

end Cert.Hand.VMath

end
-- ==== Proof.VTile.lean ====
/-
  A tile's new rows, read at one row and one column over the extended reals.
-/
module

public import proofs.«01_k».proof.Proof.Mid
public import proofs.«01_k».proof.Proof.VMath
public import Idealize.ShloMosaic.Lib.Pointwise

@[expose] public section

set_option maxRecDepth 16384

noncomputable section

namespace Cert.KernelIdeal.Hand

open Cert.KernelIdeal Cert.KernelIdeal.Gen
open Idealize.ShloMosaic

/-- The row norm. -/
def rms (x g : Fin 1024 → EReal) (k : Fin 1024) : EReal :=
  x k * Ideal.rsqrt (Ideal.div (∑ k, x k * x k) (Ideal.ofBits .f32 0x44800000#32) + Ideal.ofBits .f32 0x358637BD#32) * g k

/-- Row `r` of a tile of rows of 1024 held as eight rows of 128 each. -/
def trow (X : S2048x128.Idx → EReal) (r : Fin 256) (k : Fin 1024) : EReal :=
  X (ix2 (⟨8 * r.val + k.val / 128, by have := r.isLt; have := k.isLt; omega⟩ : Fin 2048) (⟨k.val % 128, Nat.mod_lt _ (by omega)⟩ : Fin 128))

theorem xcol_at (k : ℕ) (h) (X : S2048x128.Idx → EReal) (r : Fin 256) (l : Fin 128) (hk : 8 * r.val + k < 2048) :
    xcol (F := Ideal) k h X (ix2 r l) = X (ix2 (⟨8 * r.val + k, hk⟩ : Fin 2048) l) := by
  unfold xcol
  refine congrArg X (funext fun a => Fin.ext ?_)
  match a with
  | ⟨0, _⟩ => show k + 8 * r.val = 8 * r.val + k; omega
  | ⟨1, _⟩ => show 0 + 1 * l.val = l.val; omega

/-- The eight column blocks, side by side, are the tile's rows. -/
theorem tX_at (X : S2048x128.Idx → EReal) (r : Fin 256) (k : Fin 1024) :
    tX (F := Ideal) (xs8 (F := Ideal) X) (ix2 r k) = trow X r k := by
  have hr := r.isLt
  have hk := k.isLt
  have key : ∀ (j : ℕ) (hj) (l : Fin 128) (_ : j < 8), k.val = 128 * j + l.val → xcol (F := Ideal) j hj X (ix2 r l) = trow X r k := by
    intro j hj l hj8 e
    have hl := l.isLt
    rw [xcol_at j hj X r l (by omega)]
    unfold trow
    congr 2
    · exact Fin.ext (by show 8 * r.val + j = 8 * r.val + k.val / 128; omega)
    · exact Fin.ext (by show l.val = k.val % 128; omega)
  pointwise [tX, k0_pay6]
  split
  · exact key 0 _ _ (by omega) (by simp)
  split
  · exact key 1 _ _ (by omega) (by simp; omega)
  split
  · exact key 2 _ _ (by omega) (by simp; omega)
  split
  · exact key 3 _ _ (by omega) (by simp; omega)
  split
  · exact key 4 _ _ (by omega) (by simp; omega)
  split
  · exact key 5 _ _ (by omega) (by simp; omega)
  split
  · exact key 6 _ _ (by omega) (by simp; omega)
  · exact key 7 _ _ (by omega) (by simp; omega)

/-- The tile's normalised rows. -/
theorem tH_at (X : S2048x128.Idx → EReal) (n : S1x1024.Idx → EReal) (r : Fin 256) (k : Fin 1024) :
    tH (F := Ideal) (xs8 (F := Ideal) X) n (ix2 r k) = rms (trow X r) (fun k => n (ix2 (0 : Fin 1) k)) k := by
  have h : ∀ k, k0_pay6 (F := Ideal) (xs8 (F := Ideal) X 0) (xs8 (F := Ideal) X 1) (xs8 (F := Ideal) X 2) (xs8 (F := Ideal) X 3) (xs8 (F := Ideal) X 4) (xs8 (F := Ideal) X 5) (xs8 (F := Ideal) X 6) (xs8 (F := Ideal) X 7) (ix2 r k) = trow X r k := tX_at X r
  generalize hq : k0_pay6 (F := Ideal) (xs8 (F := Ideal) X 0) (xs8 (F := Ideal) X 1) (xs8 (F := Ideal) X 2) (xs8 (F := Ideal) X 3) (xs8 (F := Ideal) X 4) (xs8 (F := Ideal) X 5) (xs8 (F := Ideal) X 6) (xs8 (F := Ideal) X 7) = q at h
  unfold tH k0_pay7
  rw [hq]
  pointwise []
  simp only [h]
  rfl

/-- The router's logits of a row. -/
def lgt (h : Fin 1024 → EReal) (wr : S1024x128.Idx → EReal) (br : S1x128.Idx → EReal) (l : Fin 128) : EReal :=
  (∑ k : Fin 1024, h k * wr (ix2 k l)) + br (ix2 (0 : Fin 1) l)

theorem tL_at (X : S2048x128.Idx → EReal) (n : S1x1024.Idx → EReal) (wr : S1024x128.Idx → EReal) (br : S1x128.Idx → EReal) (r : Fin 256) (l : Fin 128) :
    tL (F := Ideal) (xs8 (F := Ideal) X) n wr br (ix2 r l) = lgt (rms (trow X r) (fun k => n (ix2 (0 : Fin 1) k))) wr br l := by
  have h := tH_at X n r
  unfold tH at h
  unfold tL k0_pay9 k0_pay8
  generalize k0_pay7 (F := Ideal) (xs8 (F := Ideal) X 0) (xs8 (F := Ideal) X 1) (xs8 (F := Ideal) X 2) (xs8 (F := Ideal) X 3) (xs8 (F := Ideal) X 4) (xs8 (F := Ideal) X 5) (xs8 (F := Ideal) X 6) (xs8 (F := Ideal) X 7) n = q at h ⊢
  pointwise []
  simp only [h]
  rfl

/-- The sum over the lanes of which a mask leaves one is that lane's value. -/
theorem lane_pick (L : Fin 128 → EReal) (w : BitVec 32) (j : Fin 128) (hw : w = BitVec.ofNat 32 j.val) :
    ∑ x : Fin 128, Scalar.select (IntOp.cmpi .eq (BitVec.ofNat 32 x.val) w) (L x) 0 = L j := by
  subst hw
  rw [Finset.sum_eq_single j]
  · have : IntOp.cmpi .eq (BitVec.ofNat 32 j.val) (BitVec.ofNat 32 j.val) = 1#1 := by simp [IntOp.cmpi]
    rw [this]; rfl
  · intro x _ hx
    have : IntOp.cmpi .eq (BitVec.ofNat 32 x.val) (BitVec.ofNat 32 j.val) = 0#1 := by
      revert hx; revert x j; decide +kernel
    rw [this]; rfl
  · exact fun h => absurd (Finset.mem_univ _) h

/-- The sum over the lanes under four is the sum over the four groups. -/
theorem lane_four (f : Fin 128 → EReal) :
    ∑ x : Fin 128, Scalar.select (IntOp.cmpi .slt (BitVec.ofNat 32 x.val) 4#32) (f x) 0 = ∑ j : Fin 4, f (Fin.castLE (by omega) j) := by
  have hm : ∀ x : Fin 128, IntOp.cmpi .slt (BitVec.ofNat 32 x.val) 4#32 = if x.val < 4 then 1#1 else 0#1 := by decide +kernel
  have : ∀ x : Fin 128, Scalar.select (IntOp.cmpi .slt (BitVec.ofNat 32 x.val) 4#32) (f x) 0 = if h : x.val < 4 then f (Fin.castLE (by omega) (⟨x.val, h⟩ : Fin 4)) else 0 := by
    intro x
    rw [hm]
    split
    · rfl
    · rfl
  rw [Finset.sum_congr rfl fun x _ => this x]
  refine (Fin.sum_univ_add (a := 4) (b := 124) (fun x : Fin 128 => if h : x.val < 4 then f (Fin.castLE (by omega) (⟨x.val, h⟩ : Fin 4)) else 0)).trans ?_
  rw [Finset.sum_eq_zero (s := (Finset.univ : Finset (Fin 124)))]
  · rw [add_zero]
    refine Finset.sum_congr rfl fun j _ => ?_
    rw [dif_pos (show (Fin.castAdd 124 j).val < 4 from j.isLt)]
    rfl
  · intro j _
    rw [dif_neg (by show ¬ (4 + j.val < 4); omega)]

/-- The weight of the expert at lane `p` when the tile's other expert is at lane `q` and its group is `g`. -/
def wgt (L : Fin 128 → EReal) (g p q : Fin 128) : EReal :=
  Ideal.div (Ideal.div 1 (∑ j : Fin 4, Ideal.exp (L (Fin.castLE (by omega) j) - L g))) (1 + Ideal.exp (L q - L p))

theorem pay14_at (L : S256x128.Idx → EReal) (lo hi G : BitVec 32) (g p q : Fin 128) (hg : G = BitVec.ofNat 32 g.val)
    (hlo : Scalar.addi 8#32 lo = BitVec.ofNat 32 p.val) (hhi : Scalar.addi 8#32 hi = BitVec.ofNat 32 q.val) (r : Fin 256) :
    k0_pay14 (F := Ideal) L lo hi lanes (broadcast S256x128 G) (ix2 r (0 : Fin 1)) = wgt (fun l => L (ix2 r l)) g p q := by
  pointwise [k0_pay14, k0_pay13, k0_pay12, k0_pay11, lanes]
  rw [lane_pick (fun x => L (ix2 r x)) _ g hg, lane_pick (fun x => L (ix2 r x)) _ p hlo, lane_pick (fun x => L (ix2 r x)) _ q hhi, lane_four]
  rfl

theorem pay15_at (L : S256x128.Idx → EReal) (lo hi G : BitVec 32) (g p q : Fin 128) (hg : G = BitVec.ofNat 32 g.val)
    (hlo : Scalar.addi 8#32 lo = BitVec.ofNat 32 p.val) (hhi : Scalar.addi 8#32 hi = BitVec.ofNat 32 q.val) (r : Fin 256) :
    k0_pay15 (F := Ideal) L lo hi lanes (broadcast S256x128 G) (ix2 r (0 : Fin 1)) = wgt (fun l => L (ix2 r l)) g q p := by
  pointwise [k0_pay15, k0_pay13, k0_pay12, k0_pay11, lanes]
  rw [lane_pick (fun x => L (ix2 r x)) _ g hg, lane_pick (fun x => L (ix2 r x)) _ p hlo, lane_pick (fun x => L (ix2 r x)) _ q hhi, lane_four]
  rfl

/-- The gated product of two projections. -/
def glu (a u : EReal) : EReal := a * Ideal.div 1 (1 + Ideal.exp (-a)) * u

/-- A projection of a row. -/
def prj (h : Fin 1024 → EReal) (A : S1x1024x256.Idx → EReal) (f : Fin 256) : EReal := ∑ k : Fin 1024, h k * A (ix3 (0 : Fin 1) k f)

theorem pay18_at (H : S256x1024.Idx → EReal) (w : S256x1.Idx → EReal) (a u : S1x1024x256.Idx → EReal) (r f : Fin 256) :
    k0_pay18 (F := Ideal) H w a u (ix2 r f) = glu (prj (fun k => H (ix2 r k)) a f) (prj (fun k => H (ix2 r k)) u f) * w (ix2 r (0 : Fin 1)) := by
  pointwise [k0_pay18]
  rw [Cert.Hand.VMath.half_tanh]
  rfl

theorem pay17_at (Xr H : S256x1024.Idx → EReal) (w : S256x1.Idx → EReal) (a u : S1x1024x256.Idx → EReal) (dn : S1x256x1024.Idx → EReal) (r : Fin 256) (d : Fin 1024) :
    k0_pay17 (F := Ideal) Xr H w (k0_pay16 (F := Ideal) a) (constant S256x256 .f32 0x00000000#32) u dn (ix2 r d)
      = Xr (ix2 r d) + ∑ f : Fin 256, glu (prj (fun k => H (ix2 r k)) a f) (prj (fun k => H (ix2 r k)) u f) * w (ix2 r (0 : Fin 1)) * dn (ix3 (0 : Fin 1) f d) := by
  pointwise [k0_pay17, k0_pay16]
  simp only [Cert.Hand.VMath.half_tanh]
  rfl

theorem pay19_at (Y : S256x1024.Idx → EReal) (H : S256x256.Idx → EReal) (dn : S1x256x1024.Idx → EReal) (r : Fin 256) (d : Fin 1024) :
    k0_pay19 (F := Ideal) Y H dn (ix2 r d) = Y (ix2 r d) + ∑ f : Fin 256, H (ix2 r f) * dn (ix3 (0 : Fin 1) f d) := by
  pointwise [k0_pay19]

/-- The word the kernel computes for a tile's group. -/
def grp (w : BitVec 32) : BitVec 32 := k0_pay10 (F := Ideal) w (ix2 (0 : Fin 256) (0 : Fin 128))

theorem pay10_eq (w : BitVec 32) : k0_pay10 (F := Ideal) w = broadcast S256x128 (grp w) := rfl

/-- A tile's new row: the old one, and of each of the tile's two experts its gated product, weighted, through the last
    projection. -/
theorem tileY_at (w : BitVec 32) (X : S2048x128.Idx → EReal) (n : S1x1024.Idx → EReal) (wr : S1024x128.Idx → EReal) (br : S1x128.Idx → EReal)
    (a u : S1x1024x256.Idx → EReal) (dn : S1x256x1024.Idx → EReal) (a' u' : S1x1024x256.Idx → EReal) (dn' : S1x256x1024.Idx → EReal)
    (g p q : Fin 128) (hg : grp w = BitVec.ofNat 32 g.val) (hlo : Scalar.addi 8#32 (laneLo w) = BitVec.ofNat 32 p.val)
    (hhi : Scalar.addi 8#32 (laneHi w) = BitVec.ofNat 32 q.val) (r : Fin 256) (d : Fin 1024)
    (h : Fin 1024 → EReal) (hh : h = rms (trow X r) (fun k => n (ix2 (0 : Fin 1) k))) :
    tileY (F := Ideal) w X n wr br a u dn a' u' dn' (ix2 r d)
      = (trow X r d + ∑ f : Fin 256, glu (prj h a f) (prj h u f) * wgt (lgt h wr br) g p q * dn (ix3 (0 : Fin 1) f d))
        + ∑ f : Fin 256, glu (prj h a' f) (prj h u' f) * wgt (lgt h wr br) g q p * dn' (ix3 (0 : Fin 1) f d) := by
  subst hh
  unfold tileY
  rw [pay10_eq, pay19_at, pay17_at, pay14_at _ _ _ _ g p q hg hlo hhi, tX_at]
  simp only [pay18_at, pay15_at _ _ _ _ g p q hg hlo hhi, tH_at, tL_at]

end Cert.KernelIdeal.Hand

end
-- ==== Proof.VHost.lean ====
/-
  What the call's windows hold, read at an index over the extended reals: the router's two weight matrices side by side, the
  experts' weights, the norm's row, and the tile's slots.
-/
module

public import proofs.«01_k».proof.Proof.Launch
public import proofs.«01_k».proof.Proof.VTile
public import Idealize.ShloMosaic.Lib.Routing.OpsPair
public import Idealize.ShloMosaic.Lib.Routing.OpsSet

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ)

theorem V_down (c : Dev nD) (e : Fin 16) (f : Fin 256) (d : Fin 1024) :
    (V m c main_v18 : S16x256x1024.Idx → EReal) (ix3 e f d) = (m (c, main_arg11) : S16x256x1024.Idx → EReal) (ix3 e f d) := by
  unfold V
  after_reads_simp
  rfl
theorem V_up (c : Dev nD) (e : Fin 16) (k : Fin 1024) (f : Fin 256) :
    (V m c main_v17 : S16x1024x256.Idx → EReal) (ix3 e k f) = (m (c, main_arg10) : S16x1024x256.Idx → EReal) (ix3 e k f) := by
  unfold V
  after_reads_simp
  rfl
theorem V_gate (c : Dev nD) (e : Fin 16) (k : Fin 1024) (f : Fin 256) :
    (V m c main_v16 : S16x1024x256.Idx → EReal) (ix3 e k f) = (m (c, main_arg9) : S16x1024x256.Idx → EReal) (ix3 e k f) := by
  unfold V
  after_reads_simp
  rfl

theorem V_norm (c : Dev nD) (k : Fin 1024) :
    (V m c main_v15 : S1x1024.Idx → EReal) (ix2 (0 : Fin 1) k) = (m (c, main_arg4) : S1024.Idx → EReal) (ix1 k) := by
  unfold V
  after_reads_simp
  refine shapeCast_apply _ _ _ (ix1 k) ?_
  refine (Shape.rowMajor_val_one _).trans (Eq.trans ?_ (Shape.rowMajor_val_two (ix2 (0 : Fin 1) k)).symm)
  show k.val = 0 * 1024 + k.val
  omega

/-! ## The router's matrix -/

/-- Where the columns set land: `w` columns to the right. -/
theorem cols4_lands (w : ℕ) (idx : IVec S1 32) (hidx : ∀ i, (idx i).toInt = (w : ℤ)) (u : S1024x4.Idx) (k : Fin 1024) (l : Fin 128) :
    scatter_S1024x128_S1_S1024x4_01_n_1_0.resultIdx? u idx = some (ix2 k l) ↔ (u 0).val = k.val ∧ w + (u 1).val = l.val := by
  refine (Idealize.ShloMosaic.Routing.resultIdx?_ix2 (R := 1024) (C := 128) scatter_S1024x128_S1_S1024x4_01_n_1_0 u idx k l).trans ?_
  have a : scatter_S1024x128_S1_S1024x4_01_n_1_0.start u idx 0 = 0 := rfl
  have b : scatter_S1024x128_S1_S1024x4_01_n_1_0.start u idx 1 = (w : ℤ) := hidx _
  have c : scatter_S1024x128_S1_S1024x4_01_n_1_0.window u 0 = (u 0).val := rfl
  have d : scatter_S1024x128_S1_S1024x4_01_n_1_0.window u 1 = (u 1).val := rfl
  rw [a, b, c, d]
  constructor
  · rintro ⟨h1, h2⟩; exact ⟨by omega, by omega⟩
  · rintro ⟨h1, h2⟩; exact ⟨by omega, by omega⟩
theorem cols16_lands (w : ℕ) (idx : IVec S1 32) (hidx : ∀ i, (idx i).toInt = (w : ℤ)) (u : S1024x16.Idx) (k : Fin 1024) (l : Fin 128) :
    scatter_S1024x128_S1_S1024x16_01_n_1_0.resultIdx? u idx = some (ix2 k l) ↔ (u 0).val = k.val ∧ w + (u 1).val = l.val := by
  refine (Idealize.ShloMosaic.Routing.resultIdx?_ix2 (R := 1024) (C := 128) scatter_S1024x128_S1_S1024x16_01_n_1_0 u idx k l).trans ?_
  have a : scatter_S1024x128_S1_S1024x16_01_n_1_0.start u idx 0 = 0 := rfl
  have b : scatter_S1024x128_S1_S1024x16_01_n_1_0.start u idx 1 = (w : ℤ) := hidx _
  have c : scatter_S1024x128_S1_S1024x16_01_n_1_0.window u 0 = (u 0).val := rfl
  have d : scatter_S1024x128_S1_S1024x16_01_n_1_0.window u 1 = (u 1).val := rfl
  rw [a, b, c, d]
  constructor
  · rintro ⟨h1, h2⟩; exact ⟨by omega, by omega⟩
  · rintro ⟨h1, h2⟩; exact ⟨by omega, by omega⟩

theorem idx2_ext {R C : ℕ} (u : (⟨2, ![R, C]⟩ : Shape).Idx) (a : Fin R) (b : Fin C) (h0 : (u 0).val = a.val) (h1 : (u 1).val = b.val) : u = ix2 a b := by
  funext i
  match i with
  | ⟨0, _⟩ => exact Fin.ext h0
  | ⟨1, _⟩ => exact Fin.ext h1
theorem idx1_ext {R : ℕ} (u : (⟨1, ![R]⟩ : Shape).Idx) (a : Fin R) (h0 : (u 0).val = a.val) : u = ix1 a := by
  funext i
  match i with
  | ⟨0, _⟩ => exact Fin.ext h0

/-- The first four columns of the router's matrix are the groups', columns 8 to 23 the experts'. -/
theorem router_group (z : S1024x128.Idx → EReal) (g : S1024x4.Idx → EReal) (e : S1024x16.Idx → EReal) (i0 i8 : IVec S1 32) (h0' : ∀ i, i0 i = 0#32) (h8' : ∀ i, i8 i = 8#32) (k : Fin 1024) (j : Fin 4) :
    Host.scatter scatter_S1024x128_S1_S1024x16_01_n_1_0 (fun _ b => b) (Host.scatter scatter_S1024x128_S1_S1024x4_01_n_1_0 (fun _ b => b) z i0 g) i8 e (ix2 k (Fin.castLE (by omega) j : Fin 128)) = g (ix2 k j) := by
  have h0 : ∀ i, (i0 i).toInt = ((0 : ℕ) : ℤ) := fun i => by rw [h0' i]; rfl
  have h8 : ∀ i, (i8 i).toInt = ((8 : ℕ) : ℤ) := fun i => by rw [h8' i]; rfl
  have hj := j.isLt
  refine (Idealize.ShloMosaic.Routing.scatter_set_miss _ _ _ _ _ fun u h => ?_).trans ?_
  · have := ((cols16_lands 8 i8 h8 u k _).mp h).2
    have : 8 + (u 1).val = j.val := this
    omega
  · refine Idealize.ShloMosaic.Routing.scatter_set_hit _ _ _ _ _ _ (fun u h => ?_) (ix2 k j) ((cols4_lands 0 i0 h0 _ k _).mpr ⟨rfl, Nat.zero_add _⟩)
    obtain ⟨a, b⟩ := (cols4_lands 0 i0 h0 u k _).mp h
    have b : 0 + (u 1).val = j.val := b
    exact congrArg g (idx2_ext u k j a (by omega))
theorem router_expert (z : S1024x128.Idx → EReal) (e : S1024x16.Idx → EReal) (i8 : IVec S1 32) (h8' : ∀ i, i8 i = 8#32) (k : Fin 1024) (j : Fin 16) (l : Fin 128) (hl : l.val = 8 + j.val) :
    Host.scatter scatter_S1024x128_S1_S1024x16_01_n_1_0 (fun _ b => b) z i8 e (ix2 k l) = e (ix2 k j) := by
  have h8 : ∀ i, (i8 i).toInt = ((8 : ℕ) : ℤ) := fun i => by rw [h8' i]; rfl
  refine Idealize.ShloMosaic.Routing.scatter_set_hit _ _ _ _ _ _ (fun u h => ?_) (ix2 k j) ((cols16_lands 8 i8 h8 _ k _).mpr ⟨rfl, hl.symm⟩)
  obtain ⟨a, b⟩ := (cols16_lands 8 i8 h8 u k _).mp h
  exact congrArg e (idx2_ext u k j a (by omega))

theorem V5 (c : Dev nD) : ∃ (z : S1024x128.Idx → EReal) (i0 i8 : IVec S1 32), (∀ i, i0 i = 0#32) ∧ (∀ i, i8 i = 8#32)
    ∧ (V m c main_v5 : S1024x128.Idx → EReal)
      = Host.scatter scatter_S1024x128_S1_S1024x16_01_n_1_0 (fun _ b => b) (Host.scatter scatter_S1024x128_S1_S1024x4_01_n_1_0 (fun _ b => b) z i0 (m (c, main_arg5) : S1024x4.Idx → EReal)) i8 (m (c, main_arg7) : S1024x16.Idx → EReal) := by
  have ht : ∀ x : FVec Idealize.ShloMosaic.Ideal S1024x128 .f32, truncf .bf16 x bitsLt_bf16_f32 = x := fun _ => rfl
  unfold V
  after_reads_simp
  rw [ht]
  refine ⟨_, _, _, ?_, ?_, rfl⟩
  · intro i; rfl
  · intro i; rfl

theorem V_wr_group (c : Dev nD) (k : Fin 1024) (j : Fin 4) :
    (V m c main_v5 : S1024x128.Idx → EReal) (ix2 k (Fin.castLE (by omega) j)) = (m (c, main_arg5) : S1024x4.Idx → EReal) (ix2 k j) := by
  obtain ⟨z, i0, i8, h0, h8, e⟩ := V5 m c
  rw [e]
  exact router_group z _ _ i0 i8 h0 h8 k j
theorem V_wr_expert (c : Dev nD) (k : Fin 1024) (j : Fin 16) (l : Fin 128) (hl : l.val = 8 + j.val) :
    (V m c main_v5 : S1024x128.Idx → EReal) (ix2 k l) = (m (c, main_arg7) : S1024x16.Idx → EReal) (ix2 k j) := by
  obtain ⟨z, i0, i8, h0, h8, e⟩ := V5 m c
  rw [e]
  exact router_expert _ _ i8 h8 k j l hl

/-! ## The router's row of constants -/

theorem row4_lands (w : ℕ) (idx : IVec S2 32) (h0 : (idx (ix1 (0 : Fin 2))).toInt = 0) (h1 : (idx (ix1 (1 : Fin 2))).toInt = (w : ℤ)) (u : S4.Idx) (l : Fin 128) :
    scatter_S1x128_S2_S4_0_0_01_0.resultIdx? u idx = some (ix2 (0 : Fin 1) l) ↔ w + (u 0).val = l.val := by
  refine (Idealize.ShloMosaic.Routing.resultIdx?_ix2 (R := 1) (C := 128) scatter_S1x128_S2_S4_0_0_01_0 u idx 0 l).trans ?_
  have a : scatter_S1x128_S2_S4_0_0_01_0.start u idx 0 = 0 := by
    refine Eq.trans (congrArg (fun i => (idx i).toInt) (idx1_ext _ (0 : Fin 2) rfl)) h0
  have b : scatter_S1x128_S2_S4_0_0_01_0.start u idx 1 = (w : ℤ) := by
    refine Eq.trans (congrArg (fun i => (idx i).toInt) (idx1_ext _ (1 : Fin 2) rfl)) h1
  have c : scatter_S1x128_S2_S4_0_0_01_0.window u 0 = 0 := rfl
  have d : scatter_S1x128_S2_S4_0_0_01_0.window u 1 = (u 0).val := rfl
  rw [a, b, c, d]
  constructor
  · rintro ⟨h1, h2⟩; omega
  · intro h; exact ⟨by simp, by omega⟩
theorem row16_lands (w : ℕ) (idx : IVec S2 32) (h0 : (idx (ix1 (0 : Fin 2))).toInt = 0) (h1 : (idx (ix1 (1 : Fin 2))).toInt = (w : ℤ)) (u : S16.Idx) (l : Fin 128) :
    scatter_S1x128_S2_S16_0_0_01_0.resultIdx? u idx = some (ix2 (0 : Fin 1) l) ↔ w + (u 0).val = l.val := by
  refine (Idealize.ShloMosaic.Routing.resultIdx?_ix2 (R := 1) (C := 128) scatter_S1x128_S2_S16_0_0_01_0 u idx 0 l).trans ?_
  have a : scatter_S1x128_S2_S16_0_0_01_0.start u idx 0 = 0 := by
    refine Eq.trans (congrArg (fun i => (idx i).toInt) (idx1_ext _ (0 : Fin 2) rfl)) h0
  have b : scatter_S1x128_S2_S16_0_0_01_0.start u idx 1 = (w : ℤ) := by
    refine Eq.trans (congrArg (fun i => (idx i).toInt) (idx1_ext _ (1 : Fin 2) rfl)) h1
  have c : scatter_S1x128_S2_S16_0_0_01_0.window u 0 = 0 := rfl
  have d : scatter_S1x128_S2_S16_0_0_01_0.window u 1 = (u 0).val := rfl
  rw [a, b, c, d]
  constructor
  · rintro ⟨h1, h2⟩; omega
  · intro h; exact ⟨by simp, by omega⟩

/-- The two index vectors of the row of constants: the first group's lane, the first expert's. -/
def iv0 (c : Dev nD) : IVec S2 32 := concatenate S2 0 [⟨S1, (upto hostOps0 (fun b => m (c, b)) 15 (Proc.devRef .tc main_v7) : S1.Idx → BitVec 32)⟩, ⟨S1, (upto hostOps0 (fun b => m (c, b)) 15 (Proc.devRef .tc main_v8) : S1.Idx → BitVec 32)⟩] concatenates_S1_S1_S2_d0
def iv8 (c : Dev nD) : IVec S2 32 := concatenate S2 0 [⟨S1, (upto hostOps0 (fun b => m (c, b)) 21 (Proc.devRef .tc main_v11) : S1.Idx → BitVec 32)⟩, ⟨S1, (upto hostOps0 (fun b => m (c, b)) 21 (Proc.devRef .tc main_v12) : S1.Idx → BitVec 32)⟩] concatenates_S1_S1_S2_d0

theorem pair_at (a b : S1.Idx → BitVec 32) (x y : BitVec 32) (ha : ∀ i, a i = x) (hb : ∀ i, b i = y) :
    concatenate S2 0 [⟨S1, a⟩, ⟨S1, b⟩] concatenates_S1_S1_S2_d0 (ix1 (0 : Fin 2)) = x ∧ concatenate S2 0 [⟨S1, a⟩, ⟨S1, b⟩] concatenates_S1_S1_S2_d0 (ix1 (1 : Fin 2)) = y :=
  ⟨ha _, hb _⟩

theorem iv0_at (c : Dev nD) : iv0 m c (ix1 (0 : Fin 2)) = 0#32 ∧ iv0 m c (ix1 (1 : Fin 2)) = 0#32 := by
  refine pair_at _ _ _ _ (fun i => ?_) (fun i => ?_)
  · after_reads_simp; rfl
  · after_reads_simp; rfl
theorem iv8_at (c : Dev nD) : iv8 m c (ix1 (0 : Fin 2)) = 0#32 ∧ iv8 m c (ix1 (1 : Fin 2)) = 8#32 := by
  refine pair_at _ _ _ _ (fun i => ?_) (fun i => ?_)
  · after_reads_simp; rfl
  · after_reads_simp; rfl

theorem V14 (c : Dev nD) : ∃ z : S1x128.Idx → EReal, (V m c main_v14 : S1x128.Idx → EReal)
    = Host.scatter scatter_S1x128_S2_S16_0_0_01_0 (fun _ b => b)
        (Host.scatter scatter_S1x128_S2_S4_0_0_01_0 (fun _ b => b) z (iv0 m c) (m (c, main_arg6) : S4.Idx → EReal))
        (iv8 m c) (m (c, main_arg8) : S16.Idx → EReal) := by
  unfold V iv0 iv8
  after_reads_simp
  exact ⟨_, rfl⟩

theorem V_br_group (c : Dev nD) (j : Fin 4) :
    (V m c main_v14 : S1x128.Idx → EReal) (ix2 (0 : Fin 1) (Fin.castLE (by omega) j)) = (m (c, main_arg6) : S4.Idx → EReal) (ix1 j) := by
  have hj := j.isLt
  obtain ⟨a0, a1⟩ := iv0_at m c
  obtain ⟨b0, b1⟩ := iv8_at m c
  obtain ⟨z, hz⟩ := V14 m c
  rw [hz]
  refine (Idealize.ShloMosaic.Routing.scatter_set_miss _ _ _ _ _ fun u h => ?_).trans ?_
  · have : 8 + (u 0).val = j.val := (row16_lands 8 _ (by rw [b0]; rfl) (by rw [b1]; rfl) u _).mp h
    omega
  · refine Idealize.ShloMosaic.Routing.scatter_set_hit _ _ _ _ _ _ (fun u h => ?_) (ix1 j) ((row4_lands 0 _ (by rw [a0]; rfl) (by rw [a1]; rfl) _ _).mpr (Nat.zero_add _))
    have b : 0 + (u 0).val = j.val := (row4_lands 0 _ (by rw [a0]; rfl) (by rw [a1]; rfl) u _).mp h
    exact congrArg _ (idx1_ext u j (by omega))
theorem V_br_expert (c : Dev nD) (j : Fin 16) (l : Fin 128) (hl : l.val = 8 + j.val) :
    (V m c main_v14 : S1x128.Idx → EReal) (ix2 (0 : Fin 1) l) = (m (c, main_arg8) : S16.Idx → EReal) (ix1 j) := by
  obtain ⟨a0, a1⟩ := iv0_at m c
  obtain ⟨b0, b1⟩ := iv8_at m c
  obtain ⟨z, hz⟩ := V14 m c
  rw [hz]
  refine Idealize.ShloMosaic.Routing.scatter_set_hit _ _ _ _ _ _ (fun u h => ?_) (ix1 j) ((row16_lands 8 _ (by rw [b0]; rfl) (by rw [b1]; rfl) _ _).mpr hl.symm)
  have b : 8 + (u 0).val = l.val := (row16_lands 8 _ (by rw [b0]; rfl) (by rw [b1]; rfl) u _).mp h
  exact congrArg _ (idx1_ext u j (by omega))

end Cert.KernelIdeal.Hand

end
-- ==== Proof.VRef.lean ====
/-
  The reference's result, read at one token and one column over the extended reals.
-/
module

public import proofs.«01_k».proof.Proof.Gen.ReferenceIdeal.Read
public import proofs.«01_k».proof.Proof.VTile
public import Idealize.ShloMosaic.Lib.Routing.Ops
public import Idealize.ShloMosaic.Lib.Routing.OpsSet
public import Idealize.ShloMosaic.Lib.StableHlo.Predicate
public import Idealize.ShloMosaic.Lib.Pointwise

@[expose] public section

set_option maxRecDepth 16384

noncomputable section

namespace Cert.ReferenceIdeal.Hand

open Cert.ReferenceIdeal Cert.ReferenceIdeal.Read
open Idealize.ShloMosaic
open Cert.KernelIdeal.Hand (rms glu)

variable (x0 : S256.Idx → BitVec 32) (x2 : S39424.Idx → BitVec 32) (x3 : S311296x128.Idx → EReal) (x4 : S1024.Idx → EReal) (x5 : S1024x4.Idx → EReal)
  (x6 : S4.Idx → EReal) (x7 : S1024x16.Idx → EReal) (x8 : S16.Idx → EReal) (x9 x10 : S16x1024x256.Idx → EReal) (x11 : S16x256x1024.Idx → EReal)

/-- The group of bucket `n`, and its two experts. -/
def gOf (n : Fin 24) : Fin 4 := ⟨n.val / 6, by omega⟩
def p0 (n : Fin 24) : ℕ := if 3 ≤ n.val % 6 then 1 else 0
def p1 (n : Fin 24) : ℕ := if 5 ≤ n.val % 6 then 1 else 0
def eLo (n : Fin 24) : Fin 16 := ⟨(4 * (n.val / 6) + p0 n + p1 n) % 16, Nat.mod_lt _ (by omega)⟩
def eHi (n : Fin 24) : Fin 16 := ⟨(4 * (n.val / 6) + (n.val % 6 + 1 - 2 * p0 n - p1 n)) % 16, Nat.mod_lt _ (by omega)⟩

theorem lo_ne_hi : ∀ n, eLo n ≠ eHi n := by decide +kernel

/-- The reference's row of token `t` before the experts. -/
abbrev xrow (t : Fin 32768) (k : Fin 1024) : EReal := val_main_v6 (F := Ideal) x2 x3 (ix2 t k)
abbrev hrow (t : Fin 32768) (k : Fin 1024) : EReal := val_main_v41 (F := Ideal) x2 x3 x4 (ix2 t k)

theorem h_at (t : Fin 32768) (k : Fin 1024) :
    val_main_v41 (F := Ideal) x2 x3 x4 (ix2 t k) = rms (fun k => val_main_v6 (F := Ideal) x2 x3 (ix2 t k)) (fun k => x4 (ix1 k)) k := by
  pointwise [val_main_v41, val_main_v40, val_main_v39, val_main_v38, val_main_v37, val_main_v36, val_main_v35, val_main_v34, val_main_cst_7, val_main_v33, val_main_v32, val_main_cst_6, val_main_v31, val_main_v30, val_main_cst, val_main_v29]
  rfl

/-- The logits of the groups and of the experts. -/
def glog (h : Fin 1024 → EReal) (j : Fin 4) : EReal := (∑ k : Fin 1024, h k * x5 (ix2 k j)) + x6 (ix1 j)
def elog (h : Fin 1024 → EReal) (e : Fin 16) : EReal := (∑ k : Fin 1024, h k * x7 (ix2 k e)) + x8 (ix1 e)

theorem gl_at (t : Fin 32768) (h : Fin 1024 → EReal) (hh : ∀ k, val_main_v41 (F := Ideal) x2 x3 x4 (ix2 t k) = h k) (j : Fin 4) :
    val_main_v47 (F := Ideal) x2 x3 x4 x5 x6 (ix2 t j) = glog x5 x6 h j := by
  pointwise [val_main_v47, val_main_v46, val_main_v45, val_main_v44]
  simp only [hh]
  rfl

theorem el_at (t : Fin 32768) (h : Fin 1024 → EReal) (hh : ∀ k, val_main_v41 (F := Ideal) x2 x3 x4 (ix2 t k) = h k) (e : Fin 16) :
    val_main_v60 (F := Ideal) x2 x3 x4 x7 x8 (ix2 t e) = elog x7 x8 h e := by
  pointwise [val_main_v60, val_main_v59, val_main_v58, val_main_v57]
  simp only [hh]
  rfl

theorem bit_real (b : BitVec 1) : (FloatOps.uitofp (F := Ideal) .f32 b : EReal) = if b = 1#1 then 1 else 0 := by
  show ((b.toNat : ℝ) : EReal) = _
  have : b = 0#1 ∨ b = 1#1 := by revert b; decide
  rcases this with rfl | rfl
  · simp
  · simp

theorem group_word : ∀ (n : Fin 24) (j : Fin 4), (IntOp.cmpi .eq (IntOp.divsi .host (BitVec.ofNat 32 n.val) 6#32) (BitVec.ofNat 32 j.val) = 1#1) ↔ gOf n = j := by
  decide +kernel

/-- The group's weight. -/
theorem gw_at (t : Fin 32768) (n : Fin 24) (hb : val_main_v10 (F := Ideal) x0 x2 (ix1 t) = BitVec.ofNat 32 n.val)
    (h : Fin 1024 → EReal) (hh : ∀ k, val_main_v41 (F := Ideal) x2 x3 x4 (ix2 t k) = h k) :
    val_main_v55 (F := Ideal) x0 x2 x3 x4 x5 x6 (ix1 t) = Ideal.div (Ideal.exp (glog x5 x6 h (gOf n))) (∑ j, Ideal.exp (glog x5 x6 h j)) := by
  pointwise [val_main_v55, val_main_cst_10, val_main_v54, val_main_v53, val_main_v52, val_main_v51, val_main_v50, val_main_cst_9, val_main_v49, val_main_v48, val_main_call0_v4, val_main_call0_v3, val_main_call0_v2, val_main_call0_v1, val_main_call0_v0]
  simp only [gl_at x2 x3 x4 x5 x6 t h hh]
  have e : val_main_v43 (F := Ideal) x0 x2 (ix1 t) = IntOp.divsi .host (BitVec.ofNat 32 n.val) 6#32 := by rw [← hb]; rfl
  simp only [e, bit_real, group_word]
  simp

/-- The word the reference computes for the `k`-th expert of bucket `b`. -/
def ewW (b : BitVec 32) (k : Fin 2) : BitVec 32 :=
  let q := IntOp.remsi .host b 6#32
  let c0 := (IntOp.cmpi .sge q 3#32).setWidth 32
  let c1 := (IntOp.cmpi .sge q 5#32).setWidth 32
  IntOp.addi (IntOp.muli (IntOp.divsi .host b 6#32) 4#32)
    (if k.val < 1 then IntOp.addi c0 c1 else IntOp.subi (IntOp.subi (IntOp.addi q 1#32) (IntOp.muli 2#32 c0)) c1)

theorem expert_word : ∀ (n : Fin 24) (k : Fin 2) (e : Fin 16), (IntOp.cmpi .eq (ewW (BitVec.ofNat 32 n.val) k) (BitVec.ofNat 32 e.val) = 1#1) ↔ (if k = 0 then eLo n else eHi n) = e := by
  decide +kernel

/-- The one-hot rows of the two chosen experts. -/
theorem pick_at (t : Fin 32768) (n : Fin 24) (hb : val_main_v10 (F := Ideal) x0 x2 (ix1 t) = BitVec.ofNat 32 n.val) (k : Fin 2) (e : Fin 16) :
    val_main_v66 (F := Ideal) x0 x2 (ix3 t k e) = if (if k = 0 then eLo n else eHi n) = e then 1 else 0 := by
  have hw : val_main_v66 (F := Ideal) x0 x2 (ix3 t k e) = FloatOps.uitofp (F := Ideal) .f32 (IntOp.cmpi .eq (ewW (val_main_v10 (F := Ideal) x0 x2 (ix1 t)) k) (BitVec.ofNat 32 e.val)) := by
    pointwise [val_main_v66, val_main_call1_v4, val_main_call1_v3, val_main_call1_v2, val_main_call1_v1, val_main_call1_v0, val_main_v65, val_main_v64, val_main_v63, val_main_v62, val_main_c_11, val_main_v61, val_main_v28, val_main_v27, val_main_v26]
    unfold ewW
    by_cases h : k.val < 1
    · rw [dif_pos h]; dsimp only; rw [if_pos h]; rfl
    · rw [dif_neg h]; dsimp only; rw [if_neg h]; rfl
  rw [hw, hb, bit_real]
  exact if_congr (expert_word n k e) rfl rfl

/-- The weight of expert `p` when `q` is the other chosen one. -/
def ew (h : Fin 1024 → EReal) (n : Fin 24) (p q : Fin 16) : EReal :=
  Ideal.div (Ideal.exp (elog x7 x8 h p)) (Ideal.exp (elog x7 x8 h p) + Ideal.exp (elog x7 x8 h q))
    * Ideal.div (Ideal.exp (glog x5 x6 h (gOf n))) (∑ j, Ideal.exp (glog x5 x6 h j))

theorem w_at (t : Fin 32768) (n : Fin 24) (hb : val_main_v10 (F := Ideal) x0 x2 (ix1 t) = BitVec.ofNat 32 n.val)
    (h : Fin 1024 → EReal) (hh : ∀ k, val_main_v41 (F := Ideal) x2 x3 x4 (ix2 t k) = h k) (k : Fin 2) :
    val_main_v77 (F := Ideal) x0 x2 x3 x4 x5 x6 x7 x8 (ix2 t k)
      = if k = 0 then ew x5 x6 x7 x8 h n (eLo n) (eHi n) else ew x5 x6 x7 x8 h n (eHi n) (eLo n) := by
  pointwise [val_main_v77, val_main_v76, val_main_v56, val_main_v75, val_main_v74, val_main_v73, val_main_v72, val_main_cst_13, val_main_v71, val_main_v70, val_main_cst_12, val_main_v69, val_main_v68, val_main_v67]
  simp only [gw_at x0 x2 x3 x4 x5 x6 t n hb h hh, pick_at x0 x2 t n hb, el_at x2 x3 x4 x7 x8 t h hh, Cert.Hand.VMath.pick_one]
  rw [Fin.sum_univ_two]
  match k with
  | ⟨0, _⟩ => rfl
  | ⟨1, _⟩ => rw [add_comm]; rfl

/-- A projection by expert `e`. -/
def eprj (h : Fin 1024 → EReal) (A : S16x1024x256.Idx → EReal) (e : Fin 16) (f : Fin 256) : EReal := ∑ k : Fin 1024, h k * A (ix3 e k f)

/-- The reference's new row of a token: the old one and its two experts' share. -/
theorem y_at (t : Fin 32768) (n : Fin 24) (hb : val_main_v10 (F := Ideal) x0 x2 (ix1 t) = BitVec.ofNat 32 n.val)
    (h : Fin 1024 → EReal) (hh : ∀ k, val_main_v41 (F := Ideal) x2 x3 x4 (ix2 t k) = h k) (d : Fin 1024) :
    val_main_v92 (F := Ideal) x0 x2 x3 x4 x5 x6 x7 x8 x9 x10 x11 (ix2 t d)
      = (val_main_v6 (F := Ideal) x2 x3 (ix2 t d)
          + ∑ f : Fin 256, glu (eprj h x9 (eLo n) f) (eprj h x10 (eLo n) f) * ew x5 x6 x7 x8 h n (eLo n) (eHi n) * x11 (ix3 (eLo n) f d))
        + ∑ f : Fin 256, glu (eprj h x9 (eHi n) f) (eprj h x10 (eHi n) f) * ew x5 x6 x7 x8 h n (eHi n) (eLo n) * x11 (ix3 (eHi n) f d) := by
  pointwise [val_main_v92, val_main_v91, val_main_cst_15, val_main_v90, val_main_v89, val_main_v88, val_main_v87, val_main_v86, val_main_v85, val_main_v84, val_main_v83, val_main_call2_v5, val_main_call2_v4, val_main_call2_cst_0, val_main_call2_v3, val_main_call2_v2, val_main_call2_cst, val_main_call2_v1, val_main_call2_v0, val_main_v82, val_main_v81, val_main_cst_14, val_main_v80, val_main_v79, val_main_v78]
  simp only [hh, pick_at x0 x2 t n hb, w_at x0 x2 x3 x4 x5 x6 x7 x8 t n hb h hh, Fin.sum_univ_two]
  rw [add_assoc]
  refine congrArg _ ?_
  exact Cert.Hand.VMath.two_experts (eLo n) (eHi n) (lo_ne_hi n) (ew x5 x6 x7 x8 h n (eLo n) (eHi n)) (ew x5 x6 x7 x8 h n (eHi n) (eLo n))
    (fun e f => glu (eprj h x9 e f) (eprj h x10 e f)) (fun e f => x11 (ix3 e f d))

theorem out_at (x : Fin 266240) (c : Fin 128) (hx : x.val < 262144) :
    val_main_v94 (F := Ideal) x0 x2 x3 x4 x5 x6 x7 x8 x9 x10 x11 (ix2 x c)
      = val_main_v92 (F := Ideal) x0 x2 x3 x4 x5 x6 x7 x8 x9 x10 x11 (ix2 (⟨x.val / 8, by omega⟩ : Fin 32768) (⟨x.val % 8 * 128 + c.val, by omega⟩ : Fin 1024)) := by
  pointwise [val_main_v94, val_main_call3_v0, val_main_c_16, val_main_v93]
  rw [dif_pos hx]

/-- The word of the slot that token `t` is looked up in. -/
abbrev slotW (t : Fin 32768) : BitVec 32 := val_main_v3 (F := Ideal) x2 (ix1 t)

theorem word_eq (w : BitVec 32) (s : ℕ) (e : w.toNat = s) : w = BitVec.ofNat 32 s := by
  rw [← e]; simp

theorem two_ext {R C : ℕ} (u : (⟨2, ![R, C]⟩ : Shape).Idx) (a : Fin R) (b : Fin C) (h0 : (u 0).val = a.val) (h1 : (u 1).val = b.val) : u = ix2 a b := by
  funext i
  match i with
  | ⟨0, _⟩ => exact Fin.ext h0
  | ⟨1, _⟩ => exact Fin.ext h1

/-- The token's row is its slot's. -/
theorem x_at (t : Fin 32768) (s : ℕ) (hs : s < 38912) (e : (slotW x2 t).toNat = s) (k : Fin 1024) :
    val_main_v6 (F := Ideal) x2 x3 (ix2 t k)
      = x3 (ix2 (⟨8 * s + k.val / 128, by have := k.isLt; omega⟩ : Fin 311296) (⟨k.val % 128, Nat.mod_lt _ (by omega)⟩ : Fin 128)) := by
  have hk := k.isLt
  refine (Idealize.ShloMosaic.Routing.gather_row (nb := 38912) (B := 1024) (n := 32768) gather_S38912x1024_S32768x1_S32768x1024_1_0_n_n_0_1_11024 rfl rfl rfl rfl rfl
    (val_main_v4 (F := Ideal) x3) (val_main_v5 (F := Ideal) x2) t k ⟨s, hs⟩ ?_ (by decide)).trans ?_
  · refine (val_main_v5_apply x2 _).trans ?_
    refine (congrArg _ (funext fun a => ?_)).trans (word_eq _ s e)
    match a with | ⟨0, _⟩ => rfl
  · have hA : (s * 1024 + k.val) / 128 = 8 * s + k.val / 128 := by omega
    have hB : (s * 1024 + k.val) % 128 = k.val % 128 := by omega
    refine (val_main_v4_apply (F := Ideal) x3 _).trans (congrArg x3 ?_)
    refine two_ext _ _ _ ?_ ?_
    · exact hA
    · exact hB

theorem div_word (s : ℕ) (hs : s < 38912) : IntOp.divsi .host (BitVec.ofNat 32 s) 256#32 = BitVec.ofNat 32 (s / 256) := by
  have h0 : (BitVec.ofNat 32 s).toNat = s := by rw [BitVec.toNat_ofNat]; omega
  have h1 : (BitVec.ofNat 32 s).msb = false := by rw [BitVec.msb_eq_false_iff_two_mul_lt, h0]; omega
  have h2 : (256#32 : BitVec 32).msb = false := by decide
  have hc : ¬ IntOp.SDivCorner (BitVec.ofNat 32 s) 256#32 := by
    unfold IntOp.SDivCorner
    rintro (h | ⟨-, h⟩)
    · exact absurd h (by decide)
    · exact absurd h (by decide)
  unfold IntOp.divsi
  rw [if_neg hc, BitVec.sdiv_eq, h1, h2]
  apply BitVec.eq_of_toNat_eq
  show (BitVec.ofNat 32 s / 256#32).toNat = _
  have h3 : (256#32 : BitVec 32).toNat = 256 := rfl
  rw [BitVec.toNat_udiv, h0, h3, BitVec.toNat_ofNat]
  omega

/-- The token's bucket is its tile's. -/
theorem bucket_at (t : Fin 32768) (s : ℕ) (hs : s < 38912) (e : (slotW x2 t).toNat = s) :
    val_main_v10 (F := Ideal) x0 x2 (ix1 t) = x0 (ix1 (⟨s / 256, by omega⟩ : Fin 256)) := by
  refine Idealize.ShloMosaic.Routing.gather_take1 (N := 256) (n := 32768) gather_S256_S32768x1_S32768_n_0_n_n_0_1_1 rfl rfl rfl rfl
    x0 (val_main_v9 (F := Ideal) x2) t ⟨s / 256, by omega⟩ ?_ (by decide)
  refine (val_main_v9_apply x2 _).trans ?_
  have hi : idx_main_v9 (ix2 t (0 : Fin 1)) = ix1 t := funext fun a => by match a with | ⟨0, _⟩ => rfl
  show val_main_v8 (F := Ideal) x2 (idx_main_v9 (ix2 t (0 : Fin 1))) = _
  rw [hi, val_main_v8_apply]
  rw [show val_main_v3 (F := Ideal) x2 (ix1 t) = BitVec.ofNat 32 s from word_eq _ s e]
  exact div_word s hs

end Cert.ReferenceIdeal.Hand

end
-- ==== Proof.VWin.lean ====
/-
  What a used tile's blocks hold, index by index: its rows, the norm's scale, the router, and of each of its bucket's two
  experts the three projections.
-/
module

public import proofs.«01_k».proof.Proof.VHost
public import proofs.«01_k».proof.Proof.VRef

@[expose] public section

noncomputable section

namespace Cert.KernelIdeal.Hand

open Cert.KernelIdeal Cert.KernelIdeal.Gen
open Cert.ReferenceIdeal.Hand (gOf eLo eHi)
open Idealize.ShloMosaic Idealize.ShloMosaic.TcCoe Idealize.ShloMosaic.Tactic

/-! ## The words a bucket names -/

theorem grp_word : ∀ n : Fin 24, grp (BitVec.ofNat 32 n.val) = BitVec.ofNat 32 (gOf n).val := by
  unfold grp k0_pay10
  decide +kernel
theorem lo_word : ∀ n : Fin 24, Scalar.addi 8#32 (laneLo (BitVec.ofNat 32 n.val)) = BitVec.ofNat 32 (8 + (eLo n).val) := by
  decide +kernel
theorem hi_word : ∀ n : Fin 24, Scalar.addi 8#32 (laneHi (BitVec.ofNat 32 n.val)) = BitVec.ofNat 32 (8 + (eHi n).val) := by
  decide +kernel

variable {F : FTy → Type} [FloatOps F]

theorem tr5_at (pf : pre0.Contents (Elt F)) (i : grid0.Coords) (n : Fin 24)
    (h : pf.at 0 (Rect.unit (s := S256) ![(Scalar.indexCast (BitVec.ofNat 32 (i 0).val)).toNat] S1.size (k0_off1_inb i)) numel1_S1 = BitVec.ofNat 32 n.val) :
    ∀ a, cc0_transform_5 k0_off1_inb numel1_S1 pf i a = ![(eLo n).val, 0, 0] a := by
  unfold cc0_transform_5
  dsimp only
  rw [h]
  clear h
  revert n
  decide +kernel

theorem tr6_at (pf : pre0.Contents (Elt F)) (i : grid0.Coords) (n : Fin 24)
    (h : pf.at 0 (Rect.unit (s := S256) ![(Scalar.indexCast (BitVec.ofNat 32 (i 0).val)).toNat] S1.size (k0_off1_inb i)) numel1_S1 = BitVec.ofNat 32 n.val) :
    ∀ a, cc0_transform_6 k0_off1_inb numel1_S1 pf i a = ![(eLo n).val, 0, 0] a := by
  unfold cc0_transform_6
  dsimp only
  rw [h]
  clear h
  revert n
  decide +kernel

theorem tr7_at (pf : pre0.Contents (Elt F)) (i : grid0.Coords) (n : Fin 24)
    (h : pf.at 0 (Rect.unit (s := S256) ![(Scalar.indexCast (BitVec.ofNat 32 (i 0).val)).toNat] S1.size (k0_off1_inb i)) numel1_S1 = BitVec.ofNat 32 n.val) :
    ∀ a, cc0_transform_7 k0_off1_inb numel1_S1 pf i a = ![(eLo n).val, 0, 0] a := by
  unfold cc0_transform_7
  dsimp only
  rw [h]
  clear h
  revert n
  decide +kernel

theorem tr8_at (pf : pre0.Contents (Elt F)) (i : grid0.Coords) (n : Fin 24)
    (h : pf.at 0 (Rect.unit (s := S256) ![(Scalar.indexCast (BitVec.ofNat 32 (i 0).val)).toNat] S1.size (k0_off1_inb i)) numel1_S1 = BitVec.ofNat 32 n.val) :
    ∀ a, cc0_transform_8 k0_off1_inb numel1_S1 pf i a = ![(eHi n).val, 0, 0] a := by
  unfold cc0_transform_8
  dsimp only
  rw [h]
  clear h
  revert n
  decide +kernel

theorem tr9_at (pf : pre0.Contents (Elt F)) (i : grid0.Coords) (n : Fin 24)
    (h : pf.at 0 (Rect.unit (s := S256) ![(Scalar.indexCast (BitVec.ofNat 32 (i 0).val)).toNat] S1.size (k0_off1_inb i)) numel1_S1 = BitVec.ofNat 32 n.val) :
    ∀ a, cc0_transform_9 k0_off1_inb numel1_S1 pf i a = ![(eHi n).val, 0, 0] a := by
  unfold cc0_transform_9
  dsimp only
  rw [h]
  clear h
  revert n
  decide +kernel

theorem tr10_at (pf : pre0.Contents (Elt F)) (i : grid0.Coords) (n : Fin 24)
    (h : pf.at 0 (Rect.unit (s := S256) ![(Scalar.indexCast (BitVec.ofNat 32 (i 0).val)).toNat] S1.size (k0_off1_inb i)) numel1_S1 = BitVec.ofNat 32 n.val) :
    ∀ a, cc0_transform_10 k0_off1_inb numel1_S1 pf i a = ![(eHi n).val, 0, 0] a := by
  unfold cc0_transform_10
  dsimp only
  rw [h]
  clear h
  revert n
  decide +kernel

theorem tr1_at (pf : pre0.Contents (Elt F)) (i : grid0.Coords) (w : BitVec 32) (hw : w.toNat ≤ 152) (hi : (i 0).val < w.toNat)
    (h : pf.at 1 (Rect.unit (s := S1) ![0] S1.size inb_S1_S1_0) numel1_S1 = w) :
    ∀ a, cc0_transform_1 inb_S1_S1_0 numel1_S1 pf i a = ![(i 0).val, 0] a := by
  unfold cc0_transform_1
  dsimp only
  rw [h]
  have e : (BitVec.ofNat 32 (i 0).val).toNat = (i 0).val := by rw [BitVec.toNat_ofNat]; omega
  have e1 : (w - 1#32).toNat = w.toNat - 1 := by rw [BitVec.toNat_sub]; simp; omega
  have hm : (Scalar.minsi (BitVec.ofNat 32 (i 0).val) (Scalar.subi w 1#32)).toNat = (i 0).val := by
    unfold Scalar.minsi IntOp.minsi Scalar.subi IntOp.subi
    split
    · exact e
    · next hc =>
      rw [BitVec.slt_iff_toInt_lt, StableHlo.Predicate.toInt_eq_toNat_of_lt (by rw [e]; omega), StableHlo.Predicate.toInt_eq_toNat_of_lt (by rw [e1]; omega), e, e1] at hc
      rw [e1]
      omega
  intro a
  match a with
  | ⟨0, _⟩ => exact hm
  | ⟨1, _⟩ => rfl

variable (m : (ℓ : Loc nD τ sig) → Buf (Elt F) ℓ)

theorem pf_bucket (hg : Good m) (i : grid0.Coords) :
    (pfM m).at 0 (Rect.unit (s := S256) ![(Scalar.indexCast (BitVec.ofNat 32 (i 0).val)).toNat] S1.size (k0_off1_inb i)) numel1_S1 = tbM m (tix i) := by
  show tbM m _ = _
  refine congrArg (tbM m) (funext fun a => Fin.ext ?_)
  have hi : (i 0).val < 152 := (i 0).isLt
  have e : (BitVec.ofNat 32 (i 0).val).toNat = (i 0).val := by rw [BitVec.toNat_ofNat]; omega
  match a with
  | ⟨0, _⟩ => show (BitVec.ofNat 32 (i 0).val).toNat + 1 * 0 = (i 0).val; omega

theorem pf_used : (pfM m).at 1 (Rect.unit (s := S1) ![0] S1.size inb_S1_S1_0) numel1_S1 = nuM m (ix1 (0 : Fin 1)) := by
  show nuM m _ = _
  exact congrArg (nuM m) (funext fun a => match a with | ⟨0, _⟩ => Subsingleton.elim (α := Fin 1) _ _)

/-! ## The blocks -/

attribute [local irreducible] cc0_transform_1 cc0_transform_5 cc0_transform_6 cc0_transform_7 cc0_transform_8 cc0_transform_9 cc0_transform_10

variable (hg : Good m) (t : Fin (cfgM m hg).N)

/-- A used tile's rows are the argument's. -/
theorem B1_at (ht : (grid0.coords t 0).val < cntM m) (r : Fin 2048) (l : Fin 128) :
    B1 m hg t (ix2 r l) = (m (0, main_arg3) : S311296x128.Idx → Elt F .f32) (ix2 (⟨2048 * (grid0.coords t 0).val + r.val, by have : (grid0.coords t 0).val < 152 := (grid0.coords t 0).isLt; have := r.isLt; omega⟩ : Fin 311296) l) := by
  have h0 : cc0_transform_1 inb_S1_S1_0 numel1_S1 (pfM m) (grid0.coords t) 0 = (grid0.coords t 0).val := tr1_at (pfM m) (grid0.coords t) (nuM m (ix1 (0 : Fin 1))) hg.le ht (pf_used m) 0
  have h1 : cc0_transform_1 inb_S1_S1_0 numel1_S1 (pfM m) (grid0.coords t) 1 = 0 := tr1_at (pfM m) (grid0.coords t) (nuM m (ix1 (0 : Fin 1))) hg.le ht (pf_used m) 1
  have e : (V m 0 main_arg3 : S311296x128.Idx → Elt F .f32) = m (0, main_arg3) := V_arg m 0 main_arg3 (by simp)
  rw [← e]
  show (V m 0 main_arg3 : S311296x128.Idx → Elt F .f32) _ = _
  refine congrArg (V m 0 main_arg3 : S311296x128.Idx → Elt F .f32) (funext fun a => Fin.ext ?_)
  match a with
  | ⟨0, _⟩ =>
    show cc0_transform_1 inb_S1_S1_0 numel1_S1 (pfM m) (grid0.coords t) 0 * 2048 + 1 * r.val = 2048 * (grid0.coords t 0).val + r.val
    rw [h0]; omega
  | ⟨1, _⟩ =>
    show cc0_transform_1 inb_S1_S1_0 numel1_S1 (pfM m) (grid0.coords t) 1 * 128 + 1 * l.val = l.val
    rw [h1]; omega

theorem B2_at (r : Fin 1) (k : Fin 1024) : B2 m hg t (ix2 r k) = (V m 0 main_v15 : S1x1024.Idx → Elt F .f32) (ix2 r k) := by
  show (V m 0 main_v15 : S1x1024.Idx → Elt F .f32) _ = _
  refine congrArg (V m 0 main_v15 : S1x1024.Idx → Elt F .f32) (funext fun a => Fin.ext ?_)
  match a with
  | ⟨0, _⟩ => show 0 * 1 + 1 * r.val = r.val; omega
  | ⟨1, _⟩ => show 0 * 1024 + 1 * k.val = k.val; omega

theorem B3_at (r : Fin 1024) (k : Fin 128) : B3 m hg t (ix2 r k) = (V m 0 main_v5 : S1024x128.Idx → Elt F .bf16) (ix2 r k) := by
  show (V m 0 main_v5 : S1024x128.Idx → Elt F .bf16) _ = _
  refine congrArg (V m 0 main_v5 : S1024x128.Idx → Elt F .bf16) (funext fun a => Fin.ext ?_)
  match a with
  | ⟨0, _⟩ => show 0 * 1024 + 1 * r.val = r.val; omega
  | ⟨1, _⟩ => show 0 * 128 + 1 * k.val = k.val; omega

theorem B4_at (r : Fin 1) (k : Fin 128) : B4 m hg t (ix2 r k) = (V m 0 main_v14 : S1x128.Idx → Elt F .f32) (ix2 r k) := by
  show (V m 0 main_v14 : S1x128.Idx → Elt F .f32) _ = _
  refine congrArg (V m 0 main_v14 : S1x128.Idx → Elt F .f32) (funext fun a => Fin.ext ?_)
  match a with
  | ⟨0, _⟩ => show 0 * 1 + 1 * r.val = r.val; omega
  | ⟨1, _⟩ => show 0 * 128 + 1 * k.val = k.val; omega

theorem B5_at (n : Fin 24) (hn : tbM m (tix (grid0.coords t)) = BitVec.ofNat 32 n.val) (k : Fin 1024) (f : Fin 256) :
    B5 m hg t (ix3 (0 : Fin 1) k f) = (V m 0 main_v16 : S16x1024x256.Idx → Elt F .bf16) (ix3 (eLo n) k f) := by
  have h := tr5_at (pfM m) (grid0.coords t) n ((pf_bucket m hg (grid0.coords t)).trans hn)
  have h0 : cc0_transform_5 k0_off1_inb numel1_S1 (pfM m) (grid0.coords t) 0 = (eLo n).val := h 0
  have h1 : cc0_transform_5 k0_off1_inb numel1_S1 (pfM m) (grid0.coords t) 1 = 0 := h 1
  have h2 : cc0_transform_5 k0_off1_inb numel1_S1 (pfM m) (grid0.coords t) 2 = 0 := h 2
  show (V m 0 main_v16 : S16x1024x256.Idx → Elt F .bf16) _ = _
  refine congrArg (V m 0 main_v16 : S16x1024x256.Idx → Elt F .bf16) (funext fun a => Fin.ext ?_)
  match a with
  | ⟨0, _⟩ =>
    show cc0_transform_5 k0_off1_inb numel1_S1 (pfM m) (grid0.coords t) 0 * 1 + 1 * 0 = (eLo n).val
    rw [h0]; omega
  | ⟨1, _⟩ =>
    show cc0_transform_5 k0_off1_inb numel1_S1 (pfM m) (grid0.coords t) 1 * 1024 + 1 * k.val = k.val
    rw [h1]; omega
  | ⟨2, _⟩ =>
    show cc0_transform_5 k0_off1_inb numel1_S1 (pfM m) (grid0.coords t) 2 * 256 + 1 * f.val = f.val
    rw [h2]; omega

theorem B6_at (n : Fin 24) (hn : tbM m (tix (grid0.coords t)) = BitVec.ofNat 32 n.val) (k : Fin 1024) (f : Fin 256) :
    B6 m hg t (ix3 (0 : Fin 1) k f) = (V m 0 main_v17 : S16x1024x256.Idx → Elt F .bf16) (ix3 (eLo n) k f) := by
  have h := tr6_at (pfM m) (grid0.coords t) n ((pf_bucket m hg (grid0.coords t)).trans hn)
  have h0 : cc0_transform_6 k0_off1_inb numel1_S1 (pfM m) (grid0.coords t) 0 = (eLo n).val := h 0
  have h1 : cc0_transform_6 k0_off1_inb numel1_S1 (pfM m) (grid0.coords t) 1 = 0 := h 1
  have h2 : cc0_transform_6 k0_off1_inb numel1_S1 (pfM m) (grid0.coords t) 2 = 0 := h 2
  show (V m 0 main_v17 : S16x1024x256.Idx → Elt F .bf16) _ = _
  refine congrArg (V m 0 main_v17 : S16x1024x256.Idx → Elt F .bf16) (funext fun a => Fin.ext ?_)
  match a with
  | ⟨0, _⟩ =>
    show cc0_transform_6 k0_off1_inb numel1_S1 (pfM m) (grid0.coords t) 0 * 1 + 1 * 0 = (eLo n).val
    rw [h0]; omega
  | ⟨1, _⟩ =>
    show cc0_transform_6 k0_off1_inb numel1_S1 (pfM m) (grid0.coords t) 1 * 1024 + 1 * k.val = k.val
    rw [h1]; omega
  | ⟨2, _⟩ =>
    show cc0_transform_6 k0_off1_inb numel1_S1 (pfM m) (grid0.coords t) 2 * 256 + 1 * f.val = f.val
    rw [h2]; omega

theorem B7_at (n : Fin 24) (hn : tbM m (tix (grid0.coords t)) = BitVec.ofNat 32 n.val) (k : Fin 256) (f : Fin 1024) :
    B7 m hg t (ix3 (0 : Fin 1) k f) = (V m 0 main_v18 : S16x256x1024.Idx → Elt F .bf16) (ix3 (eLo n) k f) := by
  have h := tr7_at (pfM m) (grid0.coords t) n ((pf_bucket m hg (grid0.coords t)).trans hn)
  have h0 : cc0_transform_7 k0_off1_inb numel1_S1 (pfM m) (grid0.coords t) 0 = (eLo n).val := h 0
  have h1 : cc0_transform_7 k0_off1_inb numel1_S1 (pfM m) (grid0.coords t) 1 = 0 := h 1
  have h2 : cc0_transform_7 k0_off1_inb numel1_S1 (pfM m) (grid0.coords t) 2 = 0 := h 2
  show (V m 0 main_v18 : S16x256x1024.Idx → Elt F .bf16) _ = _
  refine congrArg (V m 0 main_v18 : S16x256x1024.Idx → Elt F .bf16) (funext fun a => Fin.ext ?_)
  match a with
  | ⟨0, _⟩ =>
    show cc0_transform_7 k0_off1_inb numel1_S1 (pfM m) (grid0.coords t) 0 * 1 + 1 * 0 = (eLo n).val
    rw [h0]; omega
  | ⟨1, _⟩ =>
    show cc0_transform_7 k0_off1_inb numel1_S1 (pfM m) (grid0.coords t) 1 * 256 + 1 * k.val = k.val
    rw [h1]; omega
  | ⟨2, _⟩ =>
    show cc0_transform_7 k0_off1_inb numel1_S1 (pfM m) (grid0.coords t) 2 * 1024 + 1 * f.val = f.val
    rw [h2]; omega

theorem B8_at (n : Fin 24) (hn : tbM m (tix (grid0.coords t)) = BitVec.ofNat 32 n.val) (k : Fin 1024) (f : Fin 256) :
    B8 m hg t (ix3 (0 : Fin 1) k f) = (V m 0 main_v16 : S16x1024x256.Idx → Elt F .bf16) (ix3 (eHi n) k f) := by
  have h := tr8_at (pfM m) (grid0.coords t) n ((pf_bucket m hg (grid0.coords t)).trans hn)
  have h0 : cc0_transform_8 k0_off1_inb numel1_S1 (pfM m) (grid0.coords t) 0 = (eHi n).val := h 0
  have h1 : cc0_transform_8 k0_off1_inb numel1_S1 (pfM m) (grid0.coords t) 1 = 0 := h 1
  have h2 : cc0_transform_8 k0_off1_inb numel1_S1 (pfM m) (grid0.coords t) 2 = 0 := h 2
  show (V m 0 main_v16 : S16x1024x256.Idx → Elt F .bf16) _ = _
  refine congrArg (V m 0 main_v16 : S16x1024x256.Idx → Elt F .bf16) (funext fun a => Fin.ext ?_)
  match a with
  | ⟨0, _⟩ =>
    show cc0_transform_8 k0_off1_inb numel1_S1 (pfM m) (grid0.coords t) 0 * 1 + 1 * 0 = (eHi n).val
    rw [h0]; omega
  | ⟨1, _⟩ =>
    show cc0_transform_8 k0_off1_inb numel1_S1 (pfM m) (grid0.coords t) 1 * 1024 + 1 * k.val = k.val
    rw [h1]; omega
  | ⟨2, _⟩ =>
    show cc0_transform_8 k0_off1_inb numel1_S1 (pfM m) (grid0.coords t) 2 * 256 + 1 * f.val = f.val
    rw [h2]; omega

theorem B9_at (n : Fin 24) (hn : tbM m (tix (grid0.coords t)) = BitVec.ofNat 32 n.val) (k : Fin 1024) (f : Fin 256) :
    B9 m hg t (ix3 (0 : Fin 1) k f) = (V m 0 main_v17 : S16x1024x256.Idx → Elt F .bf16) (ix3 (eHi n) k f) := by
  have h := tr9_at (pfM m) (grid0.coords t) n ((pf_bucket m hg (grid0.coords t)).trans hn)
  have h0 : cc0_transform_9 k0_off1_inb numel1_S1 (pfM m) (grid0.coords t) 0 = (eHi n).val := h 0
  have h1 : cc0_transform_9 k0_off1_inb numel1_S1 (pfM m) (grid0.coords t) 1 = 0 := h 1
  have h2 : cc0_transform_9 k0_off1_inb numel1_S1 (pfM m) (grid0.coords t) 2 = 0 := h 2
  show (V m 0 main_v17 : S16x1024x256.Idx → Elt F .bf16) _ = _
  refine congrArg (V m 0 main_v17 : S16x1024x256.Idx → Elt F .bf16) (funext fun a => Fin.ext ?_)
  match a with
  | ⟨0, _⟩ =>
    show cc0_transform_9 k0_off1_inb numel1_S1 (pfM m) (grid0.coords t) 0 * 1 + 1 * 0 = (eHi n).val
    rw [h0]; omega
  | ⟨1, _⟩ =>
    show cc0_transform_9 k0_off1_inb numel1_S1 (pfM m) (grid0.coords t) 1 * 1024 + 1 * k.val = k.val
    rw [h1]; omega
  | ⟨2, _⟩ =>
    show cc0_transform_9 k0_off1_inb numel1_S1 (pfM m) (grid0.coords t) 2 * 256 + 1 * f.val = f.val
    rw [h2]; omega

theorem B10_at (n : Fin 24) (hn : tbM m (tix (grid0.coords t)) = BitVec.ofNat 32 n.val) (k : Fin 256) (f : Fin 1024) :
    B10 m hg t (ix3 (0 : Fin 1) k f) = (V m 0 main_v18 : S16x256x1024.Idx → Elt F .bf16) (ix3 (eHi n) k f) := by
  have h := tr10_at (pfM m) (grid0.coords t) n ((pf_bucket m hg (grid0.coords t)).trans hn)
  have h0 : cc0_transform_10 k0_off1_inb numel1_S1 (pfM m) (grid0.coords t) 0 = (eHi n).val := h 0
  have h1 : cc0_transform_10 k0_off1_inb numel1_S1 (pfM m) (grid0.coords t) 1 = 0 := h 1
  have h2 : cc0_transform_10 k0_off1_inb numel1_S1 (pfM m) (grid0.coords t) 2 = 0 := h 2
  show (V m 0 main_v18 : S16x256x1024.Idx → Elt F .bf16) _ = _
  refine congrArg (V m 0 main_v18 : S16x256x1024.Idx → Elt F .bf16) (funext fun a => Fin.ext ?_)
  match a with
  | ⟨0, _⟩ =>
    show cc0_transform_10 k0_off1_inb numel1_S1 (pfM m) (grid0.coords t) 0 * 1 + 1 * 0 = (eHi n).val
    rw [h0]; omega
  | ⟨1, _⟩ =>
    show cc0_transform_10 k0_off1_inb numel1_S1 (pfM m) (grid0.coords t) 1 * 256 + 1 * k.val = k.val
    rw [h1]; omega
  | ⟨2, _⟩ =>
    show cc0_transform_10 k0_off1_inb numel1_S1 (pfM m) (grid0.coords t) 2 * 1024 + 1 * f.val = f.val
    rw [h2]; omega

end Cert.KernelIdeal.Hand

end
-- ==== Proof.VPre.lean ====
/-
  What the precondition `routed` says of the arguments: the layout is well formed, every token has a slot among the used
  tiles' that names it back, and the norm's scale and the router are finite.
-/
module

public import proofs.«01_k».proof.Proof.Pre
public import proofs.«01_k».proof.Proof.VMath
public import proofs.«01_k».proof.Proof.Gen.Pre_routed
public import proofs.«01_k».proof.Proof.Gen.ReferenceIdeal.Read

@[expose] public section

noncomputable section

namespace Cert.KernelIdeal.Hand

open Cert.KernelIdeal Cert.KernelIdeal.Gen
open Cert.ReferenceIdeal.Read (val_main_v3)
open Idealize.ShloMosaic Idealize.ShloMosaic.ValueIdx

variable {a0 : S256.Idx → BitVec 32} {a1 : S1.Idx → BitVec 32} {a2 : S39424.Idx → BitVec 32}
  {a3 : FVec Ideal S311296x128 .f32} {a4 : FVec Ideal S1024 .f32} {a5 : FVec Ideal S1024x4 .f32} {a6 : FVec Ideal S4 .f32}
  {a7 : FVec Ideal S1024x16 .f32} {a8 : FVec Ideal S16 .f32} {a9 a10 : FVec Ideal S16x1024x256 .f32} {a11 : FVec Ideal S16x256x1024 .f32}

/-- The first three masks of `routed` are `layout_ok`'s. -/
theorem routed_used : (Cert.Pre_layout_ok.fn (F := Ideal) a0 a1 a2 a3 a4 a5 a6 a7 a8 a9 a10 a11).1 = (Cert.Pre_routed.fn (F := Ideal) a0 a1 a2 a3 a4 a5 a6 a7 a8 a9 a10 a11).1 := rfl
theorem routed_slots : (Cert.Pre_layout_ok.fn (F := Ideal) a0 a1 a2 a3 a4 a5 a6 a7 a8 a9 a10 a11).2.1 = (Cert.Pre_routed.fn (F := Ideal) a0 a1 a2 a3 a4 a5 a6 a7 a8 a9 a10 a11).2.1 := rfl
theorem routed_tb : (Cert.Pre_layout_ok.fn (F := Ideal) a0 a1 a2 a3 a4 a5 a6 a7 a8 a9 a10 a11).2.2 = (Cert.Pre_routed.fn (F := Ideal) a0 a1 a2 a3 a4 a5 a6 a7 a8 a9 a10 a11).2.2.1 := rfl

/-- Every token's slot is one of the used tiles'. -/
theorem routed_slot (h : (Cert.Pre_routed.fn (F := Ideal) a0 a1 a2 a3 a4 a5 a6 a7 a8 a9 a10 a11).2.2.2.1 = fun _ => 1#1) (hN : (a1 (ix1 (0 : Fin 1))).toNat ≤ 152) (t : Fin 32768) :
    (val_main_v3 (F := Ideal) a2 (ix1 t)).toNat < 256 * (a1 (ix1 (0 : Fin 1))).toNat := by
  have h' := congrFun h (ix1 t)
  have hb : ∀ (w : S_.Idx → BitVec 32) (j : Cert.Pre_routed.S32768.Idx), broadcastInDim Cert.Pre_routed.S32768 ![] Cert.Pre_routed.Facts.bcast_S_S32768 w j = w (Shape.Idx.first (by decide)) :=
    fun w j => StableHlo.Predicate.bcast_scalar _ _ _ _
  unfold Cert.Pre_routed.fn Cert.Pre_routed.fn_part1 Cert.Pre_routed.fn_part2 Cert.Pre_routed.fn_part3 at h'
  dsimp only at h'
  unfold andi cmpi muli at h'
  simp only [hb, scalar_of_one] at h'
  have h2 : IntOp.andi (IntOp.cmpi .sge (val_main_v3 (F := Ideal) a2 (ix1 t)) 0#32) (IntOp.cmpi .slt (val_main_v3 (F := Ideal) a2 (ix1 t)) (IntOp.muli (a1 (ix1 (0 : Fin 1))) 256#32)) = 1#1 := h'
  have e : (IntOp.muli (a1 (ix1 (0 : Fin 1))) 256#32).toNat = 256 * (a1 (ix1 (0 : Fin 1))).toNat := by
    show ((a1 (ix1 (0 : Fin 1))) * 256#32).toNat = _
    rw [BitVec.toNat_mul]
    show _ * 256 % 2 ^ 32 = _
    omega
  rw [bit_and] at h2
  have hw := word_between (by decide) (by rw [e]; omega) h2.1 (.inr h2.2)
  have := (StableHlo.Predicate.slt_iff_toNat hw.2 (by rw [e]; omega)).mp h2.2
  omega

theorem one_ext {n : ℕ} (a b : Fin n) (h : a.val = b.val) : (ix1 a : (⟨1, ![n]⟩ : Shape).Idx) = Shape.Idx.ofFin b := by
  obtain rfl : a = b := Fin.ext h
  funext i
  match i with | ⟨0, _⟩ => rfl

/-- And that slot names the token. -/
theorem routed_back (h : (Cert.Pre_routed.fn (F := Ideal) a0 a1 a2 a3 a4 a5 a6 a7 a8 a9 a10 a11).2.2.2.2.1 = fun _ => 1#1) (t : Fin 32768) (s : ℕ) (hs : s < 38912) (e : (val_main_v3 (F := Ideal) a2 (ix1 t)).toNat = s) :
    a2 (ix1 (⟨s, by omega⟩ : Fin 39424)) = BitVec.ofNat 32 t.val := by
  have h0 : cmpi .eq (Host.gather Cert.Pre_routed.gather_S39424_S32768x1_S32768_n_0_n_n_0_1_1 a2 (broadcastInDim Cert.Pre_routed.S32768x1 ![0] Cert.Pre_routed.Facts.bcast_S32768_S32768x1_0 (val_main_v3 (F := Ideal) a2))) (iotaInDim Cert.Pre_routed.S32768 32 0) = fun _ => 1#1 := h
  have h' := congrFun h0 (Shape.Idx.ofFin t)
  have hg := StableHlo.Predicate.gather_take Cert.Pre_routed.gather_S39424_S32768x1_S32768_n_0_n_n_0_1_1 rfl rfl rfl rfl a2
    (broadcastInDim Cert.Pre_routed.S32768x1 ![0] Cert.Pre_routed.Facts.bcast_S32768_S32768x1_0 (val_main_v3 (F := Ideal) a2)) t (by decide)
  have hi : iotaInDim Cert.Pre_routed.S32768 32 0 (Shape.Idx.ofFin t) = BitVec.ofNat 32 t.val := rfl
  unfold cmpi at h'
  have h3 := (StableHlo.Predicate.cmpi_eq_iff.mp h').trans hi
  rw [← h3, hg]
  have hx := StableHlo.Predicate.bcast_col1 Cert.Pre_routed.Facts.bcast_S32768_S32768x1_0 (val_main_v3 (F := Ideal) a2) t
  have hy : val_main_v3 (F := Ideal) a2 (Shape.Idx.ofFin t) = val_main_v3 (F := Ideal) a2 (ix1 t) := congrArg _ (funext fun a => by match a with | ⟨0, _⟩ => rfl)
  have hz : s = min (broadcastInDim Cert.Pre_routed.S32768x1 ![0] Cert.Pre_routed.Facts.bcast_S32768_S32768x1_0 (val_main_v3 (F := Ideal) a2) (StableHlo.Predicate.ixP t)).toInt.toNat (39424 - 1) := by
    rw [hx, hy, StableHlo.Predicate.toInt_eq_toNat_of_lt (by rw [e]; omega), e]
    show s = min s (39424 - 1)
    omega
  exact congrArg a2 (one_ext _ _ hz)

theorem inf_top : Ideal.ofBits .f32 0x7F800000#32 = ⊤ := by
  simp [Ideal.ofBits, Ideal.ieee]

theorem real_of_mask (a : EReal) (h : Ideal.cmp .olt (max a (-a)) (Ideal.ofBits .f32 0x7F800000#32) = 1#1) : ∃ r : ℝ, a = (r : EReal) := by
  refine Cert.Hand.VMath.real_of_abs a ?_
  rw [inf_top] at h
  by_contra hc
  revert h
  simp [Ideal.cmp, hc]

/-- The norm's scale and the router are finite. -/
theorem routed_scale (h : (Cert.Pre_routed.fn (F := Ideal) a0 a1 a2 a3 a4 a5 a6 a7 a8 a9 a10 a11).2.2.2.2.2.1 = fun _ => 1#1) (k : Fin 1024) : ∃ r : ℝ, (a4 (ix1 k) : EReal) = (r : EReal) :=
  real_of_mask _ (congrFun h (ix1 k))
theorem routed_gw (h : (Cert.Pre_routed.fn (F := Ideal) a0 a1 a2 a3 a4 a5 a6 a7 a8 a9 a10 a11).2.2.2.2.2.2.1 = fun _ => 1#1) (k : Fin 1024) (j : Fin 4) : ∃ r : ℝ, (a5 (ix2 k j) : EReal) = (r : EReal) :=
  real_of_mask _ (congrFun h (ix2 k j))
theorem routed_gb (h : (Cert.Pre_routed.fn (F := Ideal) a0 a1 a2 a3 a4 a5 a6 a7 a8 a9 a10 a11).2.2.2.2.2.2.2.1 = fun _ => 1#1) (j : Fin 4) : ∃ r : ℝ, (a6 (ix1 j) : EReal) = (r : EReal) :=
  real_of_mask _ (congrFun h (ix1 j))
theorem routed_ew (h : (Cert.Pre_routed.fn (F := Ideal) a0 a1 a2 a3 a4 a5 a6 a7 a8 a9 a10 a11).2.2.2.2.2.2.2.2.1 = fun _ => 1#1) (k : Fin 1024) (j : Fin 16) : ∃ r : ℝ, (a7 (ix2 k j) : EReal) = (r : EReal) :=
  real_of_mask _ (congrFun h (ix2 k j))
theorem routed_eb (h : (Cert.Pre_routed.fn (F := Ideal) a0 a1 a2 a3 a4 a5 a6 a7 a8 a9 a10 a11).2.2.2.2.2.2.2.2.2 = fun _ => 1#1) (j : Fin 16) : ∃ r : ℝ, (a8 (ix1 j) : EReal) = (r : EReal) :=
  real_of_mask _ (congrFun h (ix1 j))

end Cert.KernelIdeal.Hand

end
-- ==== Proof.Value.lean ====
/-
  A token's row: what the tile of its slot writes is what the reference computes.
-/
module

public import proofs.«01_k».proof.Proof.VWin
public import proofs.«01_k».proof.Proof.VPre

@[expose] public section

noncomputable section

namespace Cert.KernelIdeal.Hand

open Cert.KernelIdeal Cert.KernelIdeal.Gen
open Cert.ReferenceIdeal.Hand (gOf eLo eHi glog elog ew eprj)
open Cert.ReferenceIdeal.Read (val_main_v3 val_main_v6 val_main_v10 val_main_v41 val_main_v92 val_main_v94)
open Idealize.ShloMosaic Idealize.ShloMosaic.TcCoe

variable (m : (ℓ : Loc nD τ sig) → Buf (Elt Ideal) ℓ)

abbrev y0 : S256.Idx → BitVec 32 := m (0, main_arg0)
abbrev y2 : S39424.Idx → BitVec 32 := m (0, main_arg2)
abbrev y3 : S311296x128.Idx → EReal := m (0, main_arg3)
abbrev y4 : S1024.Idx → EReal := m (0, main_arg4)
abbrev y5 : S1024x4.Idx → EReal := m (0, main_arg5)
abbrev y6 : S4.Idx → EReal := m (0, main_arg6)
abbrev y7 : S1024x16.Idx → EReal := m (0, main_arg7)
abbrev y8 : S16.Idx → EReal := m (0, main_arg8)
abbrev y9 : S16x1024x256.Idx → EReal := m (0, main_arg9)
abbrev y10 : S16x1024x256.Idx → EReal := m (0, main_arg10)
abbrev y11 : S16x256x1024.Idx → EReal := m (0, main_arg11)

/-- The norm's scale and the router are finite. -/
structure Fin8 : Prop where
  f4 : ∀ k, ∃ r : ℝ, y4 m (ix1 k) = (r : EReal)
  f5 : ∀ k j, ∃ r : ℝ, y5 m (ix2 k j) = (r : EReal)
  f6 : ∀ j, ∃ r : ℝ, y6 m (ix1 j) = (r : EReal)
  f7 : ∀ k j, ∃ r : ℝ, y7 m (ix2 k j) = (r : EReal)
  f8 : ∀ j, ∃ r : ℝ, y8 m (ix1 j) = (r : EReal)

/-- The weight of the expert at lane `8 + e`, where the logits are reals: the product of the reference's two softmaxes. -/
theorem wgt_real (L : Fin 128 → EReal) (G : Fin 4 → EReal) (g : Fin 4) (p q : Fin 128) (v w : EReal)
    (hG : ∀ j : Fin 4, L (Fin.castLE (by omega) j) = G j) (hp : L p = v) (hq : L q = w)
    (rG : ∀ j, ∃ r : ℝ, G j = (r : EReal)) (rv : ∃ r : ℝ, v = (r : EReal)) (rw' : ∃ r : ℝ, w = (r : EReal)) :
    wgt L (Fin.castLE (by omega) g) p q
      = Ideal.div (Ideal.exp v) (Ideal.exp v + Ideal.exp w) * Ideal.div (Ideal.exp (G g)) (∑ j, Ideal.exp (G j)) := by
  choose l hl using rG
  obtain ⟨v', rfl⟩ := rv
  obtain ⟨w', rfl⟩ := rw'
  unfold wgt
  simp only [hG, hp, hq, hl]
  exact Cert.Hand.VMath.weight l g v' w'

section
variable (hg : Good m) (t : Fin (cfgM m hg).N) (h : Fin 1024 → EReal)

theorem lgt_group (j : Fin 4) : lgt h (B3 m hg t) (B4 m hg t) (Fin.castLE (by omega) j) = glog (y5 m) (y6 m) h j := by
  unfold lgt glog
  have e : ∀ k, (B3 m hg t (ix2 k (Fin.castLE (by omega) j)) : EReal) = y5 m (ix2 k j) := fun k => (B3_at m hg t k _).trans (V_wr_group m 0 k j)
  have e' : (B4 m hg t (ix2 (0 : Fin 1) (Fin.castLE (by omega) j)) : EReal) = y6 m (ix1 j) := (B4_at m hg t 0 _).trans (V_br_group m 0 j)
  rw [e']
  exact congrArg (· + _) (Finset.sum_congr rfl fun k _ => by rw [e])

theorem lgt_expert (j : Fin 16) (l : Fin 128) (hl : l.val = 8 + j.val) : lgt h (B3 m hg t) (B4 m hg t) l = elog (y7 m) (y8 m) h j := by
  unfold lgt elog
  have e : ∀ k, (B3 m hg t (ix2 k l) : EReal) = y7 m (ix2 k j) := fun k => (B3_at m hg t k _).trans (V_wr_expert m 0 k j l hl)
  have e' : (B4 m hg t (ix2 (0 : Fin 1) l) : EReal) = y8 m (ix1 j) := (B4_at m hg t 0 _).trans (V_br_expert m 0 j l hl)
  rw [e']
  exact congrArg (· + _) (Finset.sum_congr rfl fun k _ => by rw [e])

variable (n : Fin 24) (hn : tbM m (tix (grid0.coords t)) = BitVec.ofNat 32 n.val)
include hn

theorem prj5 (f : Fin 256) : prj h (B5 m hg t) f = eprj h (y9 m) (eLo n) f :=
  Finset.sum_congr rfl fun k _ => congrArg (h k * ·) ((B5_at m hg t n hn k f).trans (V_gate m 0 _ k f))
theorem prj6 (f : Fin 256) : prj h (B6 m hg t) f = eprj h (y10 m) (eLo n) f :=
  Finset.sum_congr rfl fun k _ => congrArg (h k * ·) ((B6_at m hg t n hn k f).trans (V_up m 0 _ k f))
theorem prj8 (f : Fin 256) : prj h (B8 m hg t) f = eprj h (y9 m) (eHi n) f :=
  Finset.sum_congr rfl fun k _ => congrArg (h k * ·) ((B8_at m hg t n hn k f).trans (V_gate m 0 _ k f))
theorem prj9 (f : Fin 256) : prj h (B9 m hg t) f = eprj h (y10 m) (eHi n) f :=
  Finset.sum_congr rfl fun k _ => congrArg (h k * ·) ((B9_at m hg t n hn k f).trans (V_up m 0 _ k f))
theorem down7 (f : Fin 256) (d : Fin 1024) : (B7 m hg t (ix3 (0 : Fin 1) f d) : EReal) = y11 m (ix3 (eLo n) f d) :=
  (B7_at m hg t n hn f d).trans (V_down m 0 _ f d)
theorem down10 (f : Fin 256) (d : Fin 1024) : (B10 m hg t (ix3 (0 : Fin 1) f d) : EReal) = y11 m (ix3 (eHi n) f d) :=
  (B10_at m hg t n hn f d).trans (V_down m 0 _ f d)
end

/-- The row that the tile of slot `s` computes for the token looked up there is the reference's. -/
theorem tile_row (hg : Good m) (hf : Fin8 m) (q : Fin 32768) (s : ℕ) (hs : s < 256 * cntM m)
    (e : (val_main_v3 (F := Ideal) (y2 m) (ix1 q)).toNat = s) (d : Fin 1024) :
    (Ym m hg (s / 256) (ix2 (⟨s % 256, Nat.mod_lt _ (by omega)⟩ : Fin 256) d) : EReal)
      = val_main_v92 (F := Ideal) (y0 m) (y2 m) (y3 m) (y4 m) (y5 m) (y6 m) (y7 m) (y8 m) (y9 m) (y10 m) (y11 m) (ix2 q d) := by
  have hle := hg.le
  have hs' : s < 38912 := by omega
  have hbc : s / 256 < cntM m := by omega
  have hN : grid0.N = 152 := by decide +kernel
  obtain ⟨t, ht⟩ : ∃ t : Fin (cfgM m hg).N, (grid0.coords t 0).val = s / 256 :=
    ⟨⟨s / 256, by show s / 256 < grid0.N; omega⟩, coords_val _⟩
  have eN : cntM m = ((m (0, main_arg1) : S1.Idx → BitVec 32) (ix1 (0 : Fin 1))).toNat := by
    have e : nuM m = (m (0, main_arg1) : S1.Idx → BitVec 32) := V_arg m 0 main_arg1 (by simp)
    unfold cntM; rw [e]; rfl
  -- the tile's bucket
  have hbk : tbM m (tix (grid0.coords t)) = y0 m (ix1 (⟨s / 256, by omega⟩ : Fin 256)) := by
    refine (V_tb m 0 (cntM m) hg.one hg.le eN.symm (⟨(grid0.coords t 0).val, by omega⟩ : Fin 256)).trans ?_
    have h3 : min (grid0.coords t 0).val (cntM m - 1) = s / 256 := by omega
    exact congrArg (fun a => y0 m (ix1 a)) (Fin.ext h3)
  have hlt : (tbM m (tix (grid0.coords t))).toNat < 24 := hg.tb _
  obtain ⟨n, hn⟩ : ∃ n : Fin 24, tbM m (tix (grid0.coords t)) = BitVec.ofNat 32 n.val := ⟨⟨_, hlt⟩, by simp⟩
  have hb : val_main_v10 (F := Ideal) (y0 m) (y2 m) (ix1 q) = BitVec.ofNat 32 n.val :=
    (Cert.ReferenceIdeal.Hand.bucket_at (y0 m) (y2 m) q s hs' e).trans (hbk.symm.trans hn)
  -- the row and its norm
  have hx : ∀ k : Fin 1024, trow (B1 m hg t) (⟨s % 256, Nat.mod_lt _ (by omega)⟩ : Fin 256) k = val_main_v6 (F := Ideal) (y2 m) (y3 m) (ix2 q k) := fun k => by
    have hk := k.isLt
    rw [Cert.ReferenceIdeal.Hand.x_at (y2 m) (y3 m) q s hs' e k]
    unfold trow
    refine (B1_at m hg t (by omega) _ _).trans (congrArg (y3 m) ?_)
    have h3 : 2048 * (grid0.coords t 0).val + (8 * (s % 256) + k.val / 128) = 8 * s + k.val / 128 := by omega
    exact Cert.ReferenceIdeal.Hand.two_ext _ _ _ h3 rfl
  have h2 : ∀ k, (B2 m hg t (ix2 (0 : Fin 1) k) : EReal) = y4 m (ix1 k) := fun k => (B2_at m hg t 0 k).trans (V_norm m 0 k)
  obtain ⟨h, hh⟩ : ∃ h, h = rms (trow (B1 m hg t) (⟨s % 256, Nat.mod_lt _ (by omega)⟩ : Fin 256)) (fun k => B2 m hg t (ix2 (0 : Fin 1) k)) := ⟨_, rfl⟩
  have hh2 : h = rms (fun k => val_main_v6 (F := Ideal) (y2 m) (y3 m) (ix2 q k)) (fun k => y4 m (ix1 k)) := by
    rw [hh, show trow (B1 m hg t) (⟨s % 256, Nat.mod_lt _ (by omega)⟩ : Fin 256) = _ from funext hx, show (fun k => (B2 m hg t (ix2 (0 : Fin 1) k) : EReal)) = _ from funext h2]
  have hr : ∀ k, val_main_v41 (F := Ideal) (y2 m) (y3 m) (y4 m) (ix2 q k) = h k := fun k => by
    rw [hh2]; exact Cert.ReferenceIdeal.Hand.h_at (y2 m) (y3 m) (y4 m) q k
  have hreal : ∀ k, ∃ r : ℝ, h k = (r : EReal) := fun k => by
    obtain ⟨r, h⟩ := Cert.Hand.VMath.norm_real (fun k => val_main_v6 (F := Ideal) (y2 m) (y3 m) (ix2 q k)) (fun k => y4 m (ix1 k)) hf.f4
    rw [hh2]; exact ⟨r k, h k⟩
  have rg : ∀ j, ∃ r : ℝ, glog (y5 m) (y6 m) h j = (r : EReal) := fun j => Cert.Hand.VMath.lin_real h _ _ hreal (fun k => hf.f5 k j) (hf.f6 j)
  have re : ∀ j, ∃ r : ℝ, elog (y7 m) (y8 m) h j = (r : EReal) := fun j => Cert.Hand.VMath.lin_real h _ _ hreal (fun k => hf.f7 k j) (hf.f8 j)
  -- the lanes of its experts, and the weights
  have hlo := (eLo n).isLt
  have hhi := (eHi n).isLt
  have w1 := wgt_real (lgt h (B3 m hg t) (B4 m hg t)) _ (gOf n) (⟨8 + (eLo n).val, by omega⟩ : Fin 128) (⟨8 + (eHi n).val, by omega⟩ : Fin 128) _ _
    (lgt_group m hg t h) (lgt_expert m hg t h (eLo n) _ rfl) (lgt_expert m hg t h (eHi n) _ rfl) rg (re _) (re _)
  have w2 := wgt_real (lgt h (B3 m hg t) (B4 m hg t)) _ (gOf n) (⟨8 + (eHi n).val, by omega⟩ : Fin 128) (⟨8 + (eLo n).val, by omega⟩ : Fin 128) _ _
    (lgt_group m hg t h) (lgt_expert m hg t h (eHi n) _ rfl) (lgt_expert m hg t h (eLo n) _ rfl) rg (re _) (re _)
  rw [Cert.ReferenceIdeal.Hand.y_at (y0 m) (y2 m) (y3 m) (y4 m) (y5 m) (y6 m) (y7 m) (y8 m) (y9 m) (y10 m) (y11 m) q n hb h hr d, ← hx d, ← ht, Ym_at m hg t]
  refine (tileY_at _ (B1 m hg t) (B2 m hg t) (B3 m hg t) (B4 m hg t) (B5 m hg t) (B6 m hg t) (B7 m hg t) (B8 m hg t) (B9 m hg t) (B10 m hg t)
    (Fin.castLE (by omega) (gOf n)) (⟨8 + (eLo n).val, by omega⟩ : Fin 128) (⟨8 + (eHi n).val, by omega⟩ : Fin 128)
    (by rw [hn]; exact grp_word n) (by rw [hn]; exact lo_word n) (by rw [hn]; exact hi_word n) _ d h hh).trans ?_
  rw [w1, w2]
  simp only [prj5 m hg t h n hn, prj6 m hg t h n hn, prj8 m hg t h n hn, prj9 m hg t h n hn, down7 m hg t n hn, down10 m hg t n hn]
  rfl

/-- Every row of the result that is a token's is the reference's. -/
theorem out_row (hg : Good m) (hf : Fin8 m)
    (hslot : ∀ q : Fin 32768, (val_main_v3 (F := Ideal) (y2 m) (ix1 q)).toNat < 256 * cntM m)
    (hback : ∀ (q : Fin 32768) (s : ℕ) (hs : s < 38912), (val_main_v3 (F := Ideal) (y2 m) (ix1 q)).toNat = s → y2 m (ix1 (⟨s, by omega⟩ : Fin 39424)) = BitVec.ofNat 32 q.val)
    (g : S266240x128.Idx → EReal) (h : gOk (ivM m) (Ym m hg) (cntM m) g) (x : S266240x128.Idx) (hx : (x 0).val < 262144) :
    g x = val_main_v94 (F := Ideal) (y0 m) (y2 m) (y3 m) (y4 m) (y5 m) (y6 m) (y7 m) (y8 m) (y9 m) (y10 m) (y11 m) x := by
  have hle := hg.le
  have hc : (x 1).val < 128 := (x 1).isLt
  obtain ⟨q, hq⟩ : ∃ q : Fin 32768, q.val = (x 0).val / 8 := ⟨⟨(x 0).val / 8, by omega⟩, rfl⟩
  obtain ⟨s, e⟩ : ∃ s, (val_main_v3 (F := Ideal) (y2 m) (ix1 q)).toNat = s := ⟨_, rfl⟩
  have hs : s < 256 * cntM m := e ▸ hslot q
  have hs' : s < 38912 := by omega
  have hd : dstOf (ivM m) (s / 256) (s % 256) = q.val := by
    unfold dstOf ivM ivOf
    rw [show 256 * (s / 256) + s % 256 = s by omega, dif_pos (by omega : s < 39424)]
    have hb := hback q s hs' e
    have hq' := q.isLt
    refine (congrArg BitVec.toNat hb).trans ?_
    rw [BitVec.toNat_ofNat]
    omega
  have hk := h (s / 256) (by omega) (s % 256) (Nat.mod_lt _ (by omega)) (by rw [hd]; exact q.isLt) x
    (Finset.mem_filter.mpr ⟨Finset.mem_univ _, by rw [hd]; exact hq.symm⟩)
  have hx2 : x = ix2 (⟨(x 0).val, by omega⟩ : Fin 266240) (⟨(x 1).val, hc⟩ : Fin 128) := funext fun a => by
    match a with
    | ⟨0, _⟩ => rfl
    | ⟨1, _⟩ => rfl
  rw [hk]
  refine Eq.trans ?_ (congrArg (val_main_v94 (F := Ideal) (y0 m) (y2 m) (y3 m) (y4 m) (y5 m) (y6 m) (y7 m) (y8 m) (y9 m) (y10 m) (y11 m)) hx2.symm)
  refine Eq.trans ?_ (Cert.ReferenceIdeal.Hand.out_at (y0 m) (y2 m) (y3 m) (y4 m) (y5 m) (y6 m) (y7 m) (y8 m) (y9 m) (y10 m) (y11 m) _ _ hx).symm
  unfold rowVal
  have e0 : (⟨(x 0).val / 8, by omega⟩ : Fin 32768) = q := Fin.ext hq.symm
  have e1 : (⟨(128 * ((x 0).val % 8) + (x 1).val) % 1024, Nat.mod_lt _ (by omega)⟩ : Fin 1024) = ⟨(x 0).val % 8 * 128 + (x 1).val, by omega⟩ := Fin.ext (by
    show (128 * ((x 0).val % 8) + (x 1).val) % 1024 = (x 0).val % 8 * 128 + (x 1).val
    omega)
  have e2 : (⟨s % 256 % 256, Nat.mod_lt _ (by omega)⟩ : Fin 256) = ⟨s % 256, Nat.mod_lt _ (by omega)⟩ := Fin.ext (Nat.mod_mod _ _)
  rw [e1, e2]
  show _ = val_main_v92 (F := Ideal) _ _ _ _ _ _ _ _ _ _ _ (ix2 (⟨(x 0).val / 8, by omega⟩ : Fin 32768) _)
  rw [e0]
  exact tile_row m hg hf q s hs e _

end Cert.KernelIdeal.Hand

end
-- ==== Proof.lean ====
module

public import proofs.«01_k».proof.Defs
public import Idealize.ShloMosaic.Lib.Claim
public import proofs.«01_k».proof.Proof.Gen.Kernel
public import proofs.«01_k».proof.Proof.Gen.KernelIdeal
public import proofs.«01_k».proof.Proof.Gen.Pre_layout_ok
public import proofs.«01_k».proof.Proof.Gen.Pre_routed
public import proofs.«01_k».proof.Proof.Gen.On_token_rows
public import proofs.«01_k».proof.Proof.Gen.ReferenceIdeal
public import proofs.«01_k».proof.Proof.Frame
public import proofs.«01_k».proof.Proof.Value
public import proofs.«01_k».proof.Proof.Gen.ReferenceIdeal.Run
public import proofs.«01_k».proof.Proof.Gen.ReferenceIdeal.Read

@[expose] public section

namespace Cert.Proof

open Idealize.ShloMosaic Idealize.ShloMosaic.TcCoe Idealize.SL.Sem

/-- The printed kernel's frame is the idealized kernel's, read at the bits: the two programs are one. -/
theorem same_kernel : Cert.quiescent_Kernel (hKernel := Cert.Kernel.Gen.facts) (hPre_layout_ok := Cert.Pre_layout_ok.Gen.facts)
    = (∀ m g, Cert.KernelIdeal.Hand.Layout (F := Bits) m → Cert.KernelIdeal.Hand.Framed (F := Bits) m g) := by sl_kernel_rfl

/-- The kernel as printed: under `layout_ok` it runs, keeps its arguments and ends quiescent. -/
theorem frame_kernel : Cert.quiescent_Kernel (hKernel := Cert.Kernel.Gen.facts) (hPre_layout_ok := Cert.Pre_layout_ok.Gen.facts) :=
  same_kernel.mpr fun m ρ h => Cert.KernelIdeal.Hand.framed_of_layout (F := Bits) m ρ h

/-- The idealized kernel likewise. -/
theorem frame_kernel_ideal : Cert.quiescent_KernelIdeal (hKernelIdeal := Cert.KernelIdeal.Gen.facts) (hPre_layout_ok := Cert.Pre_layout_ok.Gen.facts) :=
  fun m ρ h => Cert.KernelIdeal.Hand.framed_of_layout (F := Ideal) m ρ h

/-- `routed` says all that `layout_ok` says. -/
theorem layout_of_routed (m : (ℓ : Loc Cert.KernelIdeal.nD Cert.KernelIdeal.τ Cert.KernelIdeal.sig) → Buf (Elt Ideal) ℓ)
    (h : Cert.Pre_KernelIdeal_routed (hPre_routed := Cert.Pre_routed.Gen.facts) m) : Cert.KernelIdeal.Hand.Layout (F := Ideal) m :=
  fun c => ⟨Cert.KernelIdeal.Hand.routed_used.trans (h c).1, Cert.KernelIdeal.Hand.routed_slots.trans (h c).2.1, Cert.KernelIdeal.Hand.routed_tb.trans (h c).2.2.1⟩

/-- The idealized kernel's frame under `routed`. -/
theorem frame_kernel_routed : Cert.quiescent_KernelIdeal_pre_routed (hKernelIdeal := Cert.KernelIdeal.Gen.facts) (hPre_routed := Cert.Pre_routed.Gen.facts) :=
  fun m ρ h => Cert.KernelIdeal.Hand.framed_of_layout (F := Ideal) m ρ (layout_of_routed m h)

/-- The reference runs, keeps its arguments, and has no counter that could end above zero. -/
theorem frame_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩) (Cert.ReferenceIdeal.Value.run m ρ)

/-- A row of the mask `token_rows` is a token's: it is below 262144. -/
theorem row_lt {a0 a1 a2 a3 a4 a5 a6 a7 a8 a9 a10 a11} (i : (⟨2, ![266240, 128]⟩ : Shape).Idx)
    (h : Cert.On_token_rows.fn (F := Ideal) a0 a1 a2 a3 a4 a5 a6 a7 a8 a9 a10 a11 i = 1#1) : (i 0).val < 262144 := by
  have hi : (i 0).val < 266240 := (i 0).isLt
  have h' : IntOp.cmpi .slt (BitVec.ofNat 32 (i 0).val) 262144#32 = 1#1 := h
  have e : (BitVec.ofNat 32 (i 0).val).toNat = (i 0).val := by
    rw [BitVec.toNat_ofNat]; exact Nat.mod_eq_of_lt (by omega)
  have := (StableHlo.Predicate.slt_iff_toNat (by rw [e]; omega) (by decide)).mp h'
  rw [e] at this
  exact this

open Cert.KernelIdeal Cert.KernelIdeal.Hand in
/-- Under `routed`, a run of the kernel leaves in every token's rows the value the reference's term has there. -/
theorem kernel_rows (m : (ℓ : Loc nD τ sig) → Buf (Elt Ideal) ℓ) (ρ : Dev nD → PrngReg)
    (h : Cert.Pre_KernelIdeal_routed (hPre_routed := Cert.Pre_routed.Gen.facts) m) :
    θ_run (defs (F := Ideal)) (onTc (τ := τ) (main (F := Ideal))) ⟨m, fun _ => 0, ρ⟩ (fun r => ∀ i : S266240x128.Idx, (i 0).val < 262144 →
      (r.2.mem ((0 : Dev nD).tc.loc main_v33) : S266240x128.Idx → EReal) i
        = Cert.ReferenceIdeal.Read.val_main_v94 (F := Ideal) (y0 m) (y2 m) (y3 m) (y4 m) (y5 m) (y6 m) (y7 m) (y8 m) (y9 m) (y10 m) (y11 m) i) := by
  have h0 := h 0
  have hl := layout_of_routed m h 0
  have hg := good_of_layout m hl.1 hl.2.1 hl.2.2
  have e : nuM m = (m (0, main_arg1) : S1.Idx → BitVec 32) := V_arg m 0 main_arg1 (by simp)
  have en : cntM m = ((m (0, main_arg1) : S1.Idx → BitVec 32) (ValueIdx.ix1 (0 : Fin 1))).toNat := by unfold cntM; rw [e]
  have hf : Fin8 m := ⟨routed_scale h0.2.2.2.2.2.1, routed_gw h0.2.2.2.2.2.2.1, routed_gb h0.2.2.2.2.2.2.2.1, routed_ew h0.2.2.2.2.2.2.2.2.1, routed_eb h0.2.2.2.2.2.2.2.2.2⟩
  refine (θ_run defs _ _).mono (fun r hr i hi => ?_) (run_main m ρ hg)
  obtain ⟨W, hW, hm⟩ := hr.1.2 0
  have hv := hm main_v33 (by decide)
  rw [hv]
  refine out_row m hg hf (fun q => ?_) (fun q s hs hq => ?_) (W main_v33) hW i hi
  · rw [en]
    exact routed_slot h0.2.2.2.1 (by rw [← en]; exact hg.le) q
  · exact routed_back h0.2.2.2.2.1 q s hs hq

/-- Under `routed` and on the tokens' rows, the idealized kernel and the idealized reference end with one result. -/
theorem algebraic : Cert.algebraic_KernelIdeal_ReferenceIdeal_on_token_rows_pre_routed (hKernelIdeal := Cert.KernelIdeal.Gen.facts)
    (hReferenceIdeal := Cert.ReferenceIdeal.Gen.facts) (hPre_routed := Cert.Pre_routed.Gen.facts) (hOn_token_rows := Cert.On_token_rows.Gen.facts) := by
  intro m ρ m' ρ' h hm
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run _ _ _).mono (fun r hr c => ⟨fun i hi => ?_, hr.1.1 c⟩) (θ_run_and (frame_kernel_routed m ρ h) (kernel_rows m ρ h))
    obtain rfl : c = 0 := Subsingleton.elim _ _
    exact hr.2 i (row_lt i hi)
  · refine (θ_run _ _ _).mono (fun r hr c => ⟨fun i _ => ?_, (hr c).2⟩) (Cert.ReferenceIdeal.Value.run m' ρ')
    obtain ⟨h0, h1, h2, h3, h4, h5, h6, h7, h8, h9, h10, h11⟩ := hm c
    have e := ((hr c).1.trans (Cert.ReferenceIdeal.Read.val_main_v94_eq m' c))
    rw [h0, h2, h3, h4, h5, h6, h7, h8, h9, h10, h11] at e
    exact congrFun e i

/-- The claim: kernel, idealized kernel and reference run, keep their arguments and end quiescent; the kernel is its
    idealization's text; and on the tokens' rows the idealized kernel computes the reference. -/
theorem claim : Cert.Claim :=
  ⟨Cert.Kernel.Gen.facts, Cert.KernelIdeal.Gen.facts, Cert.ReferenceIdeal.Gen.facts, Cert.Pre_layout_ok.Gen.facts, Cert.Pre_routed.Gen.facts, Cert.On_token_rows.Gen.facts,
    frame_kernel, frame_kernel_ideal, frame_kernel_routed, frame_reference, fun m ρ _ => frame_reference m ρ trivial, trivial, algebraic⟩

end Cert.Proof
